-- ==== Defs.lean ====
def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_finite_inputs [hPre_finite_inputs : Cert.Pre_finite_inputs.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_finite_inputs.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4)) (m ((c.tc : Thread Cert.GlaSampleIdeal.nD Cert.GlaSampleIdeal.τ).loc Cert.GlaSampleIdeal.main_arg5)) (m ((c.tc : Thread Cert.GlaSampleIdeal.nD Cert.GlaSampleIdeal.τ).loc Cert.GlaSampleIdeal.main_arg6))) = (fun _ => 1#1)

def Pre_GlaSampleRefIdeal (m : (ℓ : Loc Cert.GlaSampleRefIdeal.nD Cert.GlaSampleRefIdeal.τ Cert.GlaSampleRefIdeal.sig) → Buf (Elt Ideal) ℓ) : Prop :=
  True

def Pre_GlaSampleRefIdeal_finite_inputs [hPre_finite_inputs : Cert.Pre_finite_inputs.Facts] (m : (ℓ : Loc Cert.GlaSampleRefIdeal.nD Cert.GlaSampleRefIdeal.τ Cert.GlaSampleRefIdeal.sig) → Buf (Elt Ideal) ℓ) : Prop :=
  ∀ c : Dev Cert.GlaSampleRefIdeal.nD,
    (Cert.Pre_finite_inputs.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3)) (m ((c.tc : Thread Cert.GlaSampleRefIdeal.nD Cert.GlaSampleRefIdeal.τ).loc Cert.GlaSampleRefIdeal.main_arg4)) (m ((c.tc : Thread Cert.GlaSampleRefIdeal.nD Cert.GlaSampleRefIdeal.τ).loc Cert.GlaSampleRefIdeal.main_arg5)) (m ((c.tc : Thread Cert.GlaSampleRefIdeal.nD Cert.GlaSampleRefIdeal.τ).loc Cert.GlaSampleRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_CombineS (m : (ℓ : Loc Cert.CombineS.nD Cert.CombineS.τ Cert.CombineS.sig) → Buf (Elt Bits) ℓ) : Prop :=
  True

def Pre_CombineSIdeal (m : (ℓ : Loc Cert.CombineSIdeal.nD Cert.CombineSIdeal.τ Cert.CombineSIdeal.sig) → Buf (Elt Ideal) ℓ) : Prop :=
  True

def Pre_CombineSRefIdeal (m : (ℓ : Loc Cert.CombineSRefIdeal.nD Cert.CombineSRefIdeal.τ Cert.CombineSRefIdeal.sig) → Buf (Elt Ideal) ℓ) : Prop :=
  True

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_tables [hPre_expert_tables : Cert.Pre_expert_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4)
      ∧ r.2.mem ((c.tc : Thread Cert.GlaSample.nD Cert.GlaSample.τ).loc Cert.GlaSample.main_arg5) = m ((c.tc : Thread Cert.GlaSample.nD Cert.GlaSample.τ).loc Cert.GlaSample.main_arg5)
      ∧ r.2.mem ((c.tc : Thread Cert.GlaSample.nD Cert.GlaSample.τ).loc Cert.GlaSample.main_arg6) = m ((c.tc : Thread Cert.GlaSample.nD Cert.GlaSample.τ).loc Cert.GlaSample.main_arg6))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
      ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
      ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6))
      ∧ r.2.sem = fun _ => 0)

def quiescent_GlaSampleIdeal_pre_finite_inputs [hGlaSampleIdeal : Cert.GlaSampleIdeal.Facts] [hPre_finite_inputs : Cert.Pre_finite_inputs.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_finite_inputs m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
      ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
      ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4)
      ∧ r.2.mem ((c.tc : Thread Cert.GlaSampleRefIdeal.nD Cert.GlaSampleRefIdeal.τ).loc Cert.GlaSampleRefIdeal.main_arg5) = m ((c.tc : Thread Cert.GlaSampleRefIdeal.nD Cert.GlaSampleRefIdeal.τ).loc Cert.GlaSampleRefIdeal.main_arg5)
      ∧ r.2.mem ((c.tc : Thread Cert.GlaSampleRefIdeal.nD Cert.GlaSampleRefIdeal.τ).loc Cert.GlaSampleRefIdeal.main_arg6) = m ((c.tc : Thread Cert.GlaSampleRefIdeal.nD Cert.GlaSampleRefIdeal.τ).loc Cert.GlaSampleRefIdeal.main_arg6))
      ∧ r.2.sem = fun _ => 0)

def quiescent_GlaSampleRefIdeal_pre_finite_inputs [hGlaSampleRefIdeal : Cert.GlaSampleRefIdeal.Facts] [hPre_finite_inputs : Cert.Pre_finite_inputs.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal_finite_inputs m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4)
      ∧ r.2.mem ((c.tc : Thread Cert.GlaSampleRefIdeal.nD Cert.GlaSampleRefIdeal.τ).loc Cert.GlaSampleRefIdeal.main_arg5) = m ((c.tc : Thread Cert.GlaSampleRefIdeal.nD Cert.GlaSampleRefIdeal.τ).loc Cert.GlaSampleRefIdeal.main_arg5)
      ∧ r.2.mem ((c.tc : Thread Cert.GlaSampleRefIdeal.nD Cert.GlaSampleRefIdeal.τ).loc Cert.GlaSampleRefIdeal.main_arg6) = m ((c.tc : Thread Cert.GlaSampleRefIdeal.nD Cert.GlaSampleRefIdeal.τ).loc Cert.GlaSampleRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_CombineS [hCombineS : Cert.CombineS.Facts] : Prop :=
  ∀ (m : (ℓ : Loc Cert.CombineS.nD Cert.CombineS.τ Cert.CombineS.sig) → Buf (Elt Bits) ℓ) (g : Dev Cert.CombineS.nD → PrngReg), Pre_CombineS m →
    θ_run (Cert.CombineS.defs (F := Bits)) (onTc (τ := Cert.CombineS.τ) (Cert.CombineS.main (F := Bits))) ⟨m, fun _ => 0, g⟩ (fun r => (∀ c : Dev Cert.CombineS.nD,
      r.2.mem ((c.tc : Thread Cert.CombineS.nD Cert.CombineS.τ).loc Cert.CombineS.main_arg0) = m ((c.tc : Thread Cert.CombineS.nD Cert.CombineS.τ).loc Cert.CombineS.main_arg0)
      ∧ r.2.mem ((c.tc : Thread Cert.CombineS.nD Cert.CombineS.τ).loc Cert.CombineS.main_arg1) = m ((c.tc : Thread Cert.CombineS.nD Cert.CombineS.τ).loc Cert.CombineS.main_arg1)
      ∧ r.2.mem ((c.tc : Thread Cert.CombineS.nD Cert.CombineS.τ).loc Cert.CombineS.main_arg2) = m ((c.tc : Thread Cert.CombineS.nD Cert.CombineS.τ).loc Cert.CombineS.main_arg2))
      ∧ r.2.sem = fun _ => 0)

def quiescent_CombineSIdeal [hCombineSIdeal : Cert.CombineSIdeal.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2))
      ∧ r.2.sem = fun _ => 0)

def quiescent_CombineSRefIdeal [hCombineSRefIdeal : Cert.CombineSRefIdeal.Facts] : Prop :=
  ∀ (m : (ℓ : Loc Cert.CombineSRefIdeal.nD Cert.CombineSRefIdeal.τ Cert.CombineSRefIdeal.sig) → Buf (Elt Ideal) ℓ) (g : Dev Cert.CombineSRefIdeal.nD → PrngReg), Pre_CombineSRefIdeal m →
    θ_run (Cert.CombineSRefIdeal.defs (F := Ideal)) (onTc (τ := Cert.CombineSRefIdeal.τ) (Cert.CombineSRefIdeal.main (F := Ideal))) ⟨m, fun _ => 0, g⟩ (fun r => (∀ c : Dev Cert.CombineSRefIdeal.nD,
      r.2.mem ((c.tc : Thread Cert.CombineSRefIdeal.nD Cert.CombineSRefIdeal.τ).loc Cert.CombineSRefIdeal.main_arg0) = m ((c.tc : Thread Cert.CombineSRefIdeal.nD Cert.CombineSRefIdeal.τ).loc Cert.CombineSRefIdeal.main_arg0)
      ∧ r.2.mem ((c.tc : Thread Cert.CombineSRefIdeal.nD Cert.CombineSRefIdeal.τ).loc Cert.CombineSRefIdeal.main_arg1) = m ((c.tc : Thread Cert.CombineSRefIdeal.nD Cert.CombineSRefIdeal.τ).loc Cert.CombineSRefIdeal.main_arg1)
      ∧ r.2.mem ((c.tc : Thread Cert.CombineSRefIdeal.nD Cert.CombineSRefIdeal.τ).loc Cert.CombineSRefIdeal.main_arg2) = m ((c.tc : Thread Cert.CombineSRefIdeal.nD Cert.CombineSRefIdeal.τ).loc Cert.CombineSRefIdeal.main_arg2))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_expert_tables [hExpertsRefIdeal : Cert.ExpertsRefIdeal.Facts] [hPre_expert_tables : Cert.Pre_expert_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def preserves_GlaSample_GlaSampleIdeal : Prop :=
  True

def algebraic_GlaSampleIdeal_GlaSampleRefIdeal_pre_finite_inputs [hGlaSampleIdeal : Cert.GlaSampleIdeal.Facts] [hGlaSampleRefIdeal : Cert.GlaSampleRefIdeal.Facts] [hPre_finite_inputs : Cert.Pre_finite_inputs.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal_finite_inputs m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)
      ∧ m' ((c.tc : Thread Cert.GlaSampleRefIdeal.nD Cert.GlaSampleRefIdeal.τ).loc Cert.GlaSampleRefIdeal.main_arg3) = m ((c.tc : Thread Cert.GlaSampleIdeal.nD Cert.GlaSampleIdeal.τ).loc Cert.GlaSampleIdeal.main_arg3)
      ∧ m' ((c.tc : Thread Cert.GlaSampleRefIdeal.nD Cert.GlaSampleRefIdeal.τ).loc Cert.GlaSampleRefIdeal.main_arg4) = m ((c.tc : Thread Cert.GlaSampleIdeal.nD Cert.GlaSampleIdeal.τ).loc Cert.GlaSampleIdeal.main_arg4)
      ∧ m' ((c.tc : Thread Cert.GlaSampleRefIdeal.nD Cert.GlaSampleRefIdeal.τ).loc Cert.GlaSampleRefIdeal.main_arg5) = m ((c.tc : Thread Cert.GlaSampleIdeal.nD Cert.GlaSampleIdeal.τ).loc Cert.GlaSampleIdeal.main_arg5)
      ∧ m' ((c.tc : Thread Cert.GlaSampleRefIdeal.nD Cert.GlaSampleRefIdeal.τ).loc Cert.GlaSampleRefIdeal.main_arg6) = m ((c.tc : Thread Cert.GlaSampleIdeal.nD Cert.GlaSampleIdeal.τ).loc Cert.GlaSampleIdeal.main_arg6)) →
    ∃ (v0 : (c : Dev Cert.GlaSampleIdeal.nD) → Buf (Elt Ideal) ((c.tc : Thread Cert.GlaSampleIdeal.nD Cert.GlaSampleIdeal.τ).loc Cert.GlaSampleIdeal.main_v10_0)) (v1 : (c : Dev Cert.GlaSampleIdeal.nD) → Buf (Elt Ideal) ((c.tc : Thread Cert.GlaSampleIdeal.nD Cert.GlaSampleIdeal.τ).loc Cert.GlaSampleIdeal.main_v10_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v10_0) = v0 c
          ∧ r.2.mem ((c.tc : Thread Cert.GlaSampleIdeal.nD Cert.GlaSampleIdeal.τ).loc Cert.GlaSampleIdeal.main_v10_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
          ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
          ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v74) = v0 c
          ∧ r.2.mem ((c.tc : Thread Cert.GlaSampleRefIdeal.nD Cert.GlaSampleRefIdeal.τ).loc Cert.GlaSampleRefIdeal.main_v47) = v1 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2)
          ∧ r.2.mem ((c.tc : Thread Cert.GlaSampleRefIdeal.nD Cert.GlaSampleRefIdeal.τ).loc Cert.GlaSampleRefIdeal.main_arg3) = m' ((c.tc : Thread Cert.GlaSampleRefIdeal.nD Cert.GlaSampleRefIdeal.τ).loc Cert.GlaSampleRefIdeal.main_arg3)
          ∧ r.2.mem ((c.tc : Thread Cert.GlaSampleRefIdeal.nD Cert.GlaSampleRefIdeal.τ).loc Cert.GlaSampleRefIdeal.main_arg4) = m' ((c.tc : Thread Cert.GlaSampleRefIdeal.nD Cert.GlaSampleRefIdeal.τ).loc Cert.GlaSampleRefIdeal.main_arg4)
          ∧ r.2.mem ((c.tc : Thread Cert.GlaSampleRefIdeal.nD Cert.GlaSampleRefIdeal.τ).loc Cert.GlaSampleRefIdeal.main_arg5) = m' ((c.tc : Thread Cert.GlaSampleRefIdeal.nD Cert.GlaSampleRefIdeal.τ).loc Cert.GlaSampleRefIdeal.main_arg5)
          ∧ r.2.mem ((c.tc : Thread Cert.GlaSampleRefIdeal.nD Cert.GlaSampleRefIdeal.τ).loc Cert.GlaSampleRefIdeal.main_arg6) = m' ((c.tc : Thread Cert.GlaSampleRefIdeal.nD Cert.GlaSampleRefIdeal.τ).loc Cert.GlaSampleRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v37_0)) (v1 : (c : Dev Cert.ProjIdeal.nD) → Buf (Elt Ideal) ((c.tc : Thread Cert.ProjIdeal.nD Cert.ProjIdeal.τ).loc Cert.ProjIdeal.main_v37_1)) (v2 : (c : Dev Cert.ProjIdeal.nD) → Buf (Elt Ideal) ((c.tc : Thread Cert.ProjIdeal.nD Cert.ProjIdeal.τ).loc Cert.ProjIdeal.main_v37_2)) (v3 : (c : Dev Cert.ProjIdeal.nD) → Buf (Elt Ideal) ((c.tc : Thread Cert.ProjIdeal.nD Cert.ProjIdeal.τ).loc Cert.ProjIdeal.main_v37_3)) (v4 : (c : Dev Cert.ProjIdeal.nD) → Buf (Elt Ideal) ((c.tc : Thread Cert.ProjIdeal.nD Cert.ProjIdeal.τ).loc Cert.ProjIdeal.main_v37_4)) (v5 : (c : Dev Cert.ProjIdeal.nD) → Buf (Elt Ideal) ((c.tc : Thread Cert.ProjIdeal.nD Cert.ProjIdeal.τ).loc Cert.ProjIdeal.main_v37_5)) (v6 : (c : Dev Cert.ProjIdeal.nD) → Buf (Elt Ideal) ((c.tc : Thread Cert.ProjIdeal.nD Cert.ProjIdeal.τ).loc Cert.ProjIdeal.main_v37_6)) (v7 : (c : Dev Cert.ProjIdeal.nD) → Buf (Elt Ideal) ((c.tc : Thread Cert.ProjIdeal.nD Cert.ProjIdeal.τ).loc Cert.ProjIdeal.main_v37_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v37_0) = v0 c
          ∧ r.2.mem ((c.tc : Thread Cert.ProjIdeal.nD Cert.ProjIdeal.τ).loc Cert.ProjIdeal.main_v37_1) = v1 c
          ∧ r.2.mem ((c.tc : Thread Cert.ProjIdeal.nD Cert.ProjIdeal.τ).loc Cert.ProjIdeal.main_v37_2) = v2 c
          ∧ r.2.mem ((c.tc : Thread Cert.ProjIdeal.nD Cert.ProjIdeal.τ).loc Cert.ProjIdeal.main_v37_3) = v3 c
          ∧ r.2.mem ((c.tc : Thread Cert.ProjIdeal.nD Cert.ProjIdeal.τ).loc Cert.ProjIdeal.main_v37_4) = v4 c
          ∧ r.2.mem ((c.tc : Thread Cert.ProjIdeal.nD Cert.ProjIdeal.τ).loc Cert.ProjIdeal.main_v37_5) = v5 c
          ∧ r.2.mem ((c.tc : Thread Cert.ProjIdeal.nD Cert.ProjIdeal.τ).loc Cert.ProjIdeal.main_v37_6) = v6 c
          ∧ r.2.mem ((c.tc : Thread Cert.ProjIdeal.nD Cert.ProjIdeal.τ).loc Cert.ProjIdeal.main_v37_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v116) = v0 c
          ∧ r.2.mem ((c.tc : Thread Cert.ProjRefIdeal.nD Cert.ProjRefIdeal.τ).loc Cert.ProjRefIdeal.main_v117) = v1 c
          ∧ r.2.mem ((c.tc : Thread Cert.ProjRefIdeal.nD Cert.ProjRefIdeal.τ).loc Cert.ProjRefIdeal.main_v118) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v20) = v4 c
          ∧ r.2.mem ((c.tc : Thread Cert.ProjRefIdeal.nD Cert.ProjRefIdeal.τ).loc Cert.ProjRefIdeal.main_v119) = v5 c
          ∧ r.2.mem ((c.tc : Thread Cert.ProjRefIdeal.nD Cert.ProjRefIdeal.τ).loc Cert.ProjRefIdeal.main_v115) = v6 c
          ∧ r.2.mem ((c.tc : Thread Cert.ProjRefIdeal.nD Cert.ProjRefIdeal.τ).loc Cert.ProjRefIdeal.main_v120) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)) →
    ∃ (v0 : (c : Dev Cert.ProjSIdeal.nD) → Buf (Elt Ideal) ((c.tc : Thread Cert.ProjSIdeal.nD Cert.ProjSIdeal.τ).loc Cert.ProjSIdeal.main_v46_0)) (v1 : (c : Dev Cert.ProjSIdeal.nD) → Buf (Elt Ideal) ((c.tc : Thread Cert.ProjSIdeal.nD Cert.ProjSIdeal.τ).loc Cert.ProjSIdeal.main_v46_1)) (v2 : (c : Dev Cert.ProjSIdeal.nD) → Buf (Elt Ideal) ((c.tc : Thread Cert.ProjSIdeal.nD Cert.ProjSIdeal.τ).loc Cert.ProjSIdeal.main_v46_2)) (v3 : (c : Dev Cert.ProjSIdeal.nD) → Buf (Elt Ideal) ((c.tc : Thread Cert.ProjSIdeal.nD Cert.ProjSIdeal.τ).loc Cert.ProjSIdeal.main_v46_3)) (v4 : (c : Dev Cert.ProjSIdeal.nD) → Buf (Elt Ideal) ((c.tc : Thread Cert.ProjSIdeal.nD Cert.ProjSIdeal.τ).loc Cert.ProjSIdeal.main_v46_4)) (v5 : (c : Dev Cert.ProjSIdeal.nD) → Buf (Elt Ideal) ((c.tc : Thread Cert.ProjSIdeal.nD Cert.ProjSIdeal.τ).loc Cert.ProjSIdeal.main_v46_5)) (v6 : (c : Dev Cert.ProjSIdeal.nD) → Buf (Elt Ideal) ((c.tc : Thread Cert.ProjSIdeal.nD Cert.ProjSIdeal.τ).loc Cert.ProjSIdeal.main_v46_6)) (v7 : (c : Dev Cert.ProjSIdeal.nD) → Buf (Elt Ideal) ((c.tc : Thread Cert.ProjSIdeal.nD Cert.ProjSIdeal.τ).loc Cert.ProjSIdeal.main_v46_7)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v46_0) = v0 c
          ∧ r.2.mem ((c.tc : Thread Cert.ProjSIdeal.nD Cert.ProjSIdeal.τ).loc Cert.ProjSIdeal.main_v46_1) = v1 c
          ∧ r.2.mem ((c.tc : Thread Cert.ProjSIdeal.nD Cert.ProjSIdeal.τ).loc Cert.ProjSIdeal.main_v46_2) = v2 c
          ∧ r.2.mem ((c.tc : Thread Cert.ProjSIdeal.nD Cert.ProjSIdeal.τ).loc Cert.ProjSIdeal.main_v46_3) = v3 c
          ∧ r.2.mem ((c.tc : Thread Cert.ProjSIdeal.nD Cert.ProjSIdeal.τ).loc Cert.ProjSIdeal.main_v46_4) = v4 c
          ∧ r.2.mem ((c.tc : Thread Cert.ProjSIdeal.nD Cert.ProjSIdeal.τ).loc Cert.ProjSIdeal.main_v46_5) = v5 c
          ∧ r.2.mem ((c.tc : Thread Cert.ProjSIdeal.nD Cert.ProjSIdeal.τ).loc Cert.ProjSIdeal.main_v46_6) = v6 c
          ∧ r.2.mem ((c.tc : Thread Cert.ProjSIdeal.nD Cert.ProjSIdeal.τ).loc Cert.ProjSIdeal.main_v46_7) = v7 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v122) = v0 c
          ∧ r.2.mem ((c.tc : Thread Cert.ProjSRefIdeal.nD Cert.ProjSRefIdeal.τ).loc Cert.ProjSRefIdeal.main_v123) = v1 c
          ∧ r.2.mem ((c.tc : Thread Cert.ProjSRefIdeal.nD Cert.ProjSRefIdeal.τ).loc Cert.ProjSRefIdeal.main_v124) = v2 c
          ∧ r.2.mem ((c.tc : Thread Cert.ProjSRefIdeal.nD Cert.ProjSRefIdeal.τ).loc Cert.ProjSRefIdeal.main_v20) = v3 c
          ∧ r.2.mem ((c.tc : Thread Cert.ProjSRefIdeal.nD Cert.ProjSRefIdeal.τ).loc Cert.ProjSRefIdeal.main_v21) = v4 c
          ∧ r.2.mem ((c.tc : Thread Cert.ProjSRefIdeal.nD Cert.ProjSRefIdeal.τ).loc Cert.ProjSRefIdeal.main_v125) = v5 c
          ∧ r.2.mem ((c.tc : Thread Cert.ProjSRefIdeal.nD Cert.ProjSRefIdeal.τ).loc Cert.ProjSRefIdeal.main_v121) = v6 c
          ∧ r.2.mem ((c.tc : Thread Cert.ProjSRefIdeal.nD Cert.ProjSRefIdeal.τ).loc Cert.ProjSRefIdeal.main_v126) = v7 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v22_0)) (v1 : (c : Dev Cert.MergeIdeal.nD) → Buf (Elt Ideal) ((c.tc : Thread Cert.MergeIdeal.nD Cert.MergeIdeal.τ).loc Cert.MergeIdeal.main_v22_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22_0) = v0 c
          ∧ r.2.mem ((c.tc : Thread Cert.MergeIdeal.nD Cert.MergeIdeal.τ).loc Cert.MergeIdeal.main_v22_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v2) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_CombineS_CombineSIdeal : Prop :=
  True

def algebraic_CombineSIdeal_CombineSRefIdeal [hCombineSIdeal : Cert.CombineSIdeal.Facts] [hCombineSRefIdeal : Cert.CombineSRefIdeal.Facts] : Prop :=
  ∀ (m : (ℓ : Loc Cert.CombineSIdeal.nD Cert.CombineSIdeal.τ Cert.CombineSIdeal.sig) → Buf (Elt Ideal) ℓ) (g : Dev Cert.CombineSIdeal.nD → PrngReg)
    (m' : (ℓ : Loc Cert.CombineSRefIdeal.nD Cert.CombineSRefIdeal.τ Cert.CombineSRefIdeal.sig) → Buf (Elt Ideal) ℓ) (g' : Dev Cert.CombineSRefIdeal.nD → PrngReg), Pre_CombineSIdeal m →
    (∀ c : Dev Cert.CombineSIdeal.nD,
      m' ((c.tc : Thread Cert.CombineSRefIdeal.nD Cert.CombineSRefIdeal.τ).loc Cert.CombineSRefIdeal.main_arg0) = m ((c.tc : Thread Cert.CombineSIdeal.nD Cert.CombineSIdeal.τ).loc Cert.CombineSIdeal.main_arg0)
      ∧ m' ((c.tc : Thread Cert.CombineSRefIdeal.nD Cert.CombineSRefIdeal.τ).loc Cert.CombineSRefIdeal.main_arg1) = m ((c.tc : Thread Cert.CombineSIdeal.nD Cert.CombineSIdeal.τ).loc Cert.CombineSIdeal.main_arg1)
      ∧ m' ((c.tc : Thread Cert.CombineSRefIdeal.nD Cert.CombineSRefIdeal.τ).loc Cert.CombineSRefIdeal.main_arg2) = m ((c.tc : Thread Cert.CombineSIdeal.nD Cert.CombineSIdeal.τ).loc Cert.CombineSIdeal.main_arg2)) →
    ∃ (v0 : (c : Dev Cert.CombineSIdeal.nD) → Buf (Elt Ideal) ((c.tc : Thread Cert.CombineSIdeal.nD Cert.CombineSIdeal.τ).loc Cert.CombineSIdeal.main_v0)),
      θ_run (Cert.CombineSIdeal.defs (F := Ideal)) (onTc (τ := Cert.CombineSIdeal.τ) (Cert.CombineSIdeal.main (F := Ideal))) ⟨m, fun _ => 0, g⟩ (fun r => ∀ c : Dev Cert.CombineSIdeal.nD,
          r.2.mem ((c.tc : Thread Cert.CombineSIdeal.nD Cert.CombineSIdeal.τ).loc Cert.CombineSIdeal.main_v0) = v0 c
          ∧ r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
          ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
          ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2))
      ∧ θ_run (Cert.CombineSRefIdeal.defs (F := Ideal)) (onTc (τ := Cert.CombineSRefIdeal.τ) (Cert.CombineSRefIdeal.main (F := Ideal))) ⟨m', fun _ => 0, g'⟩ (fun r => ∀ c : Dev Cert.CombineSRefIdeal.nD,
          r.2.mem ((c.tc : Thread Cert.CombineSRefIdeal.nD Cert.CombineSRefIdeal.τ).loc Cert.CombineSRefIdeal.main_v2) = v0 c
          ∧ r.2.mem ((c.tc : Thread Cert.CombineSRefIdeal.nD Cert.CombineSRefIdeal.τ).loc Cert.CombineSRefIdeal.main_arg0) = m' ((c.tc : Thread Cert.CombineSRefIdeal.nD Cert.CombineSRefIdeal.τ).loc Cert.CombineSRefIdeal.main_arg0)
          ∧ r.2.mem ((c.tc : Thread Cert.CombineSRefIdeal.nD Cert.CombineSRefIdeal.τ).loc Cert.CombineSRefIdeal.main_arg1) = m' ((c.tc : Thread Cert.CombineSRefIdeal.nD Cert.CombineSRefIdeal.τ).loc Cert.CombineSRefIdeal.main_arg1)
          ∧ r.2.mem ((c.tc : Thread Cert.CombineSRefIdeal.nD Cert.CombineSRefIdeal.τ).loc Cert.CombineSRefIdeal.main_arg2) = m' ((c.tc : Thread Cert.CombineSRefIdeal.nD Cert.CombineSRefIdeal.τ).loc Cert.CombineSRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v10)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v10) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v65) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def Claim : Prop :=
  ∃ (hGlaSample : Cert.GlaSample.Facts) (hGlaSampleIdeal : Cert.GlaSampleIdeal.Facts) (hGlaSampleRefIdeal : Cert.GlaSampleRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hCombineS : Cert.CombineS.Facts) (hCombineSIdeal : Cert.CombineSIdeal.Facts) (hCombineSRefIdeal : Cert.CombineSRefIdeal.Facts) (hExperts : Cert.Experts.Facts) (hExpertsIdeal : Cert.ExpertsIdeal.Facts) (hExpertsRefIdeal : Cert.ExpertsRefIdeal.Facts) (hPre_finite_inputs : Cert.Pre_finite_inputs.Facts) (hPre_expert_tables : Cert.Pre_expert_tables.Facts),
    quiescent_GlaSample (hGlaSample := hGlaSample)
    ∧ quiescent_GlaSampleIdeal (hGlaSampleIdeal := hGlaSampleIdeal)
    ∧ quiescent_GlaSampleIdeal_pre_finite_inputs (hGlaSampleIdeal := hGlaSampleIdeal) (hPre_finite_inputs := hPre_finite_inputs)
    ∧ quiescent_GlaSampleRefIdeal (hGlaSampleRefIdeal := hGlaSampleRefIdeal)
    ∧ quiescent_GlaSampleRefIdeal_pre_finite_inputs (hGlaSampleRefIdeal := hGlaSampleRefIdeal) (hPre_finite_inputs := hPre_finite_inputs)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Merge (hMerge := hMerge)
    ∧ quiescent_MergeIdeal (hMergeIdeal := hMergeIdeal)
    ∧ quiescent_MergeRefIdeal (hMergeRefIdeal := hMergeRefIdeal)
    ∧ quiescent_Combine (hCombine := hCombine)
    ∧ quiescent_CombineIdeal (hCombineIdeal := hCombineIdeal)
    ∧ quiescent_CombineRefIdeal (hCombineRefIdeal := hCombineRefIdeal)
    ∧ quiescent_CombineS (hCombineS := hCombineS)
    ∧ quiescent_CombineSIdeal (hCombineSIdeal := hCombineSIdeal)
    ∧ quiescent_CombineSRefIdeal (hCombineSRefIdeal := hCombineSRefIdeal)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsRefIdeal (hExpertsRefIdeal := hExpertsRefIdeal)
    ∧ quiescent_ExpertsRefIdeal_pre_expert_tables (hExpertsRefIdeal := hExpertsRefIdeal) (hPre_expert_tables := hPre_expert_tables)
    ∧ preserves_GlaSample_GlaSampleIdeal
    ∧ algebraic_GlaSampleIdeal_GlaSampleRefIdeal_pre_finite_inputs (hGlaSampleIdeal := hGlaSampleIdeal) (hGlaSampleRefIdeal := hGlaSampleRefIdeal) (hPre_finite_inputs := hPre_finite_inputs)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_Merge_MergeIdeal
    ∧ algebraic_MergeIdeal_MergeRefIdeal (hMergeIdeal := hMergeIdeal) (hMergeRefIdeal := hMergeRefIdeal)
    ∧ preserves_Combine_CombineIdeal
    ∧ algebraic_CombineIdeal_CombineRefIdeal (hCombineIdeal := hCombineIdeal) (hCombineRefIdeal := hCombineRefIdeal)
    ∧ preserves_CombineS_CombineSIdeal
    ∧ algebraic_CombineSIdeal_CombineSRefIdeal (hCombineSIdeal := hCombineSIdeal) (hCombineSRefIdeal := hCombineSRefIdeal)
    ∧ preserves_Experts_ExpertsIdeal
    ∧ algebraic_ExpertsIdeal_ExpertsRefIdeal (hExpertsIdeal := hExpertsIdeal) (hExpertsRefIdeal := hExpertsRefIdeal) (hPre_expert_tables := hPre_expert_tables)
-- ==== Pre_expert_tables.lean ====
abbrev S147456x1024 : Shape := ⟨2, ![147456, 1024]⟩
abbrev S288 : Shape := ⟨1, ![288]⟩
abbrev S1 : Shape := ⟨1, ![1]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S147456x1024 .bf16) (main_arg1 : IVec S288 32) (main_arg2 : IVec S1 32) (main_arg3 : FVec F S1x32x1024x2048 .f32) (main_arg4 : FVec F S1x32x2048 .f32) (main_arg5 : FVec F S1x32x1024x1024 .f32) (main_arg6 : FVec F S1x32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_finite_inputs.lean ====
abbrev S1x128x512 : Shape := ⟨3, ![1, 128, 512]⟩
abbrev S1x128x1024 : Shape := ⟨3, ![1, 128, 1024]⟩
abbrev S1x256 : Shape := ⟨2, ![1, 256]⟩
abbrev S1x32x4x128x256 : Shape := ⟨5, ![1, 32, 4, 128, 256]⟩
abbrev S_ : Shape := ⟨0, ![]⟩

class Facts : Prop where
  bcast_S_S1x128x512 : S_.BroadcastsInDim S1x128x512 (![] : Fin 0 → Fin S1x128x512.rank)
  reducesTo_S1x128x512_S_d0_1_2 : S1x128x512.ReducesTo [0, 1, 2] S_
  h_S_ : 0 < S_.numel
  bitsLt_bf16_f32 : FTy.bits .bf16 < FTy.bits .f32
  bcast_S_S1x128x1024 : S_.BroadcastsInDim S1x128x1024 (![] : Fin 0 → Fin S1x128x1024.rank)
  reducesTo_S1x128x1024_S_d0_1_2 : S1x128x1024.ReducesTo [0, 1, 2] S_
  bcast_S_S1x32x4x128x256 : S_.BroadcastsInDim S1x32x4x128x256 (![] : Fin 0 → Fin S1x32x4x128x256.rank)
  reducesTo_S1x32x4x128x256_S_d0_1_2_3_4 : S1x32x4x128x256.ReducesTo [0, 1, 2, 3, 4] S_

variable [Facts]

def fn_part1 {F : FTy → Type} [FloatOps F] (main_arg6 : FVec F S1x32x4x128x256 .f32) (main_v13 : IVec S_ 1) (main_v15 : FVec F S1x128x1024 .f32) (main_v16 : FVec F S1x128x1024 .f32) : IVec S_ 1 :=
  let main_v17 : IVec S1x128x1024 1 := cmpf .olt main_v15 main_v16
  let main_c_5 : IVec S_ 1 := constantI S_ 1 1#1
  let main_v18 : IVec S_ 1 := (fun x v => Host.reduce IntOp.andi x v reducesTo_S1x128x1024_S_d0_1_2 h_S_) main_v17 main_c_5
  let main_v19 : IVec S_ 1 := andi main_v13 main_v18
  let main_v20 : FVec F S1x32x4x128x256 .f32 := Host.absf main_arg6
  let main_cst_6 : FVec F S_ .f32 := constant S_ .f32 0x7F800000#32
  let main_v21 : FVec F S1x32x4x128x256 .f32 := broadcastInDim S1x32x4x128x256 ![] bcast_S_S1x32x4x128x256 main_cst_6
  let main_v22 : IVec S1x32x4x128x256 1 := cmpf .olt main_v20 main_v21
  let main_c_7 : IVec S_ 1 := constantI S_ 1 1#1
  let main_v23 : IVec S_ 1 := (fun x v => Host.reduce IntOp.andi x v reducesTo_S1x32x4x128x256_S_d0_1_2_3_4 h_S_) main_v22 main_c_7
  let main_v24 : IVec S_ 1 := andi main_v19 main_v23
  main_v24

def fn {F : FTy → Type} [FloatOps F] (main_arg0 : FVec F S1x128x512 .f32) (main_arg1 : FVec F S1x128x512 .f32) (main_arg2 : FVec F S1x128x512 .f32) (main_arg3 : FVec F S1x128x1024 .bf16) (main_arg4 : FVec F S1x128x1024 .bf16) (main_arg5 : FVec F S1x256 .f32) (main_arg6 : FVec F S1x32x4x128x256 .f32) : IVec S_ 1 :=
  let main_v0 : FVec F S1x128x512 .f32 := Host.absf main_arg0
  let main_cst : FVec F S_ .f32 := constant S_ .f32 0x7F800000#32
  let main_v1 : FVec F S1x128x512 .f32 := broadcastInDim S1x128x512 ![] bcast_S_S1x128x512 main_cst
  let main_v2 : IVec S1x128x512 1 := cmpf .olt main_v0 main_v1
  let main_c : IVec S_ 1 := constantI S_ 1 1#1
  let main_v3 : IVec S_ 1 := (fun x v => Host.reduce IntOp.andi x v reducesTo_S1x128x512_S_d0_1_2 h_S_) main_v2 main_c
  let main_v4 : FVec F S1x128x512 .f32 := Host.absf main_arg1
  let main_cst_0 : FVec F S_ .f32 := constant S_ .f32 0x7F800000#32
  let main_v5 : FVec F S1x128x512 .f32 := broadcastInDim S1x128x512 ![] bcast_S_S1x128x512 main_cst_0
  let main_v6 : IVec S1x128x512 1 := cmpf .olt main_v4 main_v5
  let main_c_1 : IVec S_ 1 := constantI S_ 1 1#1
  let main_v7 : IVec S_ 1 := (fun x v => Host.reduce IntOp.andi x v reducesTo_S1x128x512_S_d0_1_2 h_S_) main_v6 main_c_1
  let main_v8 : IVec S_ 1 := andi main_v3 main_v7
  let main_v9 : FVec F S1x128x512 .f32 := Host.absf main_arg2
  let main_cst_2 : FVec F S_ .f32 := constant S_ .f32 0x7F800000#32
  let main_v10 : FVec F S1x128x512 .f32 := broadcastInDim S1x128x512 ![] bcast_S_S1x128x512 main_cst_2
  let main_v11 : IVec S1x128x512 1 := cmpf .olt main_v9 main_v10
  let main_c_3 : IVec S_ 1 := constantI S_ 1 1#1
  let main_v12 : IVec S_ 1 := (fun x v => Host.reduce IntOp.andi x v reducesTo_S1x128x512_S_d0_1_2 h_S_) main_v11 main_c_3
  let main_v13 : IVec S_ 1 := andi main_v8 main_v12
  let main_v14 : FVec F S1x128x1024 .f32 := (extf .f32 · bitsLt_bf16_f32) main_arg3
  let main_v15 : FVec F S1x128x1024 .f32 := Host.absf main_v14
  let main_cst_4 : FVec F S_ .f32 := constant S_ .f32 0x7F800000#32
  let main_v16 : FVec F S1x128x1024 .f32 := broadcastInDim S1x128x1024 ![] bcast_S_S1x128x1024 main_cst_4
  fn_part1 (F := F) main_arg6 main_v13 main_v15 main_v16
-- ==== GlaSample.lean ====
abbrev S1x128x512 : Shape := ⟨3, ![1, 128, 512]⟩
abbrev S1x128x1024 : Shape := ⟨3, ![1, 128, 1024]⟩
abbrev S1x256 : Shape := ⟨2, ![1, 256]⟩
abbrev S1x32x4x128x256 : Shape := ⟨5, ![1, 32, 4, 128, 256]⟩
abbrev S256 : Shape := ⟨1, ![256]⟩
abbrev S32x4x4x128 : Shape := ⟨4, ![32, 4, 4, 128]⟩
abbrev S32x4x128x4 : Shape := ⟨4, ![32, 4, 128, 4]⟩
abbrev S32x4x1024 : Shape := ⟨3, ![32, 4, 1024]⟩
abbrev S32x4x128x256 : Shape := ⟨4, ![32, 4, 128, 256]⟩
abbrev S1x4x128x4 : Shape := ⟨4, ![1, 4, 128, 4]⟩
abbrev S1x4x1024 : Shape := ⟨3, ![1, 4, 1024]⟩
abbrev S1x1x4x128x256 : Shape := ⟨5, ![1, 1, 4, 128, 256]⟩
abbrev S1x4x128x256 : Shape := ⟨4, ![1, 4, 128, 256]⟩
abbrev S1x1x1x128x256 : Shape := ⟨5, ![1, 1, 1, 128, 256]⟩
abbrev S128x256 : Shape := ⟨2, ![128, 256]⟩
abbrev S1x1x128x4 : Shape := ⟨4, ![1, 1, 128, 4]⟩
abbrev S128x4 : Shape := ⟨2, ![128, 4]⟩
abbrev S1x4x256 : Shape := ⟨3, ![1, 4, 256]⟩
abbrev S4x256 : Shape := ⟨2, ![4, 256]⟩
abbrev S128x1 : Shape := ⟨2, ![128, 1]⟩
abbrev S4 : Shape := ⟨1, ![4]⟩
abbrev S4x1 : Shape := ⟨2, ![4, 1]⟩
abbrev S1x1x128x256 : Shape := ⟨4, ![1, 1, 128, 256]⟩

abbrev nBuf : Space → Nat
  | .hbm => 19
  | .vmem => 17
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x1024, .bf16⟩
  | .hbm, ⟨4, _⟩ => ⟨S1x128x1024, .bf16⟩
  | .hbm, ⟨5, _⟩ => ⟨S1x256, .f32⟩
  | .hbm, ⟨6, _⟩ => ⟨S1x32x4x128x256, .f32⟩
  | .hbm, ⟨7, _⟩ => ⟨S256, .f32⟩
  | .hbm, ⟨8, _⟩ => ⟨S1x256, .f32⟩
  | .hbm, ⟨9, _⟩ => ⟨S32x4x4x128, .f32⟩
  | .hbm, ⟨10, _⟩ => ⟨S32x4x128x4, .f32⟩
  | .hbm, ⟨11, _⟩ => ⟨S32x4x4x128, .f32⟩
  | .hbm, ⟨12, _⟩ => ⟨S32x4x128x4, .f32⟩
  | .hbm, ⟨13, _⟩ => ⟨S32x4x4x128, .f32⟩
  | .hbm, ⟨14, _⟩ => ⟨S32x4x128x4, .f32⟩
  | .hbm, ⟨15, _⟩ => ⟨S32x4x1024, .bf16⟩
  | .hbm, ⟨16, _⟩ => ⟨S32x4x1024, .bf16⟩
  | .hbm, ⟨17, _⟩ => ⟨S32x4x1024, .bf16⟩
  | .hbm, ⟨18, _⟩ => ⟨S32x4x128x256, .f32⟩
  | .local _ .vmem, ⟨0, _⟩ => ⟨S1x4x128x4, .f32⟩
  | .local _ .vmem, ⟨1, _⟩ => ⟨S1x4x128x4, .f32⟩
  | .local _ .vmem, ⟨2, _⟩ => ⟨S1x4x128x4, .f32⟩
  | .local _ .vmem, ⟨3, _⟩ => ⟨S1x4x128x4, .f32⟩
  | .local _ .vmem, ⟨4, _⟩ => ⟨S1x4x128x4, .f32⟩
  | .local _ .vmem, ⟨5, _⟩ => ⟨S1x4x128x4, .f32⟩
  | .local _ .vmem, ⟨6, _⟩ => ⟨S1x4x1024, .bf16⟩
  | .local _ .vmem, ⟨7, _⟩ => ⟨S1x4x1024, .bf16⟩
  | .local _ .vmem, ⟨8, _⟩ => ⟨S1x4x1024, .bf16⟩
  | .local _ .vmem, ⟨9, _⟩ => ⟨S1x4x1024, .bf16⟩
  | .local _ .vmem, ⟨10, _⟩ => ⟨S1x256, .f32⟩
  | .local _ .vmem, ⟨11, _⟩ => ⟨S1x1x4x128x256, .f32⟩
  | .local _ .vmem, ⟨12, _⟩ => ⟨S1x1x4x128x256, .f32⟩
  | .local _ .vmem, ⟨13, _⟩ => ⟨S1x4x1024, .bf16⟩
  | .local _ .vmem, ⟨14, _⟩ => ⟨S1x4x1024, .bf16⟩
  | .local _ .vmem, ⟨15, _⟩ => ⟨S1x4x128x256, .f32⟩
  | .local _ .vmem, ⟨16, _⟩ => ⟨S1x4x128x256, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaSampleRefIdeal.lean ====
abbrev S1x128x512 : Shape := ⟨3, ![1, 128, 512]⟩
abbrev S1x128x1024 : Shape := ⟨3, ![1, 128, 1024]⟩
abbrev S1x256 : Shape := ⟨2, ![1, 256]⟩
abbrev S1x32x4x128x256 : Shape := ⟨5, ![1, 32, 4, 128, 256]⟩
abbrev S32x4x4x128 : Shape := ⟨4, ![32, 4, 4, 128]⟩
abbrev S_ : Shape := ⟨0, ![]⟩
abbrev S32x4x4x256 : Shape := ⟨4, ![32, 4, 4, 256]⟩
abbrev S32x4x128x256 : Shape := ⟨4, ![32, 4, 128, 256]⟩
abbrev S32x4x4x1x128 : Shape := ⟨5, ![32, 4, 4, 1, 128]⟩
abbrev S32x4x1x4x128 : Shape := ⟨5, ![32, 4, 1, 4, 128]⟩
abbrev S32x4x4x4x128 : Shape := ⟨5, ![32, 4, 4, 4, 128]⟩
abbrev S4x4 : Shape := ⟨2, ![4, 4]⟩
abbrev S4x4x1 : Shape := ⟨3, ![4, 4, 1]⟩
abbrev S32x4x4x4 : Shape := ⟨4, ![32, 4, 4, 4]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S256 : Shape := ⟨1, ![256]⟩
abbrev S32x4x4 : Shape := ⟨3, ![32, 4, 4]⟩
abbrev S32x4x4x1 : Shape := ⟨4, ![32, 4, 4, 1]⟩
abbrev S1x1x1x256 : Shape := ⟨4, ![1, 1, 1, 256]⟩
abbrev S32x4x1024 : Shape := ⟨3, ![32, 4, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x1024, .bf16⟩
  | .hbm, ⟨4, _⟩ => ⟨S1x128x1024, .bf16⟩
  | .hbm, ⟨5, _⟩ => ⟨S1x256, .f32⟩
  | .hbm, ⟨6, _⟩ => ⟨S1x32x4x128x256, .f32⟩
  | .hbm, ⟨7, _⟩ => ⟨S32x4x4x128, .f32⟩
  | .hbm, ⟨8, _⟩ => ⟨S32x4x4x128, .f32⟩
  | .hbm, ⟨9, _⟩ => ⟨S_, .f32⟩
  | .hbm, ⟨10, _⟩ => ⟨S32x4x4x128, .f32⟩
  | .hbm, ⟨11, _⟩ => ⟨S32x4x4x128, .f32⟩
  | .hbm, ⟨12, _⟩ => ⟨S32x4x4x128, .f32⟩
  | .hbm, ⟨13, _⟩ => ⟨S32x4x4x128, .f32⟩
  | .hbm, ⟨14, _⟩ => ⟨S1x128x1024, .f32⟩
  | .hbm, ⟨15, _⟩ => ⟨S32x4x4x256, .f32⟩
  | .hbm, ⟨16, _⟩ => ⟨S32x4x4x256, .f32⟩
  | .hbm, ⟨17, _⟩ => ⟨S32x4x128x256, .f32⟩
  | .hbm, ⟨18, _⟩ => ⟨S32x4x4x128, .f32⟩
  | .hbm, ⟨19, _⟩ => ⟨S32x4x4x128, .f32⟩
  | .hbm, ⟨20, _⟩ => ⟨S_, .f32⟩
  | .hbm, ⟨21, _⟩ => ⟨S_, .f32⟩
  | .hbm, ⟨22, _⟩ => ⟨S32x4x4x128, .f32⟩
  | .hbm, ⟨23, _⟩ => ⟨S32x4x4x1x128, .f32⟩
  | .hbm, ⟨24, _⟩ => ⟨S32x4x1x4x128, .f32⟩
  | .hbm, ⟨25, _⟩ => ⟨S32x4x4x4x128, .f32⟩
  | .hbm, ⟨26, _⟩ => ⟨S32x4x4x4x128, .f32⟩
  | .hbm, ⟨27, _⟩ => ⟨S32x4x4x4x128, .f32⟩
  | .hbm, ⟨28, _⟩ => ⟨S_, .i1⟩
  | .hbm, ⟨29, _⟩ => ⟨S4x4, .i1⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S_, .i1⟩
  | .hbm, ⟨37, _⟩ => ⟨S4x4, .i1⟩
  | .hbm, ⟨38, _⟩ => ⟨S4x4, .i1⟩
  | .hbm, ⟨39, _⟩ => ⟨S4x4x1, .i1⟩
  | .hbm, ⟨40, _⟩ => ⟨S_, .f32⟩
  | .hbm, ⟨41, _⟩ => ⟨S_, .f32⟩
  | .hbm, ⟨42, _⟩ => ⟨S32x4x4x4x128, .i1⟩
  | .hbm, ⟨43, _⟩ => ⟨S32x4x4x4x128, .f32⟩
  | .hbm, ⟨44, _⟩ => ⟨S32x4x4x4x128, .f32⟩
  | .hbm, ⟨45, _⟩ => ⟨S32x4x4x4x128, .f32⟩
  | .hbm, ⟨46, _⟩ => ⟨S32x4x4x1x128, .f32⟩
  | .hbm, ⟨47, _⟩ => ⟨S32x4x1x4x128, .f32⟩
  | .hbm, ⟨48, _⟩ => ⟨S32x4x4x4x128, .f32⟩
  | .hbm, ⟨49, _⟩ => ⟨S32x4x4x4x128, .f32⟩
  | .hbm, ⟨50, _⟩ => ⟨S32x4x4x4x128, .f32⟩
  | .hbm, ⟨51, _⟩ => ⟨S32x4x4x4x128, .f32⟩
  | .hbm, ⟨52, _⟩ => ⟨S_, .f32⟩
  | .hbm, ⟨53, _⟩ => ⟨S32x4x4x4, .f32⟩
  | .hbm, ⟨54, _⟩ => ⟨S32x4x4x256, .f32⟩
  | .hbm, ⟨55, _⟩ => ⟨S32x4x4x128, .f32⟩
  | .hbm, ⟨56, _⟩ => ⟨S32x4x4x128, .f32⟩
  | .hbm, ⟨57, _⟩ => ⟨S32x4x4x256, .f32⟩
  | .hbm, ⟨58, _⟩ => ⟨S32x4x4x256, .f32⟩
  | .hbm, ⟨59, _⟩ => ⟨S32x4x1x128, .f32⟩
  | .hbm, ⟨60, _⟩ => ⟨S32x4x128, .f32⟩
  | .hbm, ⟨61, _⟩ => ⟨S32x4x128, .f32⟩
  | .hbm, ⟨62, _⟩ => ⟨S32x4x128x1, .f32⟩
  | .hbm, ⟨63, _⟩ => ⟨S32x4x128x256, .f32⟩
  | .hbm, ⟨64, _⟩ => ⟨S32x4x128x256, .f32⟩
  | .hbm, ⟨65, _⟩ => ⟨S32x4x1x128, .f32⟩
  | .hbm, ⟨66, _⟩ => ⟨S32x4x4x128, .f32⟩
  | .hbm, ⟨67, _⟩ => ⟨S32x4x4x128, .f32⟩
  | .hbm, ⟨68, _⟩ => ⟨S32x4x4x128, .f32⟩
  | .hbm, ⟨69, _⟩ => ⟨S32x4x4x128, .f32⟩
  | .hbm, ⟨70, _⟩ => ⟨S32x4x128x256, .f32⟩
  | .hbm, ⟨71, _⟩ => ⟨S32x4x128x256, .f32⟩
  | .hbm, ⟨72, _⟩ => ⟨S256, .f32⟩
  | .hbm, ⟨73, _⟩ => ⟨S32x4x4x256, .f32⟩
  | .hbm, ⟨74, _⟩ => ⟨S_, .f32⟩
  | .hbm, ⟨75, _⟩ => ⟨S32x4x4, .f32⟩
  | .hbm, ⟨76, _⟩ => ⟨S32x4x4x1, .f32⟩
  | .hbm, ⟨77, _⟩ => ⟨S_, .f32⟩
  | .hbm, ⟨78, _⟩ => ⟨S32x4x4x1, .f32⟩
  | .hbm, ⟨79, _⟩ => ⟨S32x4x4x1, .f32⟩
  | .hbm, ⟨80, _⟩ => ⟨S_, .f32⟩
  | .hbm, ⟨81, _⟩ => ⟨S32x4x4x1, .f32⟩
  | .hbm, ⟨82, _⟩ => ⟨S32x4x4x1, .f32⟩
  | .hbm, ⟨83, _⟩ => ⟨S32x4x4x1, .f32⟩
  | .hbm, ⟨84, _⟩ => ⟨S32x4x4x256, .f32⟩
  | .hbm, ⟨85, _⟩ => ⟨S32x4x4x256, .f32⟩
  | .hbm, ⟨86, _⟩ => ⟨S1x1x1x256, .f32⟩
  | .hbm, ⟨87, _⟩ => ⟨S32x4x4x256, .f32⟩
  | .hbm, ⟨88, _⟩ => ⟨S32x4x4x256, .f32⟩
  | .hbm, ⟨89, _⟩ => ⟨S32x4x4x256, .f32⟩
  | .hbm, ⟨90, _⟩ => ⟨S32x4x1024, .f32⟩
  | .hbm, ⟨91, _⟩ => ⟨S1x128x1024, .f32⟩
  | .hbm, ⟨92, _⟩ => ⟨S32x4x1024, .f32⟩
  | .hbm, ⟨93, _⟩ => ⟨S32x4x1024, .f32⟩
  | .hbm, ⟨94, _⟩ => ⟨S32x4x1024, .f32⟩
  | .hbm, ⟨95, _⟩ => ⟨S_, .f32⟩
  | .hbm, ⟨96, _⟩ => ⟨S32x4x1024, .f32⟩
  | .hbm, ⟨97, _⟩ => ⟨S32x4x1024, .f32⟩
  | .hbm, ⟨98, _⟩ => ⟨S_, .f32⟩
  | .hbm, ⟨99, _⟩ => ⟨S32x4x1024, .f32⟩
  | .hbm, ⟨100, _⟩ => ⟨S32x4x1024, .f32⟩
  | .hbm, ⟨101, _⟩ => ⟨S32x4x1024, .f32⟩
  | .hbm, ⟨102, _⟩ => ⟨S32x4x1024, .f32⟩
  | .hbm, ⟨103, _⟩ => ⟨S32x4x1024, .bf16⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_5 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S1x1024x4624 : Shape := ⟨3, ![1, 1024, 4624]⟩
abbrev S1x64 : Shape := ⟨2, ![1, 64]⟩
abbrev S1x16x512 : Shape := ⟨3, ![1, 16, 512]⟩
abbrev S1x512 : Shape := ⟨2, ![1, 512]⟩
abbrev S1024x4624 : Shape := ⟨2, ![1024, 4624]⟩
abbrev S1024x1536 : Shape := ⟨2, ![1024, 1536]⟩
abbrev S1536x1024 : Shape := ⟨2, ![1536, 1024]⟩
abbrev S1024x3088 : Shape := ⟨2, ![1024, 3088]⟩
abbrev S_ : Shape := ⟨0, ![]⟩
abbrev S1024x3200 : Shape := ⟨2, ![1024, 3200]⟩
abbrev S16x512 : Shape := ⟨2, ![16, 512]⟩
abbrev S128x512 : Shape := ⟨2, ![128, 512]⟩
abbrev S1024 : Shape := ⟨1, ![1024]⟩
abbrev S64 : Shape := ⟨1, ![64]⟩
abbrev S64x1 : Shape := ⟨2, ![64, 1]⟩
abbrev S512 : Shape := ⟨1, ![512]⟩
abbrev S8192 : Shape := ⟨1, ![8192]⟩
abbrev S32 : Shape := ⟨1, ![32]⟩
abbrev S32x1 : Shape := ⟨2, ![32, 1]⟩
abbrev S1x8192 : Shape := ⟨2, ![1, 8192]⟩
abbrev S32x8192 : Shape := ⟨2, ![32, 8192]⟩
abbrev S64x8192 : Shape := ⟨2, ![64, 8192]⟩
abbrev S4x8x64x8192 : Shape := ⟨4, ![4, 8, 64, 8192]⟩
abbrev S4x8192x512 : Shape := ⟨3, ![4, 8192, 512]⟩
abbrev S1x512x1024 : Shape := ⟨3, ![1, 512, 1024]⟩
abbrev S64x512 : Shape := ⟨2, ![64, 512]⟩
abbrev S1x8x64x512 : Shape := ⟨4, ![1, 8, 64, 512]⟩
abbrev S1x512x512 : Shape := ⟨3, ![1, 512, 512]⟩
abbrev S512x1024 : Shape := ⟨2, ![512, 1024]⟩
abbrev S512x1 : Shape := ⟨2, ![512, 1]⟩
abbrev S512x512 : Shape := ⟨2, ![512, 512]⟩
abbrev S32x512 : Shape := ⟨2, ![32, 512]⟩
abbrev S1x1x64x512 : Shape := ⟨4, ![1, 1, 64, 512]⟩
abbrev S1024x512 : Shape := ⟨2, ![1024, 512]⟩
abbrev S1024x1024 : Shape := ⟨2, ![1024, 1024]⟩
abbrev S1024x128 : Shape := ⟨2, ![1024, 128]⟩
abbrev S512x128 : Shape := ⟨2, ![512, 128]⟩

abbrev nBuf : Space → Nat
  | .hbm => 58
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4624, .f32⟩
  | .hbm, ⟨3, _⟩ => ⟨S1x64, .f32⟩
  | .hbm, ⟨4, _⟩ => ⟨S1x64, .f32⟩
  | .hbm, ⟨5, _⟩ => ⟨S1x16x512, .f32⟩
  | .hbm, ⟨6, _⟩ => ⟨S1x512, .f32⟩
  | .hbm, ⟨7, _⟩ => ⟨S1024x4624, .f32⟩
  | .hbm, ⟨8, _⟩ => ⟨S1024x1536, .f32⟩
  | .hbm, ⟨9, _⟩ => ⟨S1536x1024, .f32⟩
  | .hbm, ⟨10, _⟩ => ⟨S1536x1024, .bf16⟩
  | .hbm, ⟨11, _⟩ => ⟨S1024x4624, .f32⟩
  | .hbm, ⟨12, _⟩ => ⟨S1024x3088, .f32⟩
  | .hbm, ⟨13, _⟩ => ⟨S_, .i32⟩
  | .hbm, ⟨14, _⟩ => ⟨S_, .f32⟩
  | .hbm, ⟨15, _⟩ => ⟨S1024x3200, .f32⟩
  | .hbm, ⟨16, _⟩ => ⟨S1024x3200, .bf16⟩
  | .hbm, ⟨17, _⟩ => ⟨S16x512, .f32⟩
  | .hbm, ⟨18, _⟩ => ⟨S_, .i32⟩
  | .hbm, ⟨19, _⟩ => ⟨S_, .f32⟩
  | .hbm, ⟨20, _⟩ => ⟨S128x512, .f32⟩
  | .hbm, ⟨21, _⟩ => ⟨S128x512, .bf16⟩
  | .hbm, ⟨22, _⟩ => ⟨S1024, .f32⟩
  | .hbm, ⟨23, _⟩ => ⟨S1x1024, .f32⟩
  | .hbm, ⟨24, _⟩ => ⟨S64, .f32⟩
  | .hbm, ⟨25, _⟩ => ⟨S64x1, .f32⟩
  | .hbm, ⟨26, _⟩ => ⟨S64, .f32⟩
  | .hbm, ⟨27, _⟩ => ⟨S64x1, .f32⟩
  | .hbm, ⟨28, _⟩ => ⟨S512, .f32⟩
  | .hbm, ⟨29, _⟩ => ⟨S1x512, .f32⟩
  | .hbm, ⟨30, _⟩ => ⟨S8192, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32x1, .f32⟩
  | .hbm, ⟨40, _⟩ => ⟨S8192, .f32⟩
  | .hbm, ⟨41, _⟩ => ⟨S1x8192, .f32⟩
  | .hbm, ⟨42, _⟩ => ⟨S32x8192, .f32⟩
  | .hbm, ⟨43, _⟩ => ⟨S32x8192, .f32⟩
  | .hbm, ⟨44, _⟩ => ⟨S32x8192, .f32⟩
  | .hbm, ⟨45, _⟩ => ⟨S32x8192, .f32⟩
  | .hbm, ⟨46, _⟩ => ⟨S32x8192, .f32⟩
  | .hbm, ⟨47, _⟩ => ⟨S64x8192, .f32⟩
  | .hbm, ⟨48, _⟩ => ⟨S32x8192, .f32⟩
  | .hbm, ⟨49, _⟩ => ⟨S64x8192, .f32⟩
  | .hbm, ⟨50, _⟩ => ⟨S4x8x64x8192, .f32⟩
  | .hbm, ⟨51, _⟩ => ⟨S4x8x64x8192, .f32⟩
  | .hbm, ⟨52, _⟩ => ⟨S4x8x64x8192, .f32⟩
  | .hbm, ⟨53, _⟩ => ⟨S4x8192x512, .f32⟩
  | .hbm, ⟨54, _⟩ => ⟨S4x8192x512, .f32⟩
  | .hbm, ⟨55, _⟩ => ⟨S4x8192x1024, .bf16⟩
  | .hbm, ⟨56, _⟩ => ⟨S4x8192x512, .f32⟩
  | .hbm, ⟨57, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1536x1024, .bf16⟩
  | .local _ .vmem, ⟨4, _⟩ => ⟨S1024x3200, .bf16⟩
  | .local _ .vmem, ⟨5, _⟩ => ⟨S64x1, .f32⟩
  | .local _ .vmem, ⟨6, _⟩ => ⟨S64x1, .f32⟩
  | .local _ .vmem, ⟨7, _⟩ => ⟨S128x512, .bf16⟩
  | .local _ .vmem, ⟨8, _⟩ => ⟨S1x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S1x8x64x512, .f32⟩
  | .local _ .vmem, ⟨14, _⟩ => ⟨S1x8x64x512, .f32⟩
  | .local _ .vmem, ⟨15, _⟩ => ⟨S1x8x64x512, .f32⟩
  | .local _ .vmem, ⟨16, _⟩ => ⟨S1x8x64x512, .f32⟩
  | .local _ .vmem, ⟨17, _⟩ => ⟨S1x8x64x512, .f32⟩
  | .local _ .vmem, ⟨18, _⟩ => ⟨S1x8x64x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x1024, .bf16⟩
  | .local _ .vmem, ⟨24, _⟩ => ⟨S1x512x1024, .bf16⟩
  | .local _ .vmem, ⟨25, _⟩ => ⟨S1x512x512, .f32⟩
  | .local _ .vmem, ⟨26, _⟩ => ⟨S1x512x512, .f32⟩
  | .local _ .vmem, ⟨27, _⟩ => ⟨S1x512x1024, .bf16⟩
  | .local _ .vmem, ⟨28, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev main_v37_5 : Ref sig .tc := ⟨.hbm, 55, rfl⟩
abbrev main_v37_6 : Ref sig .tc := ⟨.hbm, 56, rfl⟩
abbrev main_v37_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S4x8192x1024 : Shape := ⟨3, ![4, 8192, 1024]⟩
abbrev S1x1024 : Shape := ⟨2, ![1, 1024]⟩
abbrev S1x1024x4624 : Shape := ⟨3, ![1, 1024, 4624]⟩
abbrev S1x64 : Shape := ⟨2, ![1, 64]⟩
abbrev S1x16x512 : Shape := ⟨3, ![1, 16, 512]⟩
abbrev S1x512 : Shape := ⟨2, ![1, 512]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4624 : Shape := ⟨2, ![1024, 4624]⟩
abbrev S4x8192x4624 : Shape := ⟨3, ![4, 8192, 4624]⟩
abbrev S4x8192x512 : Shape := ⟨3, ![4, 8192, 512]⟩
abbrev S4x8192x16 : Shape := ⟨3, ![4, 8192, 16]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S4x8192x8x64 : Shape := ⟨4, ![4, 8192, 8, 64]⟩
abbrev S4x8x8192x64 : Shape := ⟨4, ![4, 8, 8192, 64]⟩
abbrev S64 : Shape := ⟨1, ![64]⟩
abbrev S4x8x8192 : Shape := ⟨3, ![4, 8, 8192]⟩
abbrev S4x8x8192x1 : Shape := ⟨4, ![4, 8, 8192, 1]⟩
abbrev S1x1x1x64 : Shape := ⟨4, ![1, 1, 1, 64]⟩
abbrev S4x8x8192x32 : Shape := ⟨4, ![4, 8, 8192, 32]⟩
abbrev S1x1x8192x32 : Shape := ⟨4, ![1, 1, 8192, 32]⟩
abbrev S16x512 : Shape := ⟨2, ![16, 512]⟩
abbrev S512 : Shape := ⟨1, ![512]⟩
abbrev S1x1x512 : Shape := ⟨3, ![1, 1, 512]⟩
abbrev S4x8x64x8192 : Shape := ⟨4, ![4, 8, 64, 8192]⟩

abbrev nBuf : Space → Nat
  | .hbm => 155
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x4624, .f32⟩
  | 3 => ⟨S1x64, .f32⟩
  | 4 => ⟨S1x64, .f32⟩
  | 5 => ⟨S1x16x512, .f32⟩
  | 6 => ⟨S1x512, .f32⟩
  | 7 => ⟨S1024, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S1024x4624, .f32⟩
  | 25 => ⟨S4x8192x4624, .f32⟩
  | 26 => ⟨S4x8192x512, .f32⟩
  | 27 => ⟨S4x8192x512, .f32⟩
  | 28 => ⟨S4x8192x512, .f32⟩
  | 29 => ⟨S4x8192x512, .f32⟩
  | 30 => ⟨S4x8192x512, .f32⟩
  | 31 => ⟨S4x8192x1024, .f32⟩
  | 32 => ⟨S4x8192x1024, .f32⟩
  | 33 => ⟨S4x8192x16, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S8192, .i32⟩
  | 43 => ⟨S8192, .f32⟩
  | 44 => ⟨S8192x1, .f32⟩
  | 45 => ⟨S1x32, .f32⟩
  | 46 => ⟨S8192x32, .f32⟩
  | 47 => ⟨S8192x32, .f32⟩
  | 48 => ⟨S8192x32, .f32⟩
  | 49 => ⟨S8192x32, .f32⟩
  | 50 => ⟨S8192x32, .f32⟩
  | 51 => ⟨S4x8192x8x64, .f32⟩
  | 52 => ⟨S4x8x8192x64, .f32⟩
  | 53 => ⟨S64, .f32⟩
  | 54 => ⟨S4x8x8192x64, .f32⟩
  | 55 => ⟨S_, .f32⟩
  | 56 => ⟨S4x8x8192, .f32⟩
  | 57 => ⟨S4x8x8192x1, .f32⟩
  | 58 => ⟨S_, .f32⟩
  | 59 => ⟨S4x8x8192x1, .f32⟩
  | 60 => ⟨S4x8x8192x1, .f32⟩
  | 61 => ⟨S_, .f32⟩
  | 62 => ⟨S4x8x8192x1, .f32⟩
  | 63 => ⟨S4x8x8192x1, .f32⟩
  | 64 => ⟨S4x8x8192x1, .f32⟩
  | 65 => ⟨S4x8x8192x64, .f32⟩
  | 66 => ⟨S4x8x8192x64, .f32⟩
  | 67 => ⟨S1x1x1x64, .f32⟩
  | 68 => ⟨S4x8x8192x64, .f32⟩
  | 69 => ⟨S4x8x8192x64, .f32⟩
  | 70 => ⟨S4x8x8192x32, .f32⟩
  | 71 => ⟨S4x8x8192x32, .f32⟩
  | 72 => ⟨S1x1x8192x32, .f32⟩
  | 73 => ⟨S4x8x8192x32, .f32⟩
  | 74 => ⟨S4x8x8192x32, .f32⟩
  | 75 => ⟨S1x1x8192x32, .f32⟩
  | 76 => ⟨S4x8x8192x32, .f32⟩
  | 77 => ⟨S4x8x8192x32, .f32⟩
  | 78 => ⟨S4x8x8192x32, .f32⟩
  | 79 => ⟨S1x1x8192x32, .f32⟩
  | 80 => ⟨S4x8x8192x32, .f32⟩
  | 81 => ⟨S4x8x8192x32, .f32⟩
  | 82 => ⟨S1x1x8192x32, .f32⟩
  | 83 => ⟨S4x8x8192x32, .f32⟩
  | 84 => ⟨S4x8x8192x32, .f32⟩
  | 85 => ⟨S4x8x8192x32, .f32⟩
  | 86 => ⟨S4x8x8192x64, .f32⟩
  | 87 => ⟨S4x8192x8x64, .f32⟩
  | 88 => ⟨S4x8x8192x64, .f32⟩
  | 89 => ⟨S64, .f32⟩
  | 90 => ⟨S4x8x8192x64, .f32⟩
  | 91 => ⟨S_, .f32⟩
  | 92 => ⟨S4x8x8192, .f32⟩
  | 93 => ⟨S4x8x8192x1, .f32⟩
  | 94 => ⟨S_, .f32⟩
  | 95 => ⟨S4x8x8192x1, .f32⟩
  | 96 => ⟨S4x8x8192x1, .f32⟩
  | 97 => ⟨S_, .f32⟩
  | 98 => ⟨S4x8x8192x1, .f32⟩
  | 99 => ⟨S4x8x8192x1, .f32⟩
  | 100 => ⟨S4x8x8192x1, .f32⟩
  | 101 => ⟨S4x8x8192x64, .f32⟩
  | 102 => ⟨S4x8x8192x64, .f32⟩
  | 103 => ⟨S1x1x1x64, .f32⟩
  | 104 => ⟨S4x8x8192x64, .f32⟩
  | 105 => ⟨S4x8x8192x64, .f32⟩
  | 106 => ⟨S4x8x8192x32, .f32⟩
  | 107 => ⟨S4x8x8192x32, .f32⟩
  | 108 => ⟨S1x1x8192x32, .f32⟩
  | 109 => ⟨S4x8x8192x32, .f32⟩
  | 110 => ⟨S4x8x8192x32, .f32⟩
  | 111 => ⟨S1x1x8192x32, .f32⟩
  | 112 => ⟨S4x8x8192x32, .f32⟩
  | 113 => ⟨S4x8x8192x32, .f32⟩
  | 114 => ⟨S4x8x8192x32, .f32⟩
  | 115 => ⟨S1x1x8192x32, .f32⟩
  | 116 => ⟨S4x8x8192x32, .f32⟩
  | 117 => ⟨S4x8x8192x32, .f32⟩
  | 118 => ⟨S1x1x8192x32, .f32⟩
  | 119 => ⟨S4x8x8192x32, .f32⟩
  | 120 => ⟨S4x8x8192x32, .f32⟩
  | 121 => ⟨S4x8x8192x32, .f32⟩
  | 122 => ⟨S4x8x8192x64, .f32⟩
  | 123 => ⟨S4x8192x8x64, .f32⟩
  | 124 => ⟨S4x8x8192x64, .f32⟩
  | 125 => ⟨S16x512, .f32⟩
  | 126 => ⟨S4x8192x512, .f32⟩
  | 127 => ⟨S512, .f32⟩
  | _ => ⟨S4x8192x1024, .f32⟩

abbrev hbmTy0_1 (i : Nat) : BufTy := match i % 128 with
  | 0 => ⟨S1x1x512, .f32⟩
  | 1 => ⟨S4x8192x512, .f32⟩
  | 2 => ⟨S4x8192x512, .f32⟩
  | 3 => ⟨S4x8192x512, .f32⟩
  | 4 => ⟨S_, .f32⟩
  | 5 => ⟨S4x8192x512, .f32⟩
  | 6 => ⟨S4x8192x512, .f32⟩
  | 7 => ⟨S4x8192x512, .f32⟩
  | 8 => ⟨S4x8192x512, .f32⟩
  | 9 => ⟨S4x8192x512, .i1⟩
  | 10 => ⟨S4x8192x512, .f32⟩
  | 11 => ⟨S4x8192x512, .f32⟩
  | 12 => ⟨S4x8192x512, .f32⟩
  | 13 => ⟨S4x8192x512, .f32⟩
  | 14 => ⟨S4x8192x512, .f32⟩
  | 15 => ⟨S4x8192x512, .f32⟩
  | 16 => ⟨S4x8192x512, .f32⟩
  | 17 => ⟨S4x8192x512, .f32⟩
  | 18 => ⟨S4x8192x512, .f32⟩
  | 19 => ⟨S_, .f32⟩
  | 20 => ⟨S4x8192x512, .f32⟩
  | 21 => ⟨S4x8192x512, .f32⟩
  | 22 => ⟨S4x8x64x8192, .f32⟩
  | 23 => ⟨S4x8x64x8192, .f32⟩
  | 24 => ⟨S4x8x64x8192, .f32⟩
  | 25 => ⟨S4x8192x1024, .bf16⟩
  | 26 => ⟨S4x8192x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_call0_v0 : Ref sig .tc := ⟨.hbm, 131, rfl⟩
abbrev main_call0_call0_cst : Ref sig .tc := ⟨.hbm, 132, rfl⟩
abbrev main_call0_call0_v0 : Ref sig .tc := ⟨.hbm, 133, rfl⟩
abbrev main_call0_call0_v1 : Ref sig .tc := ⟨.hbm, 134, rfl⟩
abbrev main_call0_call0_v2 : Ref sig .tc := ⟨.hbm, 135, rfl⟩
abbrev main_call0_call0_v3 : Ref sig .tc := ⟨.hbm, 136, rfl⟩
abbrev main_call0_call0_v4 : Ref sig .tc := ⟨.hbm, 137, rfl⟩
abbrev main_call0_call0_v5 : Ref sig .tc := ⟨.hbm, 138, rfl⟩
abbrev main_call0_call0_v6 : Ref sig .tc := ⟨.hbm, 139, rfl⟩
abbrev main_call0_call0_v7 : Ref sig .tc := ⟨.hbm, 140, rfl⟩
abbrev main_call0_call0_v8 : Ref sig .tc := ⟨.hbm, 141, rfl⟩
abbrev main_call0_call0_v9 : Ref sig .tc := ⟨.hbm, 142, rfl⟩
abbrev main_call0_call0_v10 : Ref sig .tc := ⟨.hbm, 143, rfl⟩
abbrev main_call0_call0_v11 : Ref sig .tc := ⟨.hbm, 144, rfl⟩
abbrev main_call0_v1 : Ref sig .tc := ⟨.hbm, 145, rfl⟩
abbrev main_v113 : Ref sig .tc := ⟨.hbm, 146, rfl⟩
abbrev main_cst_10 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩

abbrev nD : Nat := 1
abbrev τ : Topo := Topo.v7x

variable {F : FTy → Type} [FloatOps F]
-- ==== ProjS.lean ====
abbrev S32x4x1024 : Shape := ⟨3, ![32, 4, 1024]⟩
abbrev S1x1024 : Shape := ⟨2, ![1, 1024]⟩
abbrev S1x1024x4624 : Shape := ⟨3, ![1, 1024, 4624]⟩
abbrev S1x64 : Shape := ⟨2, ![1, 64]⟩
abbrev S1x16x512 : Shape := ⟨3, ![1, 16, 512]⟩
abbrev S1x512 : Shape := ⟨2, ![1, 512]⟩
abbrev S1024x4624 : Shape := ⟨2, ![1024, 4624]⟩
abbrev S1024x1536 : Shape := ⟨2, ![1024, 1536]⟩
abbrev S1536x1024 : Shape := ⟨2, ![1536, 1024]⟩
abbrev S1024x3088 : Shape := ⟨2, ![1024, 3088]⟩
abbrev S_ : Shape := ⟨0, ![]⟩
abbrev S1024x3200 : Shape := ⟨2, ![1024, 3200]⟩
abbrev S16x512 : Shape := ⟨2, ![16, 512]⟩
abbrev S128x512 : Shape := ⟨2, ![128, 512]⟩
abbrev S1024 : Shape := ⟨1, ![1024]⟩
abbrev S64 : Shape := ⟨1, ![64]⟩
abbrev S64x1 : Shape := ⟨2, ![64, 1]⟩
abbrev S512 : Shape := ⟨1, ![512]⟩
abbrev S4 : Shape := ⟨1, ![4]⟩
abbrev S32 : Shape := ⟨1, ![32]⟩
abbrev S32x1 : Shape := ⟨2, ![32, 1]⟩
abbrev S1x4 : Shape := ⟨2, ![1, 4]⟩
abbrev S32x4 : Shape := ⟨2, ![32, 4]⟩
abbrev S64x4 : Shape := ⟨2, ![64, 4]⟩
abbrev S1x128x1024 : Shape := ⟨3, ![1, 128, 1024]⟩
abbrev S1x64x1x4 : Shape := ⟨4, ![1, 64, 1, 4]⟩
abbrev S1x64x32x4 : Shape := ⟨4, ![1, 64, 32, 4]⟩
abbrev S64x128 : Shape := ⟨2, ![64, 128]⟩
abbrev S1x8x64x128 : Shape := ⟨4, ![1, 8, 64, 128]⟩
abbrev S1x128x512 : Shape := ⟨3, ![1, 128, 512]⟩
abbrev S128x1024 : Shape := ⟨2, ![128, 1024]⟩
abbrev S128 : Shape := ⟨1, ![128]⟩
abbrev S128x1 : Shape := ⟨2, ![128, 1]⟩
abbrev S512x1024 : Shape := ⟨2, ![512, 1024]⟩
abbrev S512x128 : Shape := ⟨2, ![512, 128]⟩
abbrev S1x128 : Shape := ⟨2, ![1, 128]⟩
abbrev S32x128 : Shape := ⟨2, ![32, 128]⟩
abbrev S1x1x64x128 : Shape := ⟨4, ![1, 1, 64, 128]⟩
abbrev S1024x512 : Shape := ⟨2, ![1024, 512]⟩
abbrev S1024x1024 : Shape := ⟨2, ![1024, 1024]⟩
abbrev S1024x128 : Shape := ⟨2, ![1024, 128]⟩
abbrev S128x128 : Shape := ⟨2, ![128, 128]⟩

abbrev nBuf : Space → Nat
  | .hbm => 68
  | .vmem => 18
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x4624, .f32⟩
  | .hbm, ⟨3, _⟩ => ⟨S1x64, .f32⟩
  | .hbm, ⟨4, _⟩ => ⟨S1x64, .f32⟩
  | .hbm, ⟨5, _⟩ => ⟨S1x16x512, .f32⟩
  | .hbm, ⟨6, _⟩ => ⟨S1x512, .f32⟩
  | .hbm, ⟨7, _⟩ => ⟨S1024x4624, .f32⟩
  | .hbm, ⟨8, _⟩ => ⟨S1024x1536, .f32⟩
  | .hbm, ⟨9, _⟩ => ⟨S1536x1024, .f32⟩
  | .hbm, ⟨10, _⟩ => ⟨S1536x1024, .bf16⟩
  | .hbm, ⟨11, _⟩ => ⟨S1024x4624, .f32⟩
  | .hbm, ⟨12, _⟩ => ⟨S1024x3088, .f32⟩
  | .hbm, ⟨13, _⟩ => ⟨S_, .i32⟩
  | .hbm, ⟨14, _⟩ => ⟨S_, .f32⟩
  | .hbm, ⟨15, _⟩ => ⟨S1024x3200, .f32⟩
  | .hbm, ⟨16, _⟩ => ⟨S1024x3200, .bf16⟩
  | .hbm, ⟨17, _⟩ => ⟨S16x512, .f32⟩
  | .hbm, ⟨18, _⟩ => ⟨S_, .i32⟩
  | .hbm, ⟨19, _⟩ => ⟨S_, .f32⟩
  | .hbm, ⟨20, _⟩ => ⟨S128x512, .f32⟩
  | .hbm, ⟨21, _⟩ => ⟨S128x512, .bf16⟩
  | .hbm, ⟨22, _⟩ => ⟨S1024, .f32⟩
  | .hbm, ⟨23, _⟩ => ⟨S1x1024, .f32⟩
  | .hbm, ⟨24, _⟩ => ⟨S64, .f32⟩
  | .hbm, ⟨25, _⟩ => ⟨S64x1, .f32⟩
  | .hbm, ⟨26, _⟩ => ⟨S64, .f32⟩
  | .hbm, ⟨27, _⟩ => ⟨S64x1, .f32⟩
  | .hbm, ⟨28, _⟩ => ⟨S512, .f32⟩
  | .hbm, ⟨29, _⟩ => ⟨S1x512, .f32⟩
  | .hbm, ⟨30, _⟩ => ⟨S4, .i32⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32x1, .f32⟩
  | .hbm, ⟨43, _⟩ => ⟨S4, .f32⟩
  | .hbm, ⟨44, _⟩ => ⟨S1x4, .f32⟩
  | .hbm, ⟨45, _⟩ => ⟨S32x4, .f32⟩
  | .hbm, ⟨46, _⟩ => ⟨S32x4, .f32⟩
  | .hbm, ⟨47, _⟩ => ⟨S32x4, .f32⟩
  | .hbm, ⟨48, _⟩ => ⟨S32x4, .f32⟩
  | .hbm, ⟨49, _⟩ => ⟨S32x4, .f32⟩
  | .hbm, ⟨50, _⟩ => ⟨S64x4, .f32⟩
  | .hbm, ⟨51, _⟩ => ⟨S32x4, .f32⟩
  | .hbm, ⟨52, _⟩ => ⟨S64x4, .f32⟩
  | .hbm, ⟨53, _⟩ => ⟨S1x128x1024, .f32⟩
  | .hbm, ⟨54, _⟩ => ⟨S1x64x1x4, .f32⟩
  | .hbm, ⟨55, _⟩ => ⟨S1x64x32x4, .f32⟩
  | .hbm, ⟨56, _⟩ => ⟨S64x128, .f32⟩
  | .hbm, ⟨57, _⟩ => ⟨S1x64x1x4, .f32⟩
  | .hbm, ⟨58, _⟩ => ⟨S1x64x32x4, .f32⟩
  | .hbm, ⟨59, _⟩ => ⟨S64x128, .f32⟩
  | .hbm, ⟨60, _⟩ => ⟨S1x8x64x128, .f32⟩
  | .hbm, ⟨61, _⟩ => ⟨S1x8x64x128, .f32⟩
  | .hbm, ⟨62, _⟩ => ⟨S1x8x64x128, .f32⟩
  | .hbm, ⟨63, _⟩ => ⟨S1x128x512, .f32⟩
  | .hbm, ⟨64, _⟩ => ⟨S1x128x512, .f32⟩
  | .hbm, ⟨65, _⟩ => ⟨S1x128x1024, .bf16⟩
  | .hbm, ⟨66, _⟩ => ⟨S1x128x512, .f32⟩
  | .hbm, ⟨67, _⟩ => ⟨S1x128x1024, .bf16⟩
  | .local _ .vmem, ⟨0, _⟩ => ⟨S1x128x1024, .f32⟩
  | .local _ .vmem, ⟨1, _⟩ => ⟨S1x1024, .f32⟩
  | .local _ .vmem, ⟨2, _⟩ => ⟨S1536x1024, .bf16⟩
  | .local _ .vmem, ⟨3, _⟩ => ⟨S1024x3200, .bf16⟩
  | .local _ .vmem, ⟨4, _⟩ => ⟨S64x1, .f32⟩
  | .local _ .vmem, ⟨5, _⟩ => ⟨S64x1, .f32⟩
  | .local _ .vmem, ⟨6, _⟩ => ⟨S128x512, .bf16⟩
  | .local _ .vmem, ⟨7, _⟩ => ⟨S1x512, .f32⟩
  | .local _ .vmem, ⟨8, _⟩ => ⟨S64x128, .f32⟩
  | .local _ .vmem, ⟨9, _⟩ => ⟨S64x128, .f32⟩
  | .local _ .vmem, ⟨10, _⟩ => ⟨S1x8x64x128, .f32⟩
  | .local _ .vmem, ⟨11, _⟩ => ⟨S1x8x64x128, .f32⟩
  | .local _ .vmem, ⟨12, _⟩ => ⟨S1x8x64x128, .f32⟩
  | .local _ .vmem, ⟨13, _⟩ => ⟨S1x128x512, .f32⟩
  | .local _ .vmem, ⟨14, _⟩ => ⟨S1x128x512, .f32⟩
  | .local _ .vmem, ⟨15, _⟩ => ⟨S1x128x1024, .bf16⟩
  | .local _ .vmem, ⟨16, _⟩ => ⟨S1x128x512, .f32⟩
  | .local _ .vmem, ⟨17, _⟩ => ⟨S1x128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v46_3 : Ref sig .tc := ⟨.hbm, 63, rfl⟩
abbrev main_v46_4 : Ref sig .tc := ⟨.hbm, 64, rfl⟩
abbrev main_v46_5 : Ref sig .tc := ⟨.hbm, 65, rfl⟩
abbrev main_v46_6 : Ref sig .tc := ⟨.hbm, 66, rfl⟩
abbrev main_v46_7 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x8x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x8x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== ProjSRefIdeal.lean ====
abbrev S32x4x1024 : Shape := ⟨3, ![32, 4, 1024]⟩
abbrev S1x1024 : Shape := ⟨2, ![1, 1024]⟩
abbrev S1x1024x4624 : Shape := ⟨3, ![1, 1024, 4624]⟩
abbrev S1x64 : Shape := ⟨2, ![1, 64]⟩
abbrev S1x16x512 : Shape := ⟨3, ![1, 16, 512]⟩
abbrev S1x512 : Shape := ⟨2, ![1, 512]⟩
abbrev S1x128x1024 : Shape := ⟨3, ![1, 128, 1024]⟩
abbrev S1024 : Shape := ⟨1, ![1024]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1024x4624 : Shape := ⟨2, ![1024, 4624]⟩
abbrev S1x128x4624 : Shape := ⟨3, ![1, 128, 4624]⟩
abbrev S1x128x512 : Shape := ⟨3, ![1, 128, 512]⟩
abbrev S1x128x16 : Shape := ⟨3, ![1, 128, 16]⟩
abbrev S32 : Shape := ⟨1, ![32]⟩
abbrev S4 : Shape := ⟨1, ![4]⟩
abbrev S1x4 : Shape := ⟨2, ![1, 4]⟩
abbrev S32x4 : Shape := ⟨2, ![32, 4]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S1x128x8x64 : Shape := ⟨4, ![1, 128, 8, 64]⟩
abbrev S1x8x128x64 : Shape := ⟨4, ![1, 8, 128, 64]⟩
abbrev S64 : Shape := ⟨1, ![64]⟩
abbrev S1x8x128 : Shape := ⟨3, ![1, 8, 128]⟩
abbrev S1x8x128x1 : Shape := ⟨4, ![1, 8, 128, 1]⟩
abbrev S1x1x1x64 : Shape := ⟨4, ![1, 1, 1, 64]⟩
abbrev S1x8x128x32 : Shape := ⟨4, ![1, 8, 128, 32]⟩
abbrev S1x1x128x32 : Shape := ⟨4, ![1, 1, 128, 32]⟩
abbrev S16x512 : Shape := ⟨2, ![16, 512]⟩
abbrev S512 : Shape := ⟨1, ![512]⟩
abbrev S1x1x512 : Shape := ⟨3, ![1, 1, 512]⟩
abbrev S1x8x64x128 : Shape := ⟨4, ![1, 8, 64, 128]⟩

abbrev nBuf : Space → Nat
  | .hbm => 162
  | .vmem => 0
  | .smem => 0
  | _ => 0

abbrev hbmTy0_0 (i : Nat) : BufTy := match i % 128 with
  | 0 => ⟨S32x4x1024, .f32⟩
  | 1 => ⟨S1x1024, .f32⟩
  | 2 => ⟨S1x1024x4624, .f32⟩
  | 3 => ⟨S1x64, .f32⟩
  | 4 => ⟨S1x64, .f32⟩
  | 5 => ⟨S1x16x512, .f32⟩
  | 6 => ⟨S1x512, .f32⟩
  | 7 => ⟨S1x128x1024, .f32⟩
  | 8 => ⟨S1024, .f32⟩
  | 9 => ⟨S1x128x1024, .f32⟩
  | 10 => ⟨S_, .f32⟩
  | 11 => ⟨S1x128, .f32⟩
  | 12 => ⟨S1x128x1, .f32⟩
  | 13 => ⟨S_, .f32⟩
  | 14 => ⟨S1x128x1, .f32⟩
  | 15 => ⟨S1x128x1, .f32⟩
  | 16 => ⟨S_, .f32⟩
  | 17 => ⟨S1x128x1, .f32⟩
  | 18 => ⟨S1x128x1, .f32⟩
  | 19 => ⟨S1x128x1, .f32⟩
  | 20 => ⟨S1x128x1024, .f32⟩
  | 21 => ⟨S1x128x1024, .f32⟩
  | 22 => ⟨S1x1x1024, .f32⟩
  | 23 => ⟨S1x128x1024, .f32⟩
  | 24 => ⟨S1x128x1024, .f32⟩
  | 25 => ⟨S1024x4624, .f32⟩
  | 26 => ⟨S1x128x4624, .f32⟩
  | 27 => ⟨S1x128x512, .f32⟩
  | 28 => ⟨S1x128x512, .f32⟩
  | 29 => ⟨S1x128x512, .f32⟩
  | 30 => ⟨S1x128x512, .f32⟩
  | 31 => ⟨S1x128x512, .f32⟩
  | 32 => ⟨S1x128x1024, .f32⟩
  | 33 => ⟨S1x128x1024, .f32⟩
  | 34 => ⟨S1x128x16, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4, .i32⟩
  | 44 => ⟨S_, .i32⟩
  | 45 => ⟨S4, .i32⟩
  | 46 => ⟨S4, .i32⟩
  | 47 => ⟨S1x4, .i32⟩
  | 48 => ⟨S32x4, .i32⟩
  | 49 => ⟨S128, .i32⟩
  | 50 => ⟨S128, .f32⟩
  | 51 => ⟨S128x1, .f32⟩
  | 52 => ⟨S1x32, .f32⟩
  | 53 => ⟨S128x32, .f32⟩
  | 54 => ⟨S128x32, .f32⟩
  | 55 => ⟨S128x32, .f32⟩
  | 56 => ⟨S128x32, .f32⟩
  | 57 => ⟨S128x32, .f32⟩
  | 58 => ⟨S1x128x8x64, .f32⟩
  | 59 => ⟨S1x8x128x64, .f32⟩
  | 60 => ⟨S64, .f32⟩
  | 61 => ⟨S1x8x128x64, .f32⟩
  | 62 => ⟨S_, .f32⟩
  | 63 => ⟨S1x8x128, .f32⟩
  | 64 => ⟨S1x8x128x1, .f32⟩
  | 65 => ⟨S_, .f32⟩
  | 66 => ⟨S1x8x128x1, .f32⟩
  | 67 => ⟨S1x8x128x1, .f32⟩
  | 68 => ⟨S_, .f32⟩
  | 69 => ⟨S1x8x128x1, .f32⟩
  | 70 => ⟨S1x8x128x1, .f32⟩
  | 71 => ⟨S1x8x128x1, .f32⟩
  | 72 => ⟨S1x8x128x64, .f32⟩
  | 73 => ⟨S1x8x128x64, .f32⟩
  | 74 => ⟨S1x1x1x64, .f32⟩
  | 75 => ⟨S1x8x128x64, .f32⟩
  | 76 => ⟨S1x8x128x64, .f32⟩
  | 77 => ⟨S1x8x128x32, .f32⟩
  | 78 => ⟨S1x8x128x32, .f32⟩
  | 79 => ⟨S1x1x128x32, .f32⟩
  | 80 => ⟨S1x8x128x32, .f32⟩
  | 81 => ⟨S1x8x128x32, .f32⟩
  | 82 => ⟨S1x1x128x32, .f32⟩
  | 83 => ⟨S1x8x128x32, .f32⟩
  | 84 => ⟨S1x8x128x32, .f32⟩
  | 85 => ⟨S1x8x128x32, .f32⟩
  | 86 => ⟨S1x1x128x32, .f32⟩
  | 87 => ⟨S1x8x128x32, .f32⟩
  | 88 => ⟨S1x8x128x32, .f32⟩
  | 89 => ⟨S1x1x128x32, .f32⟩
  | 90 => ⟨S1x8x128x32, .f32⟩
  | 91 => ⟨S1x8x128x32, .f32⟩
  | 92 => ⟨S1x8x128x32, .f32⟩
  | 93 => ⟨S1x8x128x64, .f32⟩
  | 94 => ⟨S1x128x8x64, .f32⟩
  | 95 => ⟨S1x8x128x64, .f32⟩
  | 96 => ⟨S64, .f32⟩
  | 97 => ⟨S1x8x128x64, .f32⟩
  | 98 => ⟨S_, .f32⟩
  | 99 => ⟨S1x8x128, .f32⟩
  | 100 => ⟨S1x8x128x1, .f32⟩
  | 101 => ⟨S_, .f32⟩
  | 102 => ⟨S1x8x128x1, .f32⟩
  | 103 => ⟨S1x8x128x1, .f32⟩
  | 104 => ⟨S_, .f32⟩
  | 105 => ⟨S1x8x128x1, .f32⟩
  | 106 => ⟨S1x8x128x1, .f32⟩
  | 107 => ⟨S1x8x128x1, .f32⟩
  | 108 => ⟨S1x8x128x64, .f32⟩
  | 109 => ⟨S1x8x128x64, .f32⟩
  | 110 => ⟨S1x1x1x64, .f32⟩
  | 111 => ⟨S1x8x128x64, .f32⟩
  | 112 => ⟨S1x8x128x64, .f32⟩
  | 113 => ⟨S1x8x128x32, .f32⟩
  | 114 => ⟨S1x8x128x32, .f32⟩
  | 115 => ⟨S1x1x128x32, .f32⟩
  | 116 => ⟨S1x8x128x32, .f32⟩
  | 117 => ⟨S1x8x128x32, .f32⟩
  | 118 => ⟨S1x1x128x32, .f32⟩
  | 119 => ⟨S1x8x128x32, .f32⟩
  | 120 => ⟨S1x8x128x32, .f32⟩
  | 121 => ⟨S1x8x128x32, .f32⟩
  | 122 => ⟨S1x1x128x32, .f32⟩
  | 123 => ⟨S1x8x128x32, .f32⟩
  | 124 => ⟨S1x8x128x32, .f32⟩
  | 125 => ⟨S1x1x128x32, .f32⟩
  | 126 => ⟨S1x8x128x32, .f32⟩
  | 127 => ⟨S1x8x128x32, .f32⟩
  | _ => ⟨S32x4x1024, .f32⟩

abbrev hbmTy0_1 (i : Nat) : BufTy := match i % 128 with
  | 0 => ⟨S1x8x128x32, .f32⟩
  | 1 => ⟨S1x8x128x64, .f32⟩
  | 2 => ⟨S1x128x8x64, .f32⟩
  | 3 => ⟨S1x8x128x64, .f32⟩
  | 4 => ⟨S16x512, .f32⟩
  | 5 => ⟨S1x128x512, .f32⟩
  | 6 => ⟨S512, .f32⟩
  | 7 => ⟨S1x1x512, .f32⟩
  | 8 => ⟨S1x128x512, .f32⟩
  | 9 => ⟨S1x128x512, .f32⟩
  | 10 => ⟨S1x128x512, .f32⟩
  | 11 => ⟨S_, .f32⟩
  | 12 => ⟨S1x128x512, .f32⟩
  | 13 => ⟨S1x128x512, .f32⟩
  | 14 => ⟨S1x128x512, .f32⟩
  | 15 => ⟨S1x128x512, .f32⟩
  | 16 => ⟨S1x128x512, .i1⟩
  | 17 => ⟨S1x128x512, .f32⟩
  | 18 => ⟨S1x128x512, .f32⟩
  | 19 => ⟨S1x128x512, .f32⟩
  | 20 => ⟨S1x128x512, .f32⟩
  | 21 => ⟨S1x128x512, .f32⟩
  | 22 => ⟨S1x128x512, .f32⟩
  | 23 => ⟨S1x128x512, .f32⟩
  | 24 => ⟨S1x128x512, .f32⟩
  | 25 => ⟨S1x128x512, .f32⟩
  | 26 => ⟨S_, .f32⟩
  | 27 => ⟨S1x128x512, .f32⟩
  | 28 => ⟨S1x128x512, .f32⟩
  | 29 => ⟨S1x8x64x128, .f32⟩
  | 30 => ⟨S1x8x64x128, .f32⟩
  | 31 => ⟨S1x8x64x128, .f32⟩
  | 32 => ⟨S1x128x1024, .bf16⟩
  | 33 => ⟨S1x128x1024, .bf16⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_7 : Ref sig .tc := ⟨.hbm, 98, rfl⟩
abbrev main_v82 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_call0_v0 : Ref sig .tc := ⟨.hbm, 138, rfl⟩
abbrev main_call0_call0_cst : Ref sig .tc := ⟨.hbm, 139, rfl⟩
abbrev main_call0_call0_v0 : Ref sig .tc := ⟨.hbm, 140, rfl⟩
abbrev main_call0_call0_v1 : Ref sig .tc := ⟨.hbm, 141, rfl⟩
abbrev main_call0_call0_v2 : Ref sig .tc := ⟨.hbm, 142, rfl⟩
abbrev main_call0_call0_v3 : Ref sig .tc := ⟨.hbm, 143, rfl⟩
abbrev main_call0_call0_v4 : Ref sig .tc := ⟨.hbm, 144, rfl⟩
abbrev main_call0_call0_v5 : Ref sig .tc := ⟨.hbm, 145, rfl⟩
abbrev main_call0_call0_v6 : Ref sig .tc := ⟨.hbm, 146, rfl⟩
abbrev main_call0_call0_v7 : Ref sig .tc := ⟨.hbm, 147, rfl⟩
abbrev main_call0_call0_v8 : Ref sig .tc := ⟨.hbm, 148, rfl⟩
abbrev main_call0_call0_v9 : Ref sig .tc := ⟨.hbm, 149, rfl⟩
abbrev main_call0_call0_v10 : Ref sig .tc := ⟨.hbm, 150, rfl⟩
abbrev main_call0_call0_v11 : Ref sig .tc := ⟨.hbm, 151, rfl⟩
abbrev main_call0_v1 : Ref sig .tc := ⟨.hbm, 152, rfl⟩
abbrev main_v119 : Ref sig .tc := ⟨.hbm, 153, rfl⟩
abbrev main_cst_10 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S1x1024x32 : Shape := ⟨3, ![1, 1024, 32]⟩
abbrev S1x32 : Shape := ⟨2, ![1, 32]⟩
abbrev S1024 : Shape := ⟨1, ![1024]⟩
abbrev S512x1024 : Shape := ⟨2, ![512, 1024]⟩
abbrev S1024x1024 : Shape := ⟨2, ![1024, 1024]⟩
abbrev S1024x2048 : Shape := ⟨2, ![1024, 2048]⟩
abbrev S1024x32 : Shape := ⟨2, ![1024, 32]⟩
abbrev S32 : Shape := ⟨1, ![32]⟩
abbrev S32768x1024 : Shape := ⟨2, ![32768, 1024]⟩
abbrev S32768x512 : Shape := ⟨2, ![32768, 512]⟩
abbrev S32768x4 : Shape := ⟨2, ![32768, 4]⟩
abbrev S512x512 : Shape := ⟨2, ![512, 512]⟩
abbrev S512x4 : Shape := ⟨2, ![512, 4]⟩
abbrev S512 : Shape := ⟨1, ![512]⟩
abbrev S512x1 : Shape := ⟨2, ![512, 1]⟩
abbrev S512x32 : Shape := ⟨2, ![512, 32]⟩

abbrev nBuf : Space → Nat
  | .hbm => 37
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x1024, .bf16⟩
  | .hbm, ⟨3, _⟩ => ⟨S1x1024, .f32⟩
  | .hbm, ⟨4, _⟩ => ⟨S1x512x1024, .f32⟩
  | .hbm, ⟨5, _⟩ => ⟨S1x1024x1024, .f32⟩
  | .hbm, ⟨6, _⟩ => ⟨S1x1024x2048, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x2048, .f32⟩
  | .hbm, ⟨20, _⟩ => ⟨S1024x2048, .bf16⟩
  | .hbm, ⟨21, _⟩ => ⟨S1024x1024, .f32⟩
  | .hbm, ⟨22, _⟩ => ⟨S1024x1024, .bf16⟩
  | .hbm, ⟨23, _⟩ => ⟨S1024x32, .f32⟩
  | .hbm, ⟨24, _⟩ => ⟨S32, .f32⟩
  | .hbm, ⟨25, _⟩ => ⟨S1x32, .f32⟩
  | .hbm, ⟨26, _⟩ => ⟨S32768x1024, .f32⟩
  | .hbm, ⟨27, _⟩ => ⟨S32768x512, .bf16⟩
  | .hbm, ⟨28, _⟩ => ⟨S32768x1024, .bf16⟩
  | .hbm, ⟨29, _⟩ => ⟨S1024x32, .bf16⟩
  | .hbm, ⟨30, _⟩ => ⟨S1024x32, .f32⟩
  | .hbm, ⟨31, _⟩ => ⟨S1024x32, .f32⟩
  | .hbm, ⟨32, _⟩ => ⟨S1024x32, .bf16⟩
  | .hbm, ⟨33, _⟩ => ⟨S32768x1024, .f32⟩
  | .hbm, ⟨34, _⟩ => ⟨S32768x1024, .bf16⟩
  | .hbm, ⟨35, _⟩ => ⟨S32768x4, .i32⟩
  | .hbm, ⟨36, _⟩ => ⟨S32768x4, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .bf16⟩
  | .local _ .vmem, ⟨8, _⟩ => ⟨S1024x1024, .bf16⟩
  | .local _ .vmem, ⟨9, _⟩ => ⟨S1024x2048, .bf16⟩
  | .local _ .vmem, ⟨10, _⟩ => ⟨S1024x1024, .bf16⟩
  | .local _ .vmem, ⟨11, _⟩ => ⟨S1x1024, .f32⟩
  | .local _ .vmem, ⟨12, _⟩ => ⟨S1024x32, .bf16⟩
  | .local _ .vmem, ⟨13, _⟩ => ⟨S1024x32, .bf16⟩
  | .local _ .vmem, ⟨14, _⟩ => ⟨S1x32, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x4, .i32⟩
  | .local _ .vmem, ⟨20, _⟩ => ⟨S512x4, .i32⟩
  | .local _ .vmem, ⟨21, _⟩ => ⟨S512x4, .f32⟩
  | .local _ .vmem, ⟨22, _⟩ => ⟨S512x4, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S4x8192x1024 : Shape := ⟨3, ![4, 8192, 1024]⟩
abbrev S4x8192x512 : Shape := ⟨3, ![4, 8192, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S1x1024x32 : Shape := ⟨3, ![1, 1024, 32]⟩
abbrev S1x32 : Shape := ⟨2, ![1, 32]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x512 : Shape := ⟨2, ![32768, 512]⟩
abbrev S512x1024 : Shape := ⟨2, ![512, 1024]⟩
abbrev S1024x1024 : Shape := ⟨2, ![1024, 1024]⟩
abbrev S1024x2048 : Shape := ⟨2, ![1024, 2048]⟩
abbrev S32768x2048 : Shape := ⟨2, ![32768, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x1024, .bf16⟩
  | .hbm, ⟨3, _⟩ => ⟨S1x1024, .f32⟩
  | .hbm, ⟨4, _⟩ => ⟨S1x512x1024, .f32⟩
  | .hbm, ⟨5, _⟩ => ⟨S1x1024x1024, .f32⟩
  | .hbm, ⟨6, _⟩ => ⟨S1x1024x2048, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S32768x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S4x8192x512, .f32⟩
  | .hbm, ⟨30, _⟩ => ⟨S32768x512, .f32⟩
  | .hbm, ⟨31, _⟩ => ⟨S512x1024, .f32⟩
  | .hbm, ⟨32, _⟩ => ⟨S32768x1024, .f32⟩
  | .hbm, ⟨33, _⟩ => ⟨S4x8192x1024, .f32⟩
  | .hbm, ⟨34, _⟩ => ⟨S32768x1024, .f32⟩
  | .hbm, ⟨35, _⟩ => ⟨S1024x1024, .f32⟩
  | .hbm, ⟨36, _⟩ => ⟨S32768x1024, .f32⟩
  | .hbm, ⟨37, _⟩ => ⟨S1024x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S32768x1024, .f32⟩
  | .hbm, ⟨55, _⟩ => ⟨S1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Combine.lean ====
abbrev S32768x1024 : Shape := ⟨2, ![32768, 1024]⟩
abbrev S4x32768x1024 : Shape := ⟨3, ![4, 32768, 1024]⟩
abbrev S32768x4 : Shape := ⟨2, ![32768, 4]⟩
abbrev S1024x1024 : Shape := ⟨2, ![1024, 1024]⟩
abbrev S4x1024x1024 : Shape := ⟨3, ![4, 1024, 1024]⟩
abbrev S1024x4 : Shape := ⟨2, ![1024, 4]⟩
abbrev S1024x1 : Shape := ⟨2, ![1024, 1]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S32768x4, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1024x4, .f32⟩
  | .local _ .vmem, ⟨5, _⟩ => ⟨S1024x4, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineIdeal.lean ====
abbrev S32768x1024 : Shape := ⟨2, ![32768, 1024]⟩
abbrev S4x32768x1024 : Shape := ⟨3, ![4, 32768, 1024]⟩
abbrev S32768x4 : Shape := ⟨2, ![32768, 4]⟩
abbrev S1024x1024 : Shape := ⟨2, ![1024, 1024]⟩
abbrev S4x1024x1024 : Shape := ⟨3, ![4, 1024, 1024]⟩
abbrev S1024x4 : Shape := ⟨2, ![1024, 4]⟩
abbrev S1024x1 : Shape := ⟨2, ![1024, 1]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S32768x4, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1024x4, .f32⟩
  | .local _ .vmem, ⟨5, _⟩ => ⟨S1024x4, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S32768x1024 : Shape := ⟨2, ![32768, 1024]⟩
abbrev S4x32768x1024 : Shape := ⟨3, ![4, 32768, 1024]⟩
abbrev S32768x4 : Shape := ⟨2, ![32768, 4]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S32768x4, .f32⟩
  | .hbm, ⟨3, _⟩ => ⟨S4x32768x1024, .f32⟩
  | .hbm, ⟨4, _⟩ => ⟨S32768x1024, .f32⟩
  | .hbm, ⟨5, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CombineS.lean ====
abbrev S128x1024 : Shape := ⟨2, ![128, 1024]⟩
abbrev S4x128x1024 : Shape := ⟨3, ![4, 128, 1024]⟩
abbrev S128x4 : Shape := ⟨2, ![128, 4]⟩
abbrev S128x1 : Shape := ⟨2, ![128, 1]⟩
abbrev S1x128x1024 : Shape := ⟨3, ![1, 128, 1024]⟩

abbrev nBuf : Space → Nat
  | .hbm => 4
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S4x128x1024, .bf16⟩
  | .hbm, ⟨2, _⟩ => ⟨S128x4, .f32⟩
  | .hbm, ⟨3, _⟩ => ⟨S128x1024, .f32⟩
  | .local _ .vmem, ⟨0, _⟩ => ⟨S128x1024, .f32⟩
  | .local _ .vmem, ⟨1, _⟩ => ⟨S4x128x1024, .bf16⟩
  | .local _ .vmem, ⟨2, _⟩ => ⟨S128x4, .f32⟩
  | .local _ .vmem, ⟨3, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== CombineSRefIdeal.lean ====
abbrev S128x1024 : Shape := ⟨2, ![128, 1024]⟩
abbrev S4x128x1024 : Shape := ⟨3, ![4, 128, 1024]⟩
abbrev S128x4 : Shape := ⟨2, ![128, 4]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x128x1024, .bf16⟩
  | .hbm, ⟨2, _⟩ => ⟨S128x4, .f32⟩
  | .hbm, ⟨3, _⟩ => ⟨S4x128x1024, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Experts.lean ====
abbrev S147456x1024 : Shape := ⟨2, ![147456, 1024]⟩
abbrev S288 : Shape := ⟨1, ![288]⟩
abbrev S1 : Shape := ⟨1, ![1]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024 : Shape := ⟨2, ![32, 1024]⟩
abbrev S32x1x1024 : Shape := ⟨3, ![32, 1, 1024]⟩
abbrev S32x1024x1024 : Shape := ⟨3, ![32, 1024, 1024]⟩
abbrev S512x1024 : Shape := ⟨2, ![512, 1024]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x256x128 : Shape := ⟨3, ![8, 256, 128]⟩
abbrev S1x128x256 : Shape := ⟨3, ![1, 128, 256]⟩
abbrev S128x256 : Shape := ⟨2, ![128, 256]⟩
abbrev S256x128 : Shape := ⟨2, ![256, 128]⟩
abbrev S1x256x128 : Shape := ⟨3, ![1, 256, 128]⟩
abbrev S1x128x128 : Shape := ⟨3, ![1, 128, 128]⟩
abbrev S128x128 : Shape := ⟨2, ![128, 128]⟩
abbrev S1x1024 : Shape := ⟨2, ![1, 1024]⟩

abbrev nBuf : Space → Nat
  | .hbm => 16
  | .vmem => 18
  | .smem => 2
  | _ => 0

abbrev bufTy : (tb : Table) → Fin (tcTables nBuf tb) → BufTy
  | .hbm, ⟨0, _⟩ => ⟨S147456x1024, .bf16⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1024, .f32⟩
  | .hbm, ⟨8, _⟩ => ⟨S32x1x1024, .f32⟩
  | .hbm, ⟨9, _⟩ => ⟨S32x2048, .f32⟩
  | .hbm, ⟨10, _⟩ => ⟨S32x1024, .f32⟩
  | .hbm, ⟨11, _⟩ => ⟨S32x1x1024, .f32⟩
  | .hbm, ⟨12, _⟩ => ⟨S32x1024x1024, .f32⟩
  | .hbm, ⟨13, _⟩ => ⟨S32x1024, .f32⟩
  | .hbm, ⟨14, _⟩ => ⟨S32x1x1024, .f32⟩
  | .hbm, ⟨15, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S8x256x128, .f32⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsRefIdeal.lean ====
abbrev S147456x1024 : Shape := ⟨2, ![147456, 1024]⟩
abbrev S288 : Shape := ⟨1, ![288]⟩
abbrev S1 : Shape := ⟨1, ![1]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x2048 : Shape := ⟨2, ![288, 2048]⟩
abbrev S288x1024x1024 : Shape := ⟨3, ![288, 1024, 1024]⟩
abbrev S288x1024 : Shape := ⟨2, ![288, 1024]⟩
abbrev S288x512x2048 : Shape := ⟨3, ![288, 512, 2048]⟩
abbrev S288x1x2048 : Shape := ⟨3, ![288, 1, 2048]⟩
abbrev S288x1x1024 : Shape := ⟨3, ![288, 1, 1024]⟩
abbrev S288x1x1 : Shape := ⟨3, ![288, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S1, .i32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S32x1024x2048, .f32⟩
  | .hbm, ⟨8, _⟩ => ⟨S32x2048, .f32⟩
  | .hbm, ⟨9, _⟩ => ⟨S32x1024x1024, .f32⟩
  | .hbm, ⟨10, _⟩ => ⟨S32x1024, .f32⟩
  | .hbm, ⟨11, _⟩ => ⟨S147456x1024, .f32⟩
  | .hbm, ⟨12, _⟩ => ⟨S288x512x1024, .f32⟩
  | .hbm, ⟨13, _⟩ => ⟨S_, .i32⟩
  | .hbm, ⟨14, _⟩ => ⟨S288, .i32⟩
  | .hbm, ⟨15, _⟩ => ⟨S288, .i1⟩
  | .hbm, ⟨16, _⟩ => ⟨S_, .i32⟩
  | .hbm, ⟨17, _⟩ => ⟨S288, .i32⟩
  | .hbm, ⟨18, _⟩ => ⟨S288, .i32⟩
  | .hbm, ⟨19, _⟩ => ⟨S288, .i32⟩
  | .hbm, ⟨20, _⟩ => ⟨S288x1, .i32⟩
  | .hbm, ⟨21, _⟩ => ⟨S288x1024x2048, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x2048, .f32⟩
  | .hbm, ⟨31, _⟩ => ⟨S_, .i32⟩
  | .hbm, ⟨32, _⟩ => ⟨S288, .i32⟩
  | .hbm, ⟨33, _⟩ => ⟨S288, .i1⟩
  | .hbm, ⟨34, _⟩ => ⟨S_, .i32⟩
  | .hbm, ⟨35, _⟩ => ⟨S288, .i32⟩
  | .hbm, ⟨36, _⟩ => ⟨S288, .i32⟩
  | .hbm, ⟨37, _⟩ => ⟨S288, .i32⟩
  | .hbm, ⟨38, _⟩ => ⟨S288x1, .i32⟩
  | .hbm, ⟨39, _⟩ => ⟨S288x1024x1024, .f32⟩
  | .hbm, ⟨40, _⟩ => ⟨S_, .i32⟩
  | .hbm, ⟨41, _⟩ => ⟨S288, .i32⟩
  | .hbm, ⟨42, _⟩ => ⟨S288, .i1⟩
  | .hbm, ⟨43, _⟩ => ⟨S_, .i32⟩
  | .hbm, ⟨44, _⟩ => ⟨S288, .i32⟩
  | .hbm, ⟨45, _⟩ => ⟨S288, .i32⟩
  | .hbm, ⟨46, _⟩ => ⟨S288, .i32⟩
  | .hbm, ⟨47, _⟩ => ⟨S288x1, .i32⟩
  | .hbm, ⟨48, _⟩ => ⟨S288x1024, .f32⟩
  | .hbm, ⟨49, _⟩ => ⟨S288x512x2048, .f32⟩
  | .hbm, ⟨50, _⟩ => ⟨S288x1x2048, .f32⟩
  | .hbm, ⟨51, _⟩ => ⟨S288x512x2048, .f32⟩
  | .hbm, ⟨52, _⟩ => ⟨S288x512x2048, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S_, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .f32⟩
  | .hbm, ⟨72, _⟩ => ⟨S288x512x1024, .f32⟩
  | .hbm, ⟨73, _⟩ => ⟨S288x512x1024, .f32⟩
  | .hbm, ⟨74, _⟩ => ⟨S_, .f32⟩
  | .hbm, ⟨75, _⟩ => ⟨S288x512x1024, .f32⟩
  | .hbm, ⟨76, _⟩ => ⟨S288x512x1024, .f32⟩
  | .hbm, ⟨77, _⟩ => ⟨S288x512x1024, .f32⟩
  | .hbm, ⟨78, _⟩ => ⟨S_, .f32⟩
  | .hbm, ⟨79, _⟩ => ⟨S288x512x1024, .f32⟩
  | .hbm, ⟨80, _⟩ => ⟨S288x512x1024, .f32⟩
  | .hbm, ⟨81, _⟩ => ⟨S288x512x1024, .f32⟩
  | .hbm, ⟨82, _⟩ => ⟨S288x512x1024, .f32⟩
  | .hbm, ⟨83, _⟩ => ⟨S288x1x1024, .f32⟩
  | .hbm, ⟨84, _⟩ => ⟨S288x512x1024, .f32⟩
  | .hbm, ⟨85, _⟩ => ⟨S288x512x1024, .f32⟩
  | .hbm, ⟨86, _⟩ => ⟨S288, .i32⟩
  | .hbm, ⟨87, _⟩ => ⟨S288, .i32⟩
  | .hbm, ⟨88, _⟩ => ⟨S288, .i1⟩
  | .hbm, ⟨89, _⟩ => ⟨S288x1x1, .i1⟩
  | .hbm, ⟨90, _⟩ => ⟨S_, .f32⟩
  | .hbm, ⟨91, _⟩ => ⟨S_, .f32⟩
  | .hbm, ⟨92, _⟩ => ⟨S288x512x1024, .i1⟩
  | .hbm, ⟨93, _⟩ => ⟨S288x512x1024, .f32⟩
  | .hbm, ⟨94, _⟩ => ⟨S288x512x1024, .f32⟩
  | .hbm, ⟨95, _⟩ => ⟨S147456x1024, .f32⟩
  | .hbm, ⟨96, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Proof.Gla.Head.lean ====
/- One head of the gated linear attention step, as the kernel computes it: the state after the four tokens of a
   sequence, and the normalised, gated output of each token.  The four heads run the same arithmetic on their own
   blocks, so each is this head. -/
module

public import proofs.«01_k».proof.Proof.Gen.GlaSampleIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.GlaProof

open Cert.GlaSampleIdeal Cert.GlaSampleIdeal.Gen

/-- The state a head stores: its four steps on the state it loads. -/
abbrev headS (s : Vec Ideal S1x1x1x128x256 .f32) (k la : Vec Ideal S1x1x128x4 .f32) (v : Vec Ideal S1x4x256 .bf16) :
    FVec Ideal S1x1x128x256 .f32 :=
  k0_pay16 (k0_pay11 (k0_pay4 k) (k0_pay5 la) (k0_pay6 v) (k0_pay9 s k la v))

/-- The output a head stores: each token's read of the state, normalised and gated. -/
abbrev headO (s : Vec Ideal S1x1x1x128x256 .f32) (q k la : Vec Ideal S1x1x128x4 .f32) (v g : Vec Ideal S1x4x256 .bf16)
    (w : Vec Ideal S1x256 .f32) : FVec Ideal S1x4x256 .bf16 :=
  k0_pay15 (k0_pay12 g) (k0_pay13 (k0_pay3 q) (k0_pay4 k) (k0_pay5 la) (k0_pay6 v) (k0_pay8 s q k la v) (k0_pay9 s k la v))
    (k0_pay14 w)

section
variable (s : Vec Ideal S1x1x1x128x256 .f32) (q k la : Vec Ideal S1x1x128x4 .f32) (v g : Vec Ideal S1x4x256 .bf16)
  (w : Vec Ideal S1x256 .f32)

theorem headS_one : k0_pay29 (k0_pay26 (k0_pay18 k) (k0_pay19 la) (k0_pay20 v) (k0_pay21 s la) (k0_pay22 k)) = headS s k la v := rfl

theorem headS_two : k0_pay43 (k0_pay32 k) (k0_pay33 la) (k0_pay34 v) (k0_pay39 (k0_pay30 s) k la v) = headS s k la v := rfl

theorem headS_three : k0_pay2 (k0_pay52 (k0_pay45 k) (k0_pay46 la) (k0_pay47 v) (k0_pay50 s k la v)) = headS s k la v := rfl

theorem headO_one : k0_pay28 (k0_pay27 (k0_pay17 q) (k0_pay18 k) (k0_pay19 la) (k0_pay20 v) (k0_pay21 s la) (k0_pay22 k)) g w
    = headO s q k la v g w := rfl

theorem headO_two : k0_pay42 (k0_pay31 q) (k0_pay32 k) (k0_pay33 la) (k0_pay34 v) (k0_pay36 (k0_pay30 s) (k0_pay31 q) k la v)
      (k0_pay38 (k0_pay30 s) (k0_pay31 q) k la v) (k0_pay39 (k0_pay30 s) k la v) (k0_pay40 (k0_pay30 s) (k0_pay31 q) k la v) g w
    = headO s q k la v g w := rfl

theorem headO_three : k0_pay1 (k0_pay53 g) (k0_pay54 (k0_pay44 q) (k0_pay45 k) (k0_pay46 la) (k0_pay47 v) (k0_pay49 s q k la v)
      (k0_pay50 s k la v)) (k0_pay55 w) = headO s q k la v g w := rfl

/-- The state after each token, at one entry: `s ↦ exp a · s + k · v`. -/
def st (s : EReal) (a k v : Fin 4 → EReal) : Fin 4 → EReal := fun t =>
  let s0 := Ideal.exp (a 0) * s + k 0 * v 0
  let s1 := Ideal.exp (a 1) * s0 + k 1 * v 1
  let s2 := Ideal.exp (a 2) * s1 + k 2 * v 2
  let s3 := Ideal.exp (a 3) * s2 + k 3 * v 3
  ![s0, s1, s2, s3] t

theorem headS_at (y : S1x1x128x256.Idx) : headS s k la v y
    = st (s (ix5 0 0 0 (y 2) (y 3))) (fun t => la (ix4 0 0 (y 2) t)) (fun t => k (ix4 0 0 (y 2) t)) (fun t => v (ix3 0 t (y 3))) 3 := by
  pointwise [headS, k0_pay16, k0_pay11, k0_pay10, k0_pay9, k0_pay7, k0_pay6, k0_pay5, k0_pay4, st]

/-- A token's read of the state: the scaled query against the state after that token. -/
def oo (s : Fin 128 → Fin 256 → EReal) (q a k : Fin 128 → Fin 4 → EReal) (v : Fin 4 → Fin 256 → EReal) (t : Fin 4) (c : Fin 256) : EReal :=
  ∑ d : Fin 128, q d t * Ideal.ofBits .f32 0x3DB504F3#32 * st (s d c) (a d) (k d) (fun t => v t c) t

/-- A row normalised, scaled and gated. -/
def outg (o : Fin 256 → EReal) (w g : EReal) (c : Fin 256) : EReal :=
  o c * Ideal.rsqrt (Ideal.div (∑ c' : Fin 256, o c' * o c') (Ideal.ofBits .f32 0x43800000#32) + Ideal.ofBits .f32 0x358637BD#32) * w
    * (g * Ideal.logistic g)

theorem headO_at (y : S1x4x256.Idx) : headO s q k la v g w y
    = outg (fun c => oo (fun d c => s (ix5 0 0 0 d c)) (fun d t => q (ix4 0 0 d t)) (fun d t => la (ix4 0 0 d t)) (fun d t => k (ix4 0 0 d t))
        (fun t c => v (ix3 0 t c)) (y 1) c) (w (ix2 0 (y 2))) (g (ix3 0 (y 1) (y 2))) (y 2) := by
  idx_vars y
  pointwise [headO, k0_pay15, k0_pay14, k0_pay13, k0_pay12, k0_pay11, k0_pay10, k0_pay9, k0_pay8, k0_pay7, k0_pay6, k0_pay5, k0_pay4, k0_pay3, oo, outg, st]
  fin_cases y1 <;> rfl
end

end Cert.GlaProof

end
-- ==== Proof.Gla.Maths.lean ====
/- The mathematics of one head of gated linear attention, over the reals: four steps of the recurrence
   `s ↦ exp a · s + k v` from a state `s` reach the chunk form, in which a token `i`'s contribution to the state after
   token `t` is decayed by `exp (b t - b i)`, `b` the running sum of the log decays. -/
module

public import proofs.«01_k».proof.Proof.Gla.Head

@[expose] public section

noncomputable section

open Idealize.ShloMosaic
open scoped BigOperators

namespace Cert.GlaProof

/-- The running sum of the log decays up to and with token `t`. -/
def csum {R : Type} [AddCommMonoid R] (a : Fin 4 → R) (t : Fin 4) : R := ∑ i : Fin 4, if i ≤ t then a i else 0

/-- A finite sum of reals is the real sum. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem csum_coe (a : Fin 4 → ℝ) (t : Fin 4) : csum (fun i => (a i : EReal)) t = ((csum a t : ℝ) : EReal) := by
  unfold csum
  rw [coe_sum]
  refine Finset.sum_congr rfl fun i _ => ?_
  split_ifs <;> simp

/-- The state after each token over the reals. -/
def stR (s : ℝ) (a k v : Fin 4 → ℝ) (t : Fin 4) : ℝ :=
  Real.exp (csum a t) * s + ∑ i : Fin 4, if i ≤ t then k i * Real.exp (csum a t - csum a i) * v i else 0

/-- The recurrence reaches the chunk form. -/
theorem st_coe (s : ℝ) (a k v : Fin 4 → ℝ) (t : Fin 4) :
    st (s : EReal) (fun i => (a i : EReal)) (fun i => (k i : EReal)) (fun i => (v i : EReal)) t = ((stR s a k v t : ℝ) : EReal) := by
  have key : ∀ x y : ℝ, Ideal.exp (x : EReal) * (y : EReal) = ((Real.exp x * y : ℝ) : EReal) := fun x y => by
    rw [Ideal.exp_coe, EReal.coe_mul]
  fin_cases t <;>
  · simp only [st, stR, csum, Fin.sum_univ_four, key, ← EReal.coe_mul, ← EReal.coe_add]
    refine EReal.coe_eq_coe_iff.2 ?_
    simp [Fin.le_def, Real.exp_add, sub_eq_add_neg, Real.exp_neg]
    try field_simp
    try ring

/-- The reference's state after the last token. -/
theorem state_chunk (s : ℝ) (a k v : Fin 4 → ℝ) :
    Ideal.exp (csum (fun i => (a i : EReal)) 3) * (s : EReal)
        + ∑ i : Fin 4, (k i : EReal) * Ideal.exp (csum (fun i => (a i : EReal)) 3 - csum (fun i => (a i : EReal)) i) * (v i : EReal)
      = st (s : EReal) (fun i => (a i : EReal)) (fun i => (k i : EReal)) (fun i => (v i : EReal)) 3 := by
  rw [st_coe]
  simp only [csum_coe, ← EReal.coe_sub, Ideal.exp_coe, ← EReal.coe_mul, ← coe_sum, ← EReal.coe_add]
  refine EReal.coe_eq_coe_iff.2 ?_
  unfold stR
  refine congrArg _ (Finset.sum_congr rfl fun i _ => ?_)
  rw [if_pos (by fin_cases i <;> decide)]

/-- The decay the reference's mask leaves between two tokens. -/
def dec (b : Fin 4 → EReal) (t i : Fin 4) : EReal := Ideal.exp (if i ≤ t then b t - b i else ⊥)

/-- The reference's output before the normalisation, over every real `q k v s` and log decay `a`. -/
theorem out_chunk (κ : ℝ) (s : Fin 128 → Fin 256 → ℝ) (q a k : Fin 128 → Fin 4 → ℝ) (v : Fin 4 → Fin 256 → ℝ) (t : Fin 4) (c : Fin 256) :
    (∑ i : Fin 4, (∑ d : Fin 128, (q d t : EReal) * (κ : EReal) * (k d i : EReal) * dec (csum fun j => (a d j : EReal)) t i) * (v i c : EReal))
        + ∑ d : Fin 128, (q d t : EReal) * (κ : EReal) * Ideal.exp (csum (fun j => (a d j : EReal)) t) * (s d c : EReal)
      = ∑ d : Fin 128, (q d t : EReal) * (κ : EReal)
          * st (s d c : EReal) (fun i => (a d i : EReal)) (fun i => (k d i : EReal)) (fun i => (v i c : EReal)) t := by
  have hdec : ∀ d i, dec (csum fun j => (a d j : EReal)) t i
      = (((if i ≤ t then Real.exp (csum (a d) t - csum (a d) i) else 0 : ℝ)) : EReal) := fun d i => by
    unfold dec
    split_ifs
    · rw [csum_coe, csum_coe, ← EReal.coe_sub, Ideal.exp_coe]
    · simp
  simp only [st_coe, hdec, csum_coe, Ideal.exp_coe, ← EReal.coe_mul, ← coe_sum, ← EReal.coe_add]
  refine EReal.coe_eq_coe_iff.2 ?_
  simp only [Finset.sum_mul]
  rw [Finset.sum_comm, ← Finset.sum_add_distrib]
  refine Finset.sum_congr rfl fun d _ => ?_
  unfold stR
  rw [mul_add, Finset.mul_sum, add_comm]
  refine congrArg₂ _ (by ring) (Finset.sum_congr rfl fun i _ => ?_)
  split_ifs <;> ring

end Cert.GlaProof

end
-- ==== Proof.Gla.Ref.lean ====
/- What the reference of the gated linear attention step holds at an index: the state after the last token and the
   normalised, gated output, both in the chunk form. -/
module

public import proofs.«01_k».proof.Proof.Gla.Maths
public import proofs.«01_k».proof.Proof.Gen.GlaSampleRefIdeal.Read

@[expose] public section

set_option maxRecDepth 16384

noncomputable section

open Idealize.ShloMosaic Idealize.ShloMosaic.TcCoe Idealize.SL.Sem
open scoped BigOperators

namespace Cert.GlaProof

open Cert.GlaSampleRefIdeal Cert.GlaSampleRefIdeal.Gen Cert.GlaSampleRefIdeal.Read

variable (x0 x1 x2 : FVec Ideal S1x128x512 .f32) (x3 x4 : FVec Ideal S1x128x1024 .bf16) (x5 : FVec Ideal S1x256 .f32)
  (x6 : FVec Ideal S1x32x4x128x256 .f32)

/-- The windowed sum over the token axis, at an index. -/
theorem window_at (x : FVec Ideal S32x4x4x128 .f32) (n : Fin 32) (h t : Fin 4) (d : Fin 128) :
    Host.reduceWindowAdd (u := S_) ![1, 1, 4, 1] ![1, 1, 1, 1] ![0, 0, 3, 0] ![0, 0, 0, 0] x (val_main_call0_call0_v0 (F := Ideal))
        reduceWindows_S32x4x4x128_S32x4x4x128_w1s1p0_0_w1s1p0_0_w4s1p3_0_w1s1p0_0 h_S_ (ix4 n h t d)
      = csum (fun i => x (ix4 n h i d)) t := by
  have hz : (val_main_call0_call0_v0 (F := Ideal)) (Shape.Idx.first h_S_) = 0 := by
    pointwise [val_main_call0_call0_v0, val_main_call0_call0_cst]
  have hW : ∀ (w : Fin 4) (a : Fin 4), (((⟨4, ![1, 1, 4, 1]⟩ : Shape).rowMajor.symm w) a).val = (![0, 0, w.val, 0] : Fin 4 → ℕ) a := by
    decide
  have term : ∀ w : Fin 4,
      (if hin : ∀ a : Fin 4, (![0, 0, 3, 0] : Fin 4 → ℕ) a ≤ ((ix4 n h t d : S32x4x4x128.Idx) a).val * (![1, 1, 1, 1] : Fin 4 → ℕ) a
            + (((⟨4, ![1, 1, 4, 1]⟩ : Shape).rowMajor.symm w) a).val
          ∧ ((ix4 n h t d : S32x4x4x128.Idx) a).val * (![1, 1, 1, 1] : Fin 4 → ℕ) a
            + (((⟨4, ![1, 1, 4, 1]⟩ : Shape).rowMajor.symm w) a).val - (![0, 0, 3, 0] : Fin 4 → ℕ) a < S32x4x4x128.size a
        then x (fun a => ⟨_, (hin a).2⟩) else (0 : EReal))
      = if hc : 3 ≤ t.val + w.val then x (ix4 n h ⟨t.val + w.val - 3, by omega⟩ d) else 0 := fun w => by
    by_cases hc : 3 ≤ t.val + w.val
    · rw [dif_pos hc, dif_pos]
      · refine congrArg x (funext fun a => Fin.ext ?_)
        show _ * _ + _ - _ = _
        rw [hW]
        fin_cases a <;> simp
      · intro a
        rw [hW]
        fin_cases a <;> simp <;> omega
    · rw [dif_neg hc, dif_neg]
      intro hin
      have := (hin 2).1
      rw [hW] at this
      simp at this
      omega
  simp only [Host.reduceWindowAdd, Ideal.hostReduceWindowAdd_def, Ideal.hostReduceWindowAdd, Host.reduceWindow, hz]
  show List.foldl _ _ (List.finRange 4) = _
  rw [show List.finRange 4 = [0, 1, 2, 3] from rfl]
  simp only [List.foldl]
  refine (congrArg₂ (· + ·) (congrArg₂ (· + ·) (congrArg₂ (· + ·) (congrArg₂ (· + ·) rfl (term 0)) (term 1)) (term 2)) (term 3)).trans ?_
  unfold csum
  rw [Fin.sum_univ_four]
  fin_cases t <;> simp [Fin.le_def]

/-- The running sum of the log decays of a sequence's tokens, as the reference takes it. -/
theorem cum_at (n : Fin 32) (h t : Fin 4) (d : Fin 128) : val_main_v12 (F := Ideal) x2 (ix4 n h t d)
    = csum (fun i => x2 (ix3 0 ⟨n.val * 4 + i.val, by omega⟩ ⟨h.val * 128 + d.val, by omega⟩)) t := by
  unfold val_main_v12
  rw [window_at]
  refine congrFun (congrArg csum (funext fun i => ?_)) t
  pointwise [val_main_v11, val_main_v10]

/-- The mask: a token sees itself and the ones before it. -/
theorem mask_at (n : Fin 32) (h t i : Fin 4) (d : Fin 128) (a b : EReal) :
    Scalar.select (val_main_call2_v1 (F := Ideal) (ix5 n h t i d)) a b = if i ≤ t then a else b := by
  pointwise [val_main_call2_v1, val_main_v20, val_main_v19, val_main_v18, val_main_c, val_main_call1_v5, val_main_call1_v4, val_main_call1_v3,
    val_main_call1_v2, val_main_call1_v1, val_main_call1_v0, val_main_call1_c, val_main_call1_c_0]
  fin_cases t <;> fin_cases i <;> rfl

theorem neg_at (j) : val_main_call2_v2 (F := Ideal) j = ⊥ := by
  pointwise [val_main_call2_v2, val_main_call2_v0, val_main_cst_0]
  show Ideal.ofBits .f32 0xFF800000#32 = ⊥
  simp [Ideal.ofBits, Ideal.ieee]

/-- The reference's output before its normalisation. -/
theorem pre_at (n : Fin 32) (h t : Fin 4) (c : Fin 256) : val_main_v34 (F := Ideal) x0 x1 x2 x3 x6 (ix4 n h t c)
    = (∑ i : Fin 4, (∑ d : Fin 128, x0 (ix3 0 ⟨n.val * 4 + t.val, by omega⟩ ⟨h.val * 128 + d.val, by omega⟩) * Ideal.ofBits .f32 0x3DB504F3#32
          * x1 (ix3 0 ⟨n.val * 4 + i.val, by omega⟩ ⟨h.val * 128 + d.val, by omega⟩)
          * dec (csum fun j : Fin 4 => x2 (ix3 0 ⟨n.val * 4 + j.val, by omega⟩ ⟨h.val * 128 + d.val, by omega⟩)) t i)
          * x3 (ix3 0 ⟨n.val * 4 + i.val, by omega⟩ ⟨h.val * 256 + c.val, by omega⟩))
      + ∑ d : Fin 128, x0 (ix3 0 ⟨n.val * 4 + t.val, by omega⟩ ⟨h.val * 128 + d.val, by omega⟩) * Ideal.ofBits .f32 0x3DB504F3#32
          * Ideal.exp (csum (fun j : Fin 4 => x2 (ix3 0 ⟨n.val * 4 + j.val, by omega⟩ ⟨h.val * 128 + d.val, by omega⟩)) t)
          * x6 (ix5 0 n h d c) := by
  pointwise [val_main_v34, val_main_v33, val_main_v32, val_main_v31, val_main_v30, val_main_v29, val_main_v28, val_main_v27, val_main_v26, val_main_v25,
    val_main_v24, val_main_v23, val_main_v22, val_main_v21, val_main_v17, val_main_v16, val_main_v15, val_main_v14, val_main_v13, val_main_v9, val_main_v8,
    val_main_v7, val_main_v6, val_main_v5, val_main_v4, val_main_v3, val_main_v2, val_main_v1, val_main_v0, val_main_cst, val_main_cst_1]
  simp only [cum_at, mask_at, neg_at, dec]

/-- The reference's state after the last token. -/
theorem state_at (n : Fin 32) (h : Fin 4) (d : Fin 128) (c : Fin 256) : val_main_v47 (F := Ideal) x1 x2 x3 x6 (ix4 n h d c)
    = Ideal.exp (csum (fun j : Fin 4 => x2 (ix3 0 ⟨n.val * 4 + j.val, by omega⟩ ⟨h.val * 128 + d.val, by omega⟩)) 3) * x6 (ix5 0 n h d c)
      + ∑ i : Fin 4, x1 (ix3 0 ⟨n.val * 4 + i.val, by omega⟩ ⟨h.val * 128 + d.val, by omega⟩)
          * Ideal.exp (csum (fun j : Fin 4 => x2 (ix3 0 ⟨n.val * 4 + j.val, by omega⟩ ⟨h.val * 128 + d.val, by omega⟩)) 3
              - csum (fun j : Fin 4 => x2 (ix3 0 ⟨n.val * 4 + j.val, by omega⟩ ⟨h.val * 128 + d.val, by omega⟩)) i)
          * x3 (ix3 0 ⟨n.val * 4 + i.val, by omega⟩ ⟨h.val * 256 + c.val, by omega⟩) := by
  pointwise [val_main_v47, val_main_v46, val_main_v45, val_main_v44, val_main_v43, val_main_v42, val_main_v41, val_main_v40, val_main_v39,
    val_main_v38, val_main_v37, val_main_v36, val_main_v35, val_main_v9, val_main_v8, val_main_v7, val_main_v6, val_main_v5, val_main_v4]
  simp only [cum_at]

/-- The reference's normalised, gated output over its output before the normalisation. -/
theorem gated_at (n : Fin 32) (t : Fin 4) (e : Fin 1024) : val_main_v74 (F := Ideal) x0 x1 x2 x3 x4 x5 x6 (ix3 n t e)
    = outg (fun c => val_main_v34 (F := Ideal) x0 x1 x2 x3 x6 (ix4 n ⟨e.val / 256, by omega⟩ t c)) (x5 (ix2 0 ⟨e.val % 256, by omega⟩))
        (x4 (ix3 0 ⟨n.val * 4 + t.val, by omega⟩ e)) ⟨e.val % 256, by omega⟩ := by
  have one : Ideal.ofBits .f32 0x3F800000#32 = 1 := by
    simp [Ideal.ofBits, Ideal.ieee]
    rw [← EReal.coe_mul]
    norm_num
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_cst_2, val_main_cst_3, val_main_cst_4, val_main_cst_5, val_main_cst_6, outg,
    Ideal.logistic, one]

end Cert.GlaProof

end
-- ==== Proof.Gla.Final.lean ====
/- The arrays the gated linear attention step leaves are the reference's, for real inputs: the four heads' blocks
   side by side, and the grid's blocks over the sequences. -/
module

public import proofs.«01_k».proof.Proof.Gla.Ref

@[expose] public section

set_option maxRecDepth 16384

noncomputable section

open Idealize.ShloMosaic Idealize.ShloMosaic.TcCoe Idealize.SL.Sem
open scoped BigOperators

namespace Cert.GlaProof

open Cert.GlaSampleIdeal Cert.GlaSampleIdeal.Gen

section
variable (x0 x1 x2 : Vec Ideal S1x4x128x4 .f32) (x3 x4 : Vec Ideal S1x4x1024 .bf16) (x5 : Vec Ideal S1x256 .f32)
  (x6 : Vec Ideal S1x1x4x128x256 .f32)

theorem st_congr {s s' : EReal} {a a' k k' v v' : Fin 4 → EReal} (t : Fin 4) (hs : s = s') (ha : ∀ i, a i = a' i) (hk : ∀ i, k i = k' i)
    (hv : ∀ i, v i = v' i) : st s a k v t = st s' a' k' v' t := by
  rw [hs, funext ha, funext hk, funext hv]

/-- The state block: head `h` holds its four steps. -/
theorem out8_at (y : S1x4x128x256.Idx) : out0_8 x0 x1 x2 x3 x4 x5 x6 y
    = st (x6 (ix5 0 0 (y 1) (y 2) (y 3))) (fun t => x2 (ix4 0 (y 1) (y 2) t)) (fun t => x1 (ix4 0 (y 1) (y 2) t))
        (fun t => x3 (ix3 0 t ⟨(y 1).val * 256 + (y 3).val, by have h1 : (y 1).val < 4 := (y 1).isLt; have h3 : (y 3).val < 256 := (y 3).isLt; omega⟩)) 3 := by
  canon_tiles x h
  case piece0 =>
    refine ((congrFun (headS_three (View.ld x6 r0_13) (View.ld x1 r0_14) (View.ld x2 r0_14) (View.ld x3 r0_15)) x).trans (headS_at _ _ _ _ x)).trans (st_congr 3 ?_ (fun i => ?_) (fun i => ?_) (fun i => ?_))
    all_goals first | (refine Fin.ext ?_; (try dsimp only); omega) | (pointwise []; congr 2 <;> (refine Fin.ext ?_; (try simp only [Fin.val_zero, Fin.val_one, Fin.val_two]); omega))
  case piece1 =>
    refine ((congrFun (headS_two (View.ld x6 r0_9) (View.ld x1 r0_10) (View.ld x2 r0_10) (View.ld x3 r0_11)) x).trans (headS_at _ _ _ _ x)).trans (st_congr 3 ?_ (fun i => ?_) (fun i => ?_) (fun i => ?_))
    all_goals first | (refine Fin.ext ?_; (try dsimp only); omega) | (pointwise []; congr 2 <;> (refine Fin.ext ?_; (try simp only [Fin.val_zero, Fin.val_one, Fin.val_two]); omega))
  case piece2 =>
    refine ((congrFun (headS_one (View.ld x6 r0_5) (View.ld x1 r0_6) (View.ld x2 r0_6) (View.ld x3 r0_7)) x).trans (headS_at _ _ _ _ x)).trans (st_congr 3 ?_ (fun i => ?_) (fun i => ?_) (fun i => ?_))
    all_goals first | (refine Fin.ext ?_; (try dsimp only); omega) | (pointwise []; congr 2 <;> (refine Fin.ext ?_; (try simp only [Fin.val_zero, Fin.val_one, Fin.val_two]); omega))
  case piece3 =>
    refine (headS_at (View.ld x6 r0_0) (View.ld x1 r0_1) (View.ld x2 r0_1) (View.ld x3 r0_2) x).trans (st_congr 3 ?_ (fun i => ?_) (fun i => ?_) (fun i => ?_))
    all_goals first | (refine Fin.ext ?_; (try dsimp only); omega) | (pointwise []; congr 2 <;> (refine Fin.ext ?_; (try simp only [Fin.val_zero, Fin.val_one, Fin.val_two]); omega))

theorem outg_congr {o o' : Fin 256 → EReal} {w w' g g' : EReal} {c c' : Fin 256} (ho : ∀ i, o i = o' i) (hw : w = w') (hg : g = g') (hc : c = c') :
    outg o w g c = outg o' w' g' c' := by
  rw [funext ho, hw, hg, hc]

theorem oo_congr {s s' : Fin 128 → Fin 256 → EReal} {q q' a a' k k' : Fin 128 → Fin 4 → EReal} {v v' : Fin 4 → Fin 256 → EReal} {t t' : Fin 4}
    (hs : ∀ d c, s d c = s' d c) (hq : ∀ d t, q d t = q' d t) (ha : ∀ d t, a d t = a' d t) (hk : ∀ d t, k d t = k' d t)
    (hv : ∀ t c, v t c = v' t c) (ht : t = t') (c : Fin 256) : oo s q a k v t c = oo s' q' a' k' v' t' c := by
  rw [funext fun d => funext (hs d), funext fun d => funext (hq d), funext fun d => funext (ha d), funext fun d => funext (hk d),
    funext fun d => funext (hv d), ht]

/-- The output block: lanes `256 h …` hold head `h`. -/
theorem out7_at (y : S1x4x1024.Idx) : out0_7 x0 x1 x2 x3 x4 x5 x6 y
    = outg (fun c => oo (fun d c => x6 (ix5 0 0 ⟨(y 2).val / 256, by have h2 : (y 2).val < 1024 := (y 2).isLt; omega⟩ d c))
          (fun d t => x0 (ix4 0 ⟨(y 2).val / 256, by have h2 : (y 2).val < 1024 := (y 2).isLt; omega⟩ d t))
          (fun d t => x2 (ix4 0 ⟨(y 2).val / 256, by have h2 : (y 2).val < 1024 := (y 2).isLt; omega⟩ d t))
          (fun d t => x1 (ix4 0 ⟨(y 2).val / 256, by have h2 : (y 2).val < 1024 := (y 2).isLt; omega⟩ d t))
          (fun t c => x3 (ix3 0 t ⟨(y 2).val / 256 * 256 + c.val, by have h2 : (y 2).val < 1024 := (y 2).isLt; omega⟩)) (y 1) c)
        (x5 (ix2 0 ⟨(y 2).val % 256, by omega⟩)) (x4 (ix3 0 (y 1) (y 2))) ⟨(y 2).val % 256, by omega⟩ := by
  canon_tiles x h
  case piece0 =>
    refine ((congrFun (headO_three (View.ld x6 r0_13) (View.ld x0 r0_14) (View.ld x1 r0_14) (View.ld x2 r0_14) (View.ld x3 r0_15) (View.ld x4 r0_15) (View.ld x5 r0_3)) x).trans (headO_at _ _ _ _ _ _ _ x)).trans (outg_congr (fun c => oo_congr (fun d c => ?_) (fun d t => ?_) (fun d t => ?_) (fun d t => ?_) (fun t c => ?_) ?_ c) ?_ ?_ ?_)
    all_goals first | (refine Fin.ext ?_; (try dsimp only); omega) | (pointwise []; congr 2 <;> (refine Fin.ext ?_; (try simp only [Fin.val_zero, Fin.val_one, Fin.val_two]); omega))
  case piece1 =>
    refine ((congrFun (headO_two (View.ld x6 r0_9) (View.ld x0 r0_10) (View.ld x1 r0_10) (View.ld x2 r0_10) (View.ld x3 r0_11) (View.ld x4 r0_11) (View.ld x5 r0_3)) x).trans (headO_at _ _ _ _ _ _ _ x)).trans (outg_congr (fun c => oo_congr (fun d c => ?_) (fun d t => ?_) (fun d t => ?_) (fun d t => ?_) (fun t c => ?_) ?_ c) ?_ ?_ ?_)
    all_goals first | (refine Fin.ext ?_; (try dsimp only); omega) | (pointwise []; congr 2 <;> (refine Fin.ext ?_; (try simp only [Fin.val_zero, Fin.val_one, Fin.val_two]); omega))
  case piece2 =>
    refine ((congrFun (headO_one (View.ld x6 r0_5) (View.ld x0 r0_6) (View.ld x1 r0_6) (View.ld x2 r0_6) (View.ld x3 r0_7) (View.ld x4 r0_7) (View.ld x5 r0_3)) x).trans (headO_at _ _ _ _ _ _ _ x)).trans (outg_congr (fun c => oo_congr (fun d c => ?_) (fun d t => ?_) (fun d t => ?_) (fun d t => ?_) (fun t c => ?_) ?_ c) ?_ ?_ ?_)
    all_goals first | (refine Fin.ext ?_; (try dsimp only); omega) | (pointwise []; congr 2 <;> (refine Fin.ext ?_; (try simp only [Fin.val_zero, Fin.val_one, Fin.val_two]); omega))
  case piece3 =>
    refine (headO_at (View.ld x6 r0_0) (View.ld x0 r0_1) (View.ld x1 r0_1) (View.ld x2 r0_1) (View.ld x3 r0_2) (View.ld x4 r0_2) (View.ld x5 r0_3) x).trans (outg_congr (fun c => oo_congr (fun d c => ?_) (fun d t => ?_) (fun d t => ?_) (fun d t => ?_) (fun t c => ?_) ?_ c) ?_ ?_ ?_)
    all_goals first | (refine Fin.ext ?_; (try dsimp only); omega) | (pointwise []; congr 2 <;> (refine Fin.ext ?_; (try simp only [Fin.val_zero, Fin.val_one, Fin.val_two]); omega))
end

end Cert.GlaProof

end
-- ==== Proof.Finite.lean ====
/- What a stated precondition "every element is finite" says of an array over the extended reals: the array is one
   of real numbers. -/
module

public import Idealize.ShloMosaic.Lib.Pipeline.ValueKit
public import Idealize.ShloMosaic.Lib.Pointwise

@[expose] public section

noncomputable section

open Idealize.ShloMosaic

namespace Cert.Finite

theorem and_one (a b : BitVec 1) (h : IntOp.andi a b = 1#1) : a = 1#1 ∧ b = 1#1 := by
  revert a b; decide

theorem foldl_and {α : Type} (f : α → BitVec 1) (l : List α) (i : BitVec 1)
    (h : l.foldl (fun r n => IntOp.andi r (f n)) i = 1#1) : i = 1#1 ∧ ∀ n ∈ l, f n = 1#1 := by
  induction l generalizing i with
  | nil => exact ⟨h, fun n hn => absurd hn (by simp)⟩
  | cons a l ih =>
    obtain ⟨h1, h2⟩ := ih _ h
    obtain ⟨h3, h4⟩ := and_one _ _ h1
    refine ⟨h3, fun n hn => ?_⟩
    rcases List.mem_cons.1 hn with rfl | hn
    · exact h4
    · exact h2 n hn

/-- A conjunction over a whole array that is true is true at every index. -/
theorem all_of_reduce {s u : Shape} {axes : List (Fin s.rank)} (x : IVec s 1) (init : IVec u 1) (h : s.ReducesTo axes ⟨0, ![]⟩)
    (hu : 0 < u.numel) (e : Host.reduce IntOp.andi x init h hu ix0 = 1#1) (i : s.Idx) : x i = 1#1 := by
  have := (foldl_and (fun n => x (s.rowMajor.symm n)) _ _ e).2 (s.rowMajor i)
    (by
      rw [List.mem_filter]
      refine ⟨List.mem_finRange _, ?_⟩
      rw [decide_eq_true_eq]
      exact funext fun a => a.elim0)
  simpa using this

/-- An extended real whose magnitude is below infinity is a real number. -/
theorem real_of_lt (x : EReal) (h : BitVec.ofBool (decide (max x (-x) < Ideal.ofBits .f32 0x7F800000#32)) = 1#1) :
    ∃ r : ℝ, x = (r : EReal) := by
  have ht : Ideal.ofBits .f32 0x7F800000#32 = ⊤ := by simp [Ideal.ofBits, Ideal.ieee]
  rw [ht] at h
  have h' : max x (-x) < ⊤ := by
    by_contra hc
    rw [decide_eq_false hc] at h
    exact absurd h (by decide)
  induction x with
  | bot => simp at h'
  | top => simp at h'
  | coe r => exact ⟨r, rfl⟩

/-- An array each of whose elements is a real number is the image of one array of reals. -/
theorem choose_real {ι : Type} (x : ι → EReal) (h : ∀ i, ∃ r : ℝ, x i = (r : EReal)) : ∃ f : ι → ℝ, x = fun i => (f i : EReal) :=
  ⟨fun i => (h i).choose, funext fun i => (h i).choose_spec⟩

end Cert.Finite

end
-- ==== Proof.Gla.Pre.lean ====
/- The precondition of the gated linear attention step: queries, keys, log decays, values and state are real numbers. -/
module

public import proofs.«01_k».proof.Proof.Finite
public import proofs.«01_k».proof.Proof.Gen.Pre_finite_inputs

@[expose] public section

set_option maxRecDepth 16384

noncomputable section

open Idealize.ShloMosaic

namespace Cert.GlaProof

open Cert.Pre_finite_inputs Cert.Pre_finite_inputs.Gen Cert.Finite

theorem pre_real (x0 x1 x2 : FVec Ideal S1x128x512 .f32) (x3 x4 : FVec Ideal S1x128x1024 .bf16) (x5 : FVec Ideal S1x256 .f32)
    (x6 : FVec Ideal S1x32x4x128x256 .f32) (h : Cert.Pre_finite_inputs.fn (F := Ideal) x0 x1 x2 x3 x4 x5 x6 = fun _ => 1#1) :
    (∃ f : S1x128x512.Idx → ℝ, x0 = fun i => (f i : EReal)) ∧ (∃ f : S1x128x512.Idx → ℝ, x1 = fun i => (f i : EReal))
      ∧ (∃ f : S1x128x512.Idx → ℝ, x2 = fun i => (f i : EReal)) ∧ (∃ f : S1x128x1024.Idx → ℝ, x3 = fun i => (f i : EReal))
      ∧ (∃ f : S1x32x4x128x256.Idx → ℝ, x6 = fun i => (f i : EReal)) := by
  have e := congrFun h ix0
  obtain ⟨e, h6⟩ := and_one _ _ e
  obtain ⟨e, h3⟩ := and_one _ _ e
  obtain ⟨e, h2⟩ := and_one _ _ e
  obtain ⟨h0, h1⟩ := and_one _ _ e
  exact ⟨choose_real _ fun i => real_of_lt _ (all_of_reduce _ _ _ _ h0 i), choose_real _ fun i => real_of_lt _ (all_of_reduce _ _ _ _ h1 i),
    choose_real _ fun i => real_of_lt _ (all_of_reduce _ _ _ _ h2 i), choose_real _ fun i => real_of_lt _ (all_of_reduce _ _ _ _ h3 i),
    choose_real _ fun i => real_of_lt _ (all_of_reduce _ _ _ _ h6 i)⟩

end Cert.GlaProof

end
-- ==== Proof.Gla.Blocks.lean ====
/- What the blocks of the gated linear attention step hold at a grid point, in terms of the arguments. -/
module

public import proofs.«01_k».proof.Proof.Gla.Final
public import proofs.«01_k».proof.Proof.Gla.Maths
public import proofs.«01_k».proof.Proof.Gla.Pre

@[expose] public section

set_option maxRecDepth 16384

noncomputable section

open Idealize.ShloMosaic Idealize.ShloMosaic.TcCoe Idealize.SL.Sem
open scoped BigOperators

namespace Cert.GlaProof

open Cert.GlaSampleIdeal Cert.GlaSampleIdeal.Gen

variable (m : (ℓ : Loc nD τ sig) → Buf (Elt Ideal) ℓ)

/-- The block each window takes at a grid point. -/
theorem idx : ∀ t : Fin cfg0.N, win0_0.index t = ![t.val, 0, 0, 0]
    ∧ win0_1.index t = ![t.val, 0, 0, 0]
    ∧ win0_2.index t = ![t.val, 0, 0, 0]
    ∧ win0_3.index t = ![t.val, 0, 0]
    ∧ win0_4.index t = ![t.val, 0, 0]
    ∧ win0_5.index t = ![0, 0]
    ∧ win0_6.index t = ![0, t.val, 0, 0, 0]
    ∧ win0_7.index t = ![t.val, 0, 0]
    ∧ win0_8.index t = ![t.val, 0, 0, 0] :=
  (by decide +kernel : ∀ t : Fin grid0.N, _)

variable (c : Dev nD) (t : Fin cfg0.N)

theorem tlt : t.val < 32 := t.isLt

theorem blk0 (h : Fin 4) (d : Fin 128) (j : Fin 4) : iblk m c 0 t (ix4 0 h d j)
    = (m ((c : Thread nD τ).loc main_arg0)) (ix3 0 ⟨t.val * 4 + j.val, by have := tlt t; omega⟩ ⟨h.val * 128 + d.val, by omega⟩) := by
  have := tlt t
  blk_point [iblk, V, idx t]

theorem blk1 (h : Fin 4) (d : Fin 128) (j : Fin 4) : iblk m c 1 t (ix4 0 h d j)
    = (m ((c : Thread nD τ).loc main_arg1)) (ix3 0 ⟨t.val * 4 + j.val, by have := tlt t; omega⟩ ⟨h.val * 128 + d.val, by omega⟩) := by
  have := tlt t
  blk_point [iblk, V, idx t]

theorem blk2 (h : Fin 4) (d : Fin 128) (j : Fin 4) : iblk m c 2 t (ix4 0 h d j)
    = (m ((c : Thread nD τ).loc main_arg2)) (ix3 0 ⟨t.val * 4 + j.val, by have := tlt t; omega⟩ ⟨h.val * 128 + d.val, by omega⟩) := by
  have := tlt t
  blk_point [iblk, V, idx t]

theorem blk3 (j : Fin 4) (e : Fin 1024) : iblk m c 3 t (ix3 0 j e)
    = (m ((c : Thread nD τ).loc main_arg3)) (ix3 0 ⟨t.val * 4 + j.val, by have := tlt t; omega⟩ e) := by
  have := tlt t
  blk_point [iblk, V, idx t]

theorem blk4 (j : Fin 4) (e : Fin 1024) : iblk m c 4 t (ix3 0 j e)
    = (m ((c : Thread nD τ).loc main_arg4)) (ix3 0 ⟨t.val * 4 + j.val, by have := tlt t; omega⟩ e) := by
  have := tlt t
  blk_point [iblk, V, idx t]

theorem blk5 (e : Fin 256) : iblk m c 5 t (ix2 0 e) = (m ((c : Thread nD τ).loc main_arg5)) (ix2 0 e) := by
  blk_point [iblk, V, idx t]

theorem blk6 (h : Fin 4) (d : Fin 128) (e : Fin 256) : iblk m c 6 t (ix5 0 0 h d e)
    = (m ((c : Thread nD τ).loc main_arg6)) (ix5 0 ⟨t.val, tlt t⟩ h d e) := by
  have := tlt t
  blk_point [iblk, V, idx t]

end Cert.GlaProof

end
-- ==== Proof.Gla.Value.lean ====
/- The arrays the gated linear attention step leaves are the reference's, for real inputs. -/
module

public import proofs.«01_k».proof.Proof.Gla.Blocks

@[expose] public section

set_option maxRecDepth 16384

noncomputable section

open Idealize.ShloMosaic Idealize.ShloMosaic.TcCoe Idealize.SL.Sem
open scoped BigOperators

namespace Cert.GlaProof

open Cert.GlaSampleIdeal Cert.GlaSampleIdeal.Gen

/-- The scale is a real number. -/
theorem scale_real : ∃ κ : ℝ, Ideal.ofBits .f32 0x3DB504F3#32 = (κ : EReal) :=
  ⟨_, by simp [Ideal.ofBits, Ideal.ieee]; rw [← EReal.coe_mul]⟩

variable (x0 x1 x2 : FVec Ideal S1x128x512 .f32) (x3 x4 : FVec Ideal S1x128x1024 .bf16) (x5 : FVec Ideal S1x256 .f32)
  (x6 : FVec Ideal S1x32x4x128x256 .f32)

/-- The reference's state, as the recurrence. -/
theorem ref_state (hp : Cert.Pre_finite_inputs.fn (F := Ideal) x0 x1 x2 x3 x4 x5 x6 = fun _ => 1#1)
    (n : Fin 32) (h : Fin 4) (d : Fin 128) (c : Fin 256) :
    Cert.GlaSampleRefIdeal.Read.val_main_v47 (F := Ideal) x1 x2 x3 x6 (ix4 n h d c)
      = st (x6 (ix5 0 n h d c)) (fun j => x2 (ix3 0 ⟨n.val * 4 + j.val, by omega⟩ ⟨h.val * 128 + d.val, by omega⟩))
          (fun j => x1 (ix3 0 ⟨n.val * 4 + j.val, by omega⟩ ⟨h.val * 128 + d.val, by omega⟩))
          (fun j => x3 (ix3 0 ⟨n.val * 4 + j.val, by omega⟩ ⟨h.val * 256 + c.val, by omega⟩)) 3 := by
  obtain ⟨-, ⟨f1, rfl⟩, ⟨f2, rfl⟩, ⟨f3, rfl⟩, ⟨f6, rfl⟩⟩ := pre_real _ _ _ _ _ _ _ hp
  rw [state_at]
  exact state_chunk _ _ _ _

/-- The reference's output before the normalisation, as reads of the recurrence's states. -/
theorem ref_out (hp : Cert.Pre_finite_inputs.fn (F := Ideal) x0 x1 x2 x3 x4 x5 x6 = fun _ => 1#1)
    (n : Fin 32) (h t : Fin 4) (c : Fin 256) :
    Cert.GlaSampleRefIdeal.Read.val_main_v34 (F := Ideal) x0 x1 x2 x3 x6 (ix4 n h t c)
      = oo (fun d c => x6 (ix5 0 n h d c)) (fun d j => x0 (ix3 0 ⟨n.val * 4 + j.val, by omega⟩ ⟨h.val * 128 + d.val, by omega⟩))
          (fun d j => x2 (ix3 0 ⟨n.val * 4 + j.val, by omega⟩ ⟨h.val * 128 + d.val, by omega⟩))
          (fun d j => x1 (ix3 0 ⟨n.val * 4 + j.val, by omega⟩ ⟨h.val * 128 + d.val, by omega⟩))
          (fun j c => x3 (ix3 0 ⟨n.val * 4 + j.val, by omega⟩ ⟨h.val * 256 + c.val, by omega⟩)) t c := by
  obtain ⟨⟨f0, rfl⟩, ⟨f1, rfl⟩, ⟨f2, rfl⟩, ⟨f3, rfl⟩, ⟨f6, rfl⟩⟩ := pre_real _ _ _ _ _ _ _ hp
  obtain ⟨κ, hκ⟩ := scale_real
  rw [pre_at]
  unfold oo
  rw [hκ]
  exact out_chunk κ (fun d c => f6 (ix5 0 n h d c)) (fun d j => f0 (ix3 0 ⟨n.val * 4 + j.val, by omega⟩ ⟨h.val * 128 + d.val, by omega⟩))
    (fun d j => f2 (ix3 0 ⟨n.val * 4 + j.val, by omega⟩ ⟨h.val * 128 + d.val, by omega⟩))
    (fun d j => f1 (ix3 0 ⟨n.val * 4 + j.val, by omega⟩ ⟨h.val * 128 + d.val, by omega⟩))
    (fun j c => f3 (ix3 0 ⟨n.val * 4 + j.val, by omega⟩ ⟨h.val * 256 + c.val, by omega⟩)) t c

variable (m : (ℓ : Loc nD τ sig) → Buf (Elt Ideal) ℓ) (c : Dev nD)

theorem emb8 (t : Fin cfg0.N) (y : S1x4x128x256.Idx) :
    ((cfg0.win 8).blk t).view.emb y = (ix4 ⟨t.val, tlt t⟩ (y 1) (y 2) (y 3) : S32x4x128x256.Idx) := by
  have := tlt t
  blk_ext [idx t]

theorem emb7 (t : Fin cfg0.N) (y : S1x4x1024.Idx) :
    ((cfg0.win 7).blk t).view.emb y = (ix3 ⟨t.val, tlt t⟩ (y 1) (y 2) : S32x4x1024.Idx) := by
  have := tlt t
  blk_ext [idx t]

section
variable (hp : Cert.Pre_finite_inputs.fn (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) = fun _ => 1#1)
include hp

theorem point8 (t : Fin cfg0.N) (y : S1x4x128x256.Idx) :
    out0_8 (iblk m c 0 t) (iblk m c 1 t) (iblk m c 2 t) (iblk m c 3 t) (iblk m c 4 t) (iblk m c 5 t) (iblk m c 6 t) y
      = Cert.GlaSampleRefIdeal.Read.val_main_v47 (F := Ideal) (m ((c : Thread nD τ).loc main_arg1))
          (m ((c : Thread nD τ).loc main_arg2)) (m ((c : Thread nD τ).loc main_arg3)) (m ((c : Thread nD τ).loc main_arg6))
          (((cfg0.win 8).blk t).view.emb y) := by
  refine (out8_at _ _ _ _ _ _ _ y).trans (Eq.trans ?_
    ((congrArg _ (emb8 t y)).trans (ref_state _ _ _ _ _ _ _ hp ⟨t.val, tlt t⟩ (y 1) (y 2) (y 3))).symm)
  exact st_congr 3 (blk6 m c t _ _ _) (fun _ => blk2 m c t _ _ _) (fun _ => blk1 m c t _ _ _) (fun _ => blk3 m c t _ _)

theorem point7 (t : Fin cfg0.N) (y : S1x4x1024.Idx) :
    out0_7 (iblk m c 0 t) (iblk m c 1 t) (iblk m c 2 t) (iblk m c 3 t) (iblk m c 4 t) (iblk m c 5 t) (iblk m c 6 t) y
      = Cert.GlaSampleRefIdeal.Read.val_main_v74 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          (((cfg0.win 7).blk t).view.emb y) := by
  refine (out7_at _ _ _ _ _ _ _ y).trans (Eq.trans ?_
    ((congrArg _ (emb7 t y)).trans (gated_at _ _ _ _ _ _ _ ⟨t.val, tlt t⟩ (y 1) (y 2))).symm)
  exact outg_congr (fun c' => (oo_congr (fun _ _ => blk6 m c t _ _ _) (fun _ _ => blk0 m c t _ _ _) (fun _ _ => blk2 m c t _ _ _)
    (fun _ _ => blk1 m c t _ _ _) (fun _ _ => blk3 m c t _ _) rfl c').trans (ref_out _ _ _ _ _ _ _ hp _ _ _ _).symm) (blk5 m c t _) (blk4 m c t _ _) rfl

/-- The state array is the reference's. -/
theorem final8 : (dats m 0 c).arrAt 8 (cfgs 0).N
    = Cert.GlaSampleRefIdeal.Read.val_main_v47 (F := Ideal) (m ((c : Thread nD τ).loc main_arg1))
          (m ((c : Thread nD τ).loc main_arg2)) (m ((c : Thread nD τ).loc main_arg3)) (m ((c : Thread nD τ).loc main_arg6)) := by
  refine (dats m 0 c).arrAt_eq_of_covers 8 _ (by decide +kernel) fun t hf y => ?_
  blk_simp; rw [after0_8]
  exact point8 m c hp t y

/-- The output array is the reference's. -/
theorem final7 : (dats m 0 c).arrAt 7 (cfgs 0).N
    = Cert.GlaSampleRefIdeal.Read.val_main_v74 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t hf y => ?_
  blk_simp; rw [after0_7]
  exact point7 m c hp t y
end

end Cert.GlaProof

end
-- ==== Proof.Gla.Claim.lean ====
/- The gated linear attention step against its reference, as stated. -/
module

public import proofs.«01_k».proof.Defs
public import proofs.«01_k».proof.Proof.Gla.Value
public import proofs.«01_k».proof.Proof.Gen.GlaSampleRefIdeal.Run
public import Idealize.ShloMosaic.Lib.Claim

@[expose] public section

set_option maxRecDepth 16384

noncomputable section

open Idealize.ShloMosaic Idealize.ShloMosaic.TcCoe Idealize.SL.Sem

namespace Cert.GlaProof

set_option maxHeartbeats 1600000 in
theorem algebraic : Cert.algebraic_GlaSampleIdeal_GlaSampleRefIdeal_pre_finite_inputs (hGlaSampleIdeal := Cert.GlaSampleIdeal.Gen.facts)
    (hGlaSampleRefIdeal := Cert.GlaSampleRefIdeal.Gen.facts) (hPre_finite_inputs := Cert.Pre_finite_inputs.Gen.facts) := by
  pair_intro
  · run_from Cert.GlaSampleIdeal.Gen.run_main m g
  · run_from Cert.GlaSampleRefIdeal.Value.run m' g'
    · rw [Cert.GlaSampleRefIdeal.Read.val_main_v74_eq]
      obtain ⟨a0, a1, a2, a3, a4, a5, a6⟩ := hagree c
      rw [a0, a1, a2, a3, a4, a5, a6]
      exact (final7 m c (hpre c)).symm
    · exact (Cert.GlaSampleRefIdeal.Read.val_main_v47_eq _ _ _ _).trans (final8 m c (hpre c)).symm

end Cert.GlaProof

end
-- ==== Proof.Proj.Forms.lean ====
/- The rows the projection computes, as functions of the rows they come from. -/
module

public import Idealize.ShloMosaic.PureOps.Ideal

@[expose] public section

noncomputable section

open Idealize.ShloMosaic
open scoped BigOperators

namespace Cert.ProjForms

/-- A row of 1024 normalised and scaled. -/
def hrow (x g : Fin 1024 → EReal) (k : Fin 1024) : EReal :=
  x k * Ideal.rsqrt (Ideal.div (∑ k' : Fin 1024, x k' * x k') (Ideal.ofBits .f32 0x44800000#32) + Ideal.ofBits .f32 0x358637BD#32) * g k

/-- A head of 64 normalised and scaled. -/
def nr (z g : Fin 64 → EReal) (d : Fin 64) : EReal :=
  z d * Ideal.rsqrt (Ideal.div (∑ d' : Fin 64, z d' * z d') (Ideal.ofBits .f32 0x42800000#32) + Ideal.ofBits .f32 0x358637BD#32) * g d

/-- A head rotated, the second half's sign being in the table `s`. -/
def rope (y c s : Fin 64 → EReal) (d : Fin 64) : EReal :=
  y d * c d + (if h : d.val < 32 then y ⟨32 + d.val, by omega⟩ else y ⟨d.val - 32, by omega⟩) * s d

/-- The logarithm of the logistic function over sixteen, in the form that never exponentiates a positive number. -/
def lsig (u : EReal) : EReal :=
  Ideal.div (min u 0 - Ideal.log (Ideal.ofBits .f32 0x3F800000#32 + Ideal.exp (0 - max u (-u)))) (Ideal.ofBits .f32 0x41800000#32)

/-- The rotation written with one angle for each pair of entries. -/
def rope' (y : Fin 64 → EReal) (c s : Fin 32 → EReal) (d : Fin 64) : EReal :=
  if h : d.val < 32 then y d * c ⟨d.val, h⟩ - y ⟨32 + d.val, by omega⟩ * s ⟨d.val, h⟩
  else y d * c ⟨d.val - 32, by omega⟩ + y ⟨d.val - 32, by omega⟩ * s ⟨d.val - 32, by omega⟩

/-- Both ways of writing the rotation agree where the long tables repeat the short ones, the sines negated in the first half. -/
theorem rope'_eq (y c s : Fin 64 → EReal) (c' s' : Fin 32 → EReal) (d : Fin 64)
    (hc : ∀ d : Fin 64, c d = if h : d.val < 32 then c' ⟨d.val, h⟩ else c' ⟨d.val - 32, by omega⟩)
    (hs : ∀ d : Fin 64, s d = if h : d.val < 32 then -s' ⟨d.val, h⟩ else s' ⟨d.val - 32, by omega⟩) :
    rope y c s d = rope' y c' s' d := by
  unfold rope rope'
  by_cases h : d.val < 32
  · rw [dif_pos h, dif_pos h, hc, hs, dif_pos h, dif_pos h, mul_neg, sub_eq_add_neg]
  · rw [dif_neg h, dif_neg h, hc, hs, dif_neg h, dif_neg h]

theorem one_f32 : Ideal.ofBits .f32 0x3F800000#32 = 1 := by
  simp [Ideal.ofBits, Ideal.ieee]
  rw [← EReal.coe_mul]
  norm_num

/-- One plus a nonnegative real has a finite logarithm. -/
theorem log_one_add (r : ℝ) (h : 0 ≤ r) : Ideal.log (1 + (r : EReal)) = (Real.log (1 + r) : ℝ) := by
  have e : (1 : EReal) + (r : EReal) = ((1 + r : ℝ) : EReal) := by push_cast; rfl
  rw [e]
  show (if 1 + r ≤ 0 then (⊥ : EReal) else _) = _
  rw [if_neg (by linarith)]

/-- One plus the exponential of a number that is not positive has a finite logarithm. -/
theorem log_fin (a : EReal) (h : 0 ≤ a) : ∃ r : ℝ, Ideal.log (1 + Ideal.exp (-a)) = (r : EReal) := by
  induction a using EReal.rec with
  | bot => simp at h
  | top => exact ⟨_, log_one_add 0 le_rfl⟩
  | coe x => exact ⟨_, log_one_add (Real.exp (-x)) (Real.exp_pos _).le⟩

/-- The logarithm of the logistic function over sixteen, from the softplus of the negated argument. -/
theorem lsig_eq (u : EReal) : lsig u
    = Ideal.div (-(max (-u) 0 + Ideal.log1p (Ideal.exp (-(max (-u) (-(-u))))))) (Ideal.ofBits .f32 0x41800000#32) := by
  have hm : 0 ≤ max u (-u) := by
    rcases le_total 0 u with h | h
    · exact le_max_of_le_left h
    · exact le_max_of_le_right (EReal.neg_le_neg_iff.2 h |>.trans' (by simp))
  obtain ⟨L, hL⟩ := log_fin _ hm
  have hn : -max (-u) 0 = min u 0 := by
    rcases le_total 0 u with h | h
    · rw [min_eq_right h, max_eq_right (by simpa using EReal.neg_le_neg_iff.2 h), neg_zero]
    · rw [min_eq_left h, max_eq_left (by simpa using EReal.neg_le_neg_iff.2 h), neg_neg]
  unfold lsig Ideal.log1p
  rw [one_f32, zero_sub, neg_neg, max_comm (-u) u, hL, EReal.neg_add (Or.inr (EReal.coe_ne_top L)) (Or.inr (EReal.coe_ne_bot L)), hn]

end Cert.ProjForms

end
-- ==== Proof.Proj.Head.lean ====
/- What one block of the projection holds, head by head, over the arrays it is computed from. -/
module

public import proofs.«01_k».proof.Proof.Gen.ProjIdeal.Frame
public import proofs.«01_k».proof.Proof.Proj.Forms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ProjProof

open Cert.ProjIdeal Cert.ProjIdeal.Gen Cert.ProjForms

/-- The normalised row. -/
theorem hb_at (x : Vec Ideal S1x512x1024 .f32) (g : Vec Ideal S1x1024 .f32) (t : Fin 512) (k : Fin 1024) :
    k0_pay3 (F := Ideal) x g (ix2 t k) = hrow (fun k => x (ix3 0 t k)) (fun k => g (ix2 0 k)) k := by
  pointwise [k0_pay3, hrow]

section
variable (c s : Vec Ideal S64x512 .f32) (g : Vec Ideal S64x1 .f32) (z : FVec Ideal S512x512 .f32)

theorem q0_at (x : Vec Ideal S1x512x1024 .f32) (w : Vec Ideal S1x1024 .f32) (a : Vec Ideal S512x1024 .bf16) (y : S1x1x64x512.Idx) : k0_pay9 (F := Ideal) c s (k0_pay7 x w a) (k0_pay8 g) y
    = rope (nr (fun d => (k0_pay6 x w a) (ix2 ⟨0 + d.val, by omega⟩ (y 3))) (fun d => g (ix2 d 0))) (fun d => c (ix2 d (y 3)))
        (fun d => s (ix2 d (y 3))) (y 2) := by
  idx_vars y
  pointwise [k0_pay9, k0_pay7, k0_pay8, rope, nr]

theorem q1_at (y : S1x1x64x512.Idx) : k0_pay10 (F := Ideal) c s z g y
    = rope (nr (fun d => z (ix2 ⟨64 + d.val, by omega⟩ (y 3))) (fun d => g (ix2 d 0))) (fun d => c (ix2 d (y 3)))
        (fun d => s (ix2 d (y 3))) (y 2) := by
  idx_vars y
  pointwise [k0_pay10, rope, nr]

theorem q2_at (y : S1x1x64x512.Idx) : k0_pay13 (F := Ideal) c s (k0_pay11 z) (k0_pay12 z) g y
    = rope (nr (fun d => z (ix2 ⟨128 + d.val, by omega⟩ (y 3))) (fun d => g (ix2 d 0))) (fun d => c (ix2 d (y 3)))
        (fun d => s (ix2 d (y 3))) (y 2) := by
  idx_vars y
  pointwise [k0_pay13, k0_pay12, k0_pay11, rope, nr]

theorem q3_at (y : S1x1x64x512.Idx) : k0_pay14 (F := Ideal) c s z g y
    = rope (nr (fun d => z (ix2 ⟨192 + d.val, by omega⟩ (y 3))) (fun d => g (ix2 d 0))) (fun d => c (ix2 d (y 3)))
        (fun d => s (ix2 d (y 3))) (y 2) := by
  idx_vars y
  pointwise [k0_pay14, rope, nr]

theorem q4_at (y : S1x1x64x512.Idx) : k0_pay17 (F := Ideal) c s (k0_pay15 z) (k0_pay16 z) g y
    = rope (nr (fun d => z (ix2 ⟨256 + d.val, by omega⟩ (y 3))) (fun d => g (ix2 d 0))) (fun d => c (ix2 d (y 3)))
        (fun d => s (ix2 d (y 3))) (y 2) := by
  idx_vars y
  pointwise [k0_pay17, k0_pay16, k0_pay15, rope, nr]

theorem q5_at (y : S1x1x64x512.Idx) : k0_pay19 (F := Ideal) (k0_pay18 c s z g) y
    = rope (nr (fun d => z (ix2 ⟨320 + d.val, by omega⟩ (y 3))) (fun d => g (ix2 d 0))) (fun d => c (ix2 d (y 3)))
        (fun d => s (ix2 d (y 3))) (y 2) := by
  idx_vars y
  pointwise [k0_pay19, k0_pay18, rope, nr]

theorem q6_at (y : S1x1x64x512.Idx) : k0_pay20 (F := Ideal) c s z g y
    = rope (nr (fun d => z (ix2 ⟨384 + d.val, by omega⟩ (y 3))) (fun d => g (ix2 d 0))) (fun d => c (ix2 d (y 3)))
        (fun d => s (ix2 d (y 3))) (y 2) := by
  idx_vars y
  pointwise [k0_pay20, rope, nr]

theorem q7_at (y : S1x1x64x512.Idx) : k0_pay23 (F := Ideal) c s (k0_pay21 z g) (k0_pay22 z g) y
    = rope (nr (fun d => z (ix2 ⟨448 + d.val, by omega⟩ (y 3))) (fun d => g (ix2 d 0))) (fun d => c (ix2 d (y 3)))
        (fun d => s (ix2 d (y 3))) (y 2) := by
  idx_vars y
  pointwise [k0_pay23, k0_pay22, k0_pay21, rope, nr]

theorem k0_at (h : FVec Ideal S512x1024 .bf16) (b : Vec Ideal S512x1024 .bf16) (y : S1x1x64x512.Idx) : k0_pay25 (F := Ideal) h c s b g y
    = rope (nr (fun d => (k0_pay24 h b) (ix2 ⟨0 + d.val, by omega⟩ (y 3))) (fun d => g (ix2 d 0))) (fun d => c (ix2 d (y 3)))
        (fun d => s (ix2 d (y 3))) (y 2) := by
  idx_vars y
  pointwise [k0_pay25, rope, nr]

theorem k1_at (h : FVec Ideal S512x1024 .bf16) (b : Vec Ideal S512x1024 .bf16) (y : S1x1x64x512.Idx) : k0_pay29 (F := Ideal) c s (k0_pay26 h b) (k0_pay27 h b) (k0_pay28 (F := Ideal)) g y
    = rope (nr (fun d => (k0_pay24 h b) (ix2 ⟨64 + d.val, by omega⟩ (y 3))) (fun d => g (ix2 d 0))) (fun d => c (ix2 d (y 3)))
        (fun d => s (ix2 d (y 3))) (y 2) := by
  idx_vars y
  pointwise [k0_pay29, k0_pay28, k0_pay27, k0_pay26, rope, nr]

theorem k2_at (y : S1x1x64x512.Idx) : k0_pay30 (F := Ideal) c s z g y
    = rope (nr (fun d => z (ix2 ⟨128 + d.val, by omega⟩ (y 3))) (fun d => g (ix2 d 0))) (fun d => c (ix2 d (y 3)))
        (fun d => s (ix2 d (y 3))) (y 2) := by
  idx_vars y
  pointwise [k0_pay30, rope, nr]

theorem k3_at (y : S1x1x64x512.Idx) : k0_pay31 (F := Ideal) c s z g y
    = rope (nr (fun d => z (ix2 ⟨192 + d.val, by omega⟩ (y 3))) (fun d => g (ix2 d 0))) (fun d => c (ix2 d (y 3)))
        (fun d => s (ix2 d (y 3))) (y 2) := by
  idx_vars y
  pointwise [k0_pay31, rope, nr]

theorem k4_at (y : S1x1x64x512.Idx) : k0_pay35 (F := Ideal) (k0_pay33 c z g) (k0_pay34 s z g) y
    = rope (nr (fun d => z (ix2 ⟨256 + d.val, by omega⟩ (y 3))) (fun d => g (ix2 d 0))) (fun d => c (ix2 d (y 3)))
        (fun d => s (ix2 d (y 3))) (y 2) := by
  idx_vars y
  pointwise [k0_pay35, k0_pay34, k0_pay33, k0_pay32, rope, nr]

theorem k5_at (y : S1x1x64x512.Idx) : k0_pay36 (F := Ideal) c s z g y
    = rope (nr (fun d => z (ix2 ⟨320 + d.val, by omega⟩ (y 3))) (fun d => g (ix2 d 0))) (fun d => c (ix2 d (y 3)))
        (fun d => s (ix2 d (y 3))) (y 2) := by
  idx_vars y
  pointwise [k0_pay36, rope, nr]

theorem k6_at (y : S1x1x64x512.Idx) : k0_pay38 (F := Ideal) c s (k0_pay37 z) g y
    = rope (nr (fun d => z (ix2 ⟨384 + d.val, by omega⟩ (y 3))) (fun d => g (ix2 d 0))) (fun d => c (ix2 d (y 3)))
        (fun d => s (ix2 d (y 3))) (y 2) := by
  idx_vars y
  pointwise [k0_pay38, k0_pay37, rope, nr]

theorem k7_at (y : S1x1x64x512.Idx) : k0_pay39 (F := Ideal) c s z g y
    = rope (nr (fun d => z (ix2 ⟨448 + d.val, by omega⟩ (y 3))) (fun d => g (ix2 d 0))) (fun d => c (ix2 d (y 3)))
        (fun d => s (ix2 d (y 3))) (y 2) := by
  idx_vars y
  pointwise [k0_pay39, rope, nr]

end

end Cert.ProjProof

end
-- ==== Proof.Proj.Block.lean ====
/- What the blocks of the projection hold, over the blocks they are computed from. -/
module

public import proofs.«01_k».proof.Proof.Proj.Head

@[expose] public section

set_option maxRecDepth 16384

noncomputable section

open Idealize.ShloMosaic Idealize.ShloMosaic.TcCoe Idealize.SL.Sem
open scoped BigOperators

namespace Cert.ProjProof

open Cert.ProjIdeal Cert.ProjIdeal.Gen Cert.ProjForms

variable (x0 : Vec Ideal S1x512x1024 .f32) (x1 : Vec Ideal S1x1024 .f32) (x2 : Vec Ideal S1536x1024 .bf16) (x3 : Vec Ideal S1024x3200 .bf16)
  (x4 x5 : Vec Ideal S64x1 .f32) (x6 : Vec Ideal S128x512 .bf16) (x7 : Vec Ideal S1x512 .f32) (x8 x9 : Vec Ideal S64x512 .f32)

/-- The normalised row of token `t`. -/
def hB (t : Fin 512) : Fin 1024 → EReal := hrow (fun k => x0 (ix3 0 t k)) (fun k => x1 (ix2 0 k))

/-- Row `r` of the transposed product, at token `t`. -/
def zt (r : Fin 1536) (t : Fin 512) : EReal := ∑ k : Fin 1024, x2 (ix2 r k) * hB x0 x1 t k

/-- Column `e` of the second product, at token `t`. -/
def zr (t : Fin 512) (e : Fin 3200) : EReal := ∑ k : Fin 1024, hB x0 x1 t k * x3 (ix2 k e)

theorem p54_at (t : Fin 512) (k : Fin 1024) : k0_pay54 x0 x1 x2 x3 x4 x5 x6 x7 x8 x9 (ix2 t k) = hB x0 x1 t k := by
  refine (hb_at (View.ld x0 r0_0) (View.ld x1 r0_1) t k).trans ?_
  pointwise [hB, hrow]

theorem p55_at (d : Fin 64) (t : Fin 512) : k0_pay55 x0 x1 x2 x3 x4 x5 x6 x7 x8 x9 (ix2 d t) = x8 (ix2 d t) := by
  pointwise [k0_pay55, k0_pay4]

theorem p56_at (d : Fin 64) (t : Fin 512) : k0_pay56 x0 x1 x2 x3 x4 x5 x6 x7 x8 x9 (ix2 d t) = x9 (ix2 d t) := by
  pointwise [k0_pay56, k0_pay5]

theorem mm_at (x : Vec Ideal S1x512x1024 .f32) (g : Vec Ideal S1x1024 .f32) (w : Vec Ideal S512x1024 .bf16) (r : Fin 512) (t : Fin 512) :
    k0_pay6 (F := Ideal) x g w (ix2 r t) = ∑ k : Fin 1024, w (ix2 r k) * k0_pay3 x g (ix2 t k) := by
  pointwise [k0_pay6]

theorem mm24_at (h : FVec Ideal S512x1024 .bf16) (w : Vec Ideal S512x1024 .bf16) (r : Fin 512) (t : Fin 512) :
    k0_pay24 (F := Ideal) h w (ix2 r t) = ∑ k : Fin 1024, w (ix2 r k) * h (ix2 t k) := by
  pointwise [k0_pay24]

theorem mm40_at (h : FVec Ideal S512x1024 .bf16) (w : Vec Ideal S512x1024 .bf16) (r : Fin 512) (t : Fin 512) :
    k0_pay40 (F := Ideal) h w (ix2 r t) = ∑ k : Fin 1024, w (ix2 r k) * h (ix2 t k) := by
  pointwise [k0_pay40]

theorem p57_at (r : Fin 512) (t : Fin 512) : k0_pay57 x0 x1 x2 x3 x4 x5 x6 x7 x8 x9 (ix2 r t) = zt x0 x1 x2 ⟨r.val, by omega⟩ t := by
  refine (mm_at (View.ld x0 r0_0) (View.ld x1 r0_1) (View.ld x2 r0_3) r t).trans ?_
  unfold zt
  refine Finset.sum_congr rfl fun k _ => ?_
  refine congrArg₂ (· * ·) ?_ (p54_at x0 x1 x2 x3 x4 x5 x6 x7 x8 x9 t k)
  pointwise []

theorem p58_at (r : Fin 512) (t : Fin 512) : k0_pay58 x0 x1 x2 x3 x4 x5 x6 x7 x8 x9 (ix2 r t) = zt x0 x1 x2 ⟨512 + r.val, by omega⟩ t := by
  refine (mm24_at _ (View.ld x2 r0_13) r t).trans ?_
  unfold zt
  refine Finset.sum_congr rfl fun k _ => ?_
  refine congrArg₂ (· * ·) ?_ (p54_at x0 x1 x2 x3 x4 x5 x6 x7 x8 x9 t k)
  pointwise []

theorem p59_at (r : Fin 512) (t : Fin 512) : k0_pay59 x0 x1 x2 x3 x4 x5 x6 x7 x8 x9 (ix2 r t) = zt x0 x1 x2 ⟨1024 + r.val, by omega⟩ t := by
  refine (mm40_at _ (View.ld x2 r0_14) r t).trans ?_
  unfold zt
  refine Finset.sum_congr rfl fun k _ => ?_
  refine congrArg₂ (· * ·) ?_ (p54_at x0 x1 x2 x3 x4 x5 x6 x7 x8 x9 t k)
  pointwise []

theorem head_congr {z z' g g' c c' s s' : Fin 64 → EReal} {d d' : Fin 64} (hz : ∀ i, z i = z' i) (hg : ∀ i, g i = g' i)
    (hc : ∀ i, c i = c' i) (hs : ∀ i, s i = s' i) (hd : d = d') : rope (nr z g) c s d = rope (nr z' g') c' s' d' := by
  rw [funext hz, funext hg, funext hc, funext hs, hd]

/-- Head `y 1` of the rotated queries. -/
theorem out10_at (y : S1x8x64x512.Idx) : out0_10 x0 x1 x2 x3 x4 x5 x6 x7 x8 x9 y
    = rope (nr (fun d => zt x0 x1 x2 ⟨0 + (y 1).val * 64 + d.val, by have h1 : (y 1).val < 8 := (y 1).isLt; omega⟩ (y 3)) (fun d => x4 (ix2 d 0)))
        (fun d => x8 (ix2 d (y 3))) (fun d => x9 (ix2 d (y 3))) (y 2) := by
  canon_tiles x h
  case piece0 =>
    refine (q7_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨448 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece1 =>
    refine (q6_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨384 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece2 =>
    refine (q5_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨320 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece3 =>
    refine (q4_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨256 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece4 =>
    refine (q3_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨192 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece5 =>
    refine (q2_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨128 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece6 =>
    refine (q1_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨64 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece7 =>
    refine (q0_at (k0_pay55 x0 x1 x2 x3 x4 x5 x6 x7 x8 x9) (k0_pay56 x0 x1 x2 x3 x4 x5 x6 x7 x8 x9) (View.ld x4 r0_4) (View.ld x0 r0_0) (View.ld x1 r0_1) (View.ld x2 r0_3) x).trans (head_congr (fun d => (p57_at x0 x1 x2 x3 x4 x5 x6 x7 x8 x9 ⟨0 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])

/-- Head `y 1` of the rotated keys. -/
theorem out11_at (y : S1x8x64x512.Idx) : out0_11 x0 x1 x2 x3 x4 x5 x6 x7 x8 x9 y
    = rope (nr (fun d => zt x0 x1 x2 ⟨512 + (y 1).val * 64 + d.val, by have h1 : (y 1).val < 8 := (y 1).isLt; omega⟩ (y 3)) (fun d => x5 (ix2 d 0)))
        (fun d => x8 (ix2 d (y 3))) (fun d => x9 (ix2 d (y 3))) (y 2) := by
  canon_tiles x h
  case piece0 =>
    refine (k7_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨448 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece1 =>
    refine (k6_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨384 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece2 =>
    refine (k5_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨320 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece3 =>
    refine (k4_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨256 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece4 =>
    refine (k3_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨192 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece5 =>
    refine (k2_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨128 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece6 =>
    refine (k1_at (k0_pay55 x0 x1 x2 x3 x4 x5 x6 x7 x8 x9) (k0_pay56 x0 x1 x2 x3 x4 x5 x6 x7 x8 x9) (View.ld x5 r0_4) (k0_pay54 x0 x1 x2 x3 x4 x5 x6 x7 x8 x9) (View.ld x2 r0_13) x).trans (head_congr (fun d => (p58_at x0 x1 x2 x3 x4 x5 x6 x7 x8 x9 ⟨64 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece7 =>
    refine (k0_at (k0_pay55 x0 x1 x2 x3 x4 x5 x6 x7 x8 x9) (k0_pay56 x0 x1 x2 x3 x4 x5 x6 x7 x8 x9) (View.ld x5 r0_4) (k0_pay54 x0 x1 x2 x3 x4 x5 x6 x7 x8 x9) (View.ld x2 r0_13) x).trans (head_congr (fun d => (p58_at x0 x1 x2 x3 x4 x5 x6 x7 x8 x9 ⟨0 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])

theorem v0_at (h : FVec Ideal S512x1024 .bf16) (w : Vec Ideal S512x1024 .bf16) (y : S1x1x64x512.Idx) :
    k0_pay42 (F := Ideal) (k0_pay41 h w) y = k0_pay40 h w (ix2 ⟨(y 2).val, by have h2 : (y 2).val < 64 := (y 2).isLt; omega⟩ (y 3)) := by
  pointwise [k0_pay42, k0_pay41]

theorem v1_at (z : FVec Ideal S512x512 .f32) (y : S1x1x64x512.Idx) :
    k0_pay43 (F := Ideal) z y = z (ix2 ⟨64 + (y 2).val, by have h2 : (y 2).val < 64 := (y 2).isLt; omega⟩ (y 3)) := by
  pointwise [k0_pay43]

theorem v2_at (z : FVec Ideal S512x512 .f32) (y : S1x1x64x512.Idx) :
    k0_pay44 (F := Ideal) z y = z (ix2 ⟨128 + (y 2).val, by have h2 : (y 2).val < 64 := (y 2).isLt; omega⟩ (y 3)) := by
  pointwise [k0_pay44]

theorem v3_at (z : FVec Ideal S512x512 .f32) (y : S1x1x64x512.Idx) :
    k0_pay45 (F := Ideal) z y = z (ix2 ⟨192 + (y 2).val, by have h2 : (y 2).val < 64 := (y 2).isLt; omega⟩ (y 3)) := by
  pointwise [k0_pay45]

theorem v4_at (z : FVec Ideal S512x512 .f32) (y : S1x1x64x512.Idx) :
    k0_pay46 (F := Ideal) z y = z (ix2 ⟨256 + (y 2).val, by have h2 : (y 2).val < 64 := (y 2).isLt; omega⟩ (y 3)) := by
  pointwise [k0_pay46]

theorem v5_at (z : FVec Ideal S512x512 .f32) (y : S1x1x64x512.Idx) :
    k0_pay47 (F := Ideal) z y = z (ix2 ⟨320 + (y 2).val, by have h2 : (y 2).val < 64 := (y 2).isLt; omega⟩ (y 3)) := by
  pointwise [k0_pay47]

theorem v6_at (z : FVec Ideal S512x512 .f32) (y : S1x1x64x512.Idx) :
    k0_pay48 (F := Ideal) z y = z (ix2 ⟨384 + (y 2).val, by have h2 : (y 2).val < 64 := (y 2).isLt; omega⟩ (y 3)) := by
  pointwise [k0_pay48]

theorem v7_at (z : FVec Ideal S512x512 .f32) (y : S1x1x64x512.Idx) :
    k0_pay49 (F := Ideal) z y = z (ix2 ⟨448 + (y 2).val, by have h2 : (y 2).val < 64 := (y 2).isLt; omega⟩ (y 3)) := by
  pointwise [k0_pay49]

/-- Head `y 1` of the values. -/
theorem out12_at (y : S1x8x64x512.Idx) : out0_12 x0 x1 x2 x3 x4 x5 x6 x7 x8 x9 y
    = zt x0 x1 x2 ⟨1024 + (y 1).val * 64 + (y 2).val, by have h1 : (y 1).val < 8 := (y 1).isLt; have h2 : (y 2).val < 64 := (y 2).isLt; omega⟩ (y 3) := by
  canon_tiles x h
  case piece0 =>
    refine (v7_at _ x).trans ((p59_at x0 x1 x2 x3 x4 x5 x6 x7 x8 x9 ⟨448 + (x 2).val, by have h2 : (x 2).val < 64 := (x 2).isLt; omega⟩ (x 3)).trans ?_)
    refine congrArg₂ (zt x0 x1 x2) (Fin.ext ?_) (Fin.ext ?_) <;> (try dsimp only) <;> omega
  case piece1 =>
    refine (v6_at _ x).trans ((p59_at x0 x1 x2 x3 x4 x5 x6 x7 x8 x9 ⟨384 + (x 2).val, by have h2 : (x 2).val < 64 := (x 2).isLt; omega⟩ (x 3)).trans ?_)
    refine congrArg₂ (zt x0 x1 x2) (Fin.ext ?_) (Fin.ext ?_) <;> (try dsimp only) <;> omega
  case piece2 =>
    refine (v5_at _ x).trans ((p59_at x0 x1 x2 x3 x4 x5 x6 x7 x8 x9 ⟨320 + (x 2).val, by have h2 : (x 2).val < 64 := (x 2).isLt; omega⟩ (x 3)).trans ?_)
    refine congrArg₂ (zt x0 x1 x2) (Fin.ext ?_) (Fin.ext ?_) <;> (try dsimp only) <;> omega
  case piece3 =>
    refine (v4_at _ x).trans ((p59_at x0 x1 x2 x3 x4 x5 x6 x7 x8 x9 ⟨256 + (x 2).val, by have h2 : (x 2).val < 64 := (x 2).isLt; omega⟩ (x 3)).trans ?_)
    refine congrArg₂ (zt x0 x1 x2) (Fin.ext ?_) (Fin.ext ?_) <;> (try dsimp only) <;> omega
  case piece4 =>
    refine (v3_at _ x).trans ((p59_at x0 x1 x2 x3 x4 x5 x6 x7 x8 x9 ⟨192 + (x 2).val, by have h2 : (x 2).val < 64 := (x 2).isLt; omega⟩ (x 3)).trans ?_)
    refine congrArg₂ (zt x0 x1 x2) (Fin.ext ?_) (Fin.ext ?_) <;> (try dsimp only) <;> omega
  case piece5 =>
    refine (v2_at _ x).trans ((p59_at x0 x1 x2 x3 x4 x5 x6 x7 x8 x9 ⟨128 + (x 2).val, by have h2 : (x 2).val < 64 := (x 2).isLt; omega⟩ (x 3)).trans ?_)
    refine congrArg₂ (zt x0 x1 x2) (Fin.ext ?_) (Fin.ext ?_) <;> (try dsimp only) <;> omega
  case piece6 =>
    refine (v1_at _ x).trans ((p59_at x0 x1 x2 x3 x4 x5 x6 x7 x8 x9 ⟨64 + (x 2).val, by have h2 : (x 2).val < 64 := (x 2).isLt; omega⟩ (x 3)).trans ?_)
    refine congrArg₂ (zt x0 x1 x2) (Fin.ext ?_) (Fin.ext ?_) <;> (try dsimp only) <;> omega
  case piece7 =>
    refine (v0_at _ _ x).trans ?_
    refine (p59_at x0 x1 x2 x3 x4 x5 x6 x7 x8 x9 ⟨(x 2).val, by have h2 : (x 2).val < 64 := (x 2).isLt; omega⟩ (x 3)).trans ?_
    refine congrArg₂ (zt x0 x1 x2) (Fin.ext ?_) (Fin.ext ?_) <;> (try dsimp only) <;> omega

theorem mm13_at (h : FVec Ideal S512x1024 .bf16) (w : Vec Ideal S1024x512 .bf16) (y : S1x512x512.Idx) :
    k0_pay50 (F := Ideal) h w y = ∑ k : Fin 1024, h (ix2 (y 1) k) * w (ix2 k (y 2)) := by
  pointwise [k0_pay50]

theorem out13_at (y : S1x512x512.Idx) : out0_13 x0 x1 x2 x3 x4 x5 x6 x7 x8 x9 y
    = zr x0 x1 x3 (y 1) ⟨0 + (y 2).val, by have h2 : (y 2).val < 512 := (y 2).isLt; omega⟩ := by
  frame_out
  refine (mm13_at (k0_pay54 x0 x1 x2 x3 x4 x5 x6 x7 x8 x9) (View.ld x3 r0_15) y).trans ?_
  unfold zr
  refine Finset.sum_congr rfl fun k _ => ?_
  refine congrArg₂ (· * ·) (p54_at x0 x1 x2 x3 x4 x5 x6 x7 x8 x9 (y 1) k) ?_
  pointwise []

theorem mm14_at (h : FVec Ideal S512x1024 .bf16) (w : Vec Ideal S1024x512 .bf16) (y : S1x512x512.Idx) :
    k0_pay51 (F := Ideal) h w y = ∑ k : Fin 1024, h (ix2 (y 1) k) * w (ix2 k (y 2)) := by
  pointwise [k0_pay51]

theorem out14_at (y : S1x512x512.Idx) : out0_14 x0 x1 x2 x3 x4 x5 x6 x7 x8 x9 y
    = zr x0 x1 x3 (y 1) ⟨512 + (y 2).val, by have h2 : (y 2).val < 512 := (y 2).isLt; omega⟩ := by
  frame_out
  refine (mm14_at (k0_pay54 x0 x1 x2 x3 x4 x5 x6 x7 x8 x9) (View.ld x3 r0_17) y).trans ?_
  unfold zr
  refine Finset.sum_congr rfl fun k _ => ?_
  refine congrArg₂ (· * ·) (p54_at x0 x1 x2 x3 x4 x5 x6 x7 x8 x9 (y 1) k) ?_
  pointwise []

theorem mm15_at (h : FVec Ideal S512x1024 .bf16) (w : Vec Ideal S1024x1024 .bf16) (y : S1x512x1024.Idx) :
    k0_pay52 (F := Ideal) h w y = ∑ k : Fin 1024, h (ix2 (y 1) k) * w (ix2 k (y 2)) := by
  pointwise [k0_pay52]

theorem out15_at (y : S1x512x1024.Idx) : out0_15 x0 x1 x2 x3 x4 x5 x6 x7 x8 x9 y
    = zr x0 x1 x3 (y 1) ⟨1024 + (y 2).val, by have h2 : (y 2).val < 1024 := (y 2).isLt; omega⟩ := by
  frame_out
  refine (mm15_at (k0_pay54 x0 x1 x2 x3 x4 x5 x6 x7 x8 x9) (View.ld x3 r0_18) y).trans ?_
  unfold zr
  refine Finset.sum_congr rfl fun k _ => ?_
  refine congrArg₂ (· * ·) (p54_at x0 x1 x2 x3 x4 x5 x6 x7 x8 x9 (y 1) k) ?_
  pointwise []

theorem mm17_at (h : FVec Ideal S512x1024 .bf16) (w : Vec Ideal S1024x1024 .bf16) (y : S1x512x1024.Idx) :
    k0_pay1 (F := Ideal) (k0_pay53 h w) y = ∑ k : Fin 1024, h (ix2 (y 1) k) * w (ix2 k (y 2)) := by
  pointwise [k0_pay1, k0_pay53]

theorem out17_at (y : S1x512x1024.Idx) : out0_17 x0 x1 x2 x3 x4 x5 x6 x7 x8 x9 y
    = zr x0 x1 x3 (y 1) ⟨2048 + (y 2).val, by have h2 : (y 2).val < 1024 := (y 2).isLt; omega⟩ := by
  frame_out
  refine (mm17_at (k0_pay54 x0 x1 x2 x3 x4 x5 x6 x7 x8 x9) (View.ld x3 r0_19) y).trans ?_
  unfold zr
  refine Finset.sum_congr rfl fun k _ => ?_
  refine congrArg₂ (· * ·) (p54_at x0 x1 x2 x3 x4 x5 x6 x7 x8 x9 (y 1) k) ?_
  pointwise []

theorem mm16_at (h : FVec Ideal S512x1024 .bf16) (w : Vec Ideal S1024x128 .bf16) (u : Vec Ideal S128x512 .bf16) (b : Vec Ideal S1x512 .f32)
    (y : S1x512x512.Idx) : k0_pay2 (F := Ideal) h w u b y
    = lsig ((∑ r : Fin 128, (∑ k : Fin 1024, h (ix2 (y 1) k) * w (ix2 k r)) * u (ix2 r (y 2))) + b (ix2 0 (y 2))) := by
  pointwise [k0_pay2, lsig]
  rfl

theorem out16_at (y : S1x512x512.Idx) : out0_16 x0 x1 x2 x3 x4 x5 x6 x7 x8 x9 y
    = lsig ((∑ r : Fin 128, zr x0 x1 x3 (y 1) ⟨3072 + r.val, by omega⟩ * x6 (ix2 r (y 2))) + x7 (ix2 0 (y 2))) := by
  frame_out
  refine (mm16_at (k0_pay54 x0 x1 x2 x3 x4 x5 x6 x7 x8 x9) (View.ld x3 r0_20) x6 x7 y).trans (congrArg lsig ?_)
  refine congrArg₂ (· + ·) (Finset.sum_congr rfl fun r _ => congrArg₂ (· * ·) ?_ ?_) ?_
  · unfold zr
    refine Finset.sum_congr rfl fun k _ => ?_
    refine congrArg₂ (· * ·) (p54_at x0 x1 x2 x3 x4 x5 x6 x7 x8 x9 (y 1) k) ?_
    pointwise []
  · rfl
  · rfl

end Cert.ProjProof

end
-- ==== Proof.Proj.Ref.lean ====
/- What the reference of the projection computes, entry by entry. -/
module

public import proofs.«01_k».proof.Proof.Gen.ProjRefIdeal.Read
public import Idealize.ShloMosaic.Lib.Pointwise
public import Idealize.ShloMosaic.Lib.Pipeline.ValueKit
public import proofs.«01_k».proof.Proof.Proj.Forms

@[expose] public section

set_option maxRecDepth 16384

noncomputable section

open Idealize.ShloMosaic Idealize.ShloMosaic.TcCoe Idealize.SL.Sem
open scoped BigOperators

namespace Cert.ProjRefProof

open Cert.ProjRefIdeal Cert.ProjRefIdeal.Read Cert.ProjForms

variable (x0 : FVec Ideal S4x8192x1024 .f32) (x1 : FVec Ideal S1x1024 .f32)
  (x2 : FVec Ideal S1x1024x4624 .f32) (x3 x4 : FVec Ideal S1x64 .f32)
  (x5 : FVec Ideal S1x16x512 .f32) (x6 : FVec Ideal S1x512 .f32)

/-- Entry `e` of the one product with the whole weight array, for token `t` of sequence `b`. -/
def zc (b : Fin 4) (t : Fin 8192) (e : Fin 4624) : EReal :=
  ∑ k : Fin 1024, hrow (fun k => x0 (ix3 b t k)) (fun k => x1 (ix2 0 k)) k * x2 (ix3 0 k e)

theorem h_at (b : Fin 4) (t : Fin 8192) (k : Fin 1024) :
    val_main_v13 (F := Ideal) x0 x1 (ix3 b t k) = hrow (fun k => x0 (ix3 b t k)) (fun k => x1 (ix2 0 k)) k := by
  pointwise [val_main_cst, val_main_cst_0, val_main_cst_1, val_main_cst_2, val_main_cst_3, val_main_cst_4, val_main_cst_5, val_main_cst_6, val_main_cst_7, val_main_cst_8, val_main_cst_9, val_main_cst_10, val_main_v0, val_main_v1, val_main_v2, val_main_v3, val_main_v4, val_main_v5, val_main_v6, val_main_v7, val_main_v8, val_main_v9, val_main_v10, val_main_v11, val_main_v12, val_main_v13, hrow]

theorem z_at (b : Fin 4) (t : Fin 8192) (e : Fin 4624) : val_main_v15 (F := Ideal) x0 x1 x2 (ix3 b t e) = zc x0 x1 x2 b t e := by
  unfold zc
  rw [← funext fun k => h_at x0 x1 b t k]
  pointwise [val_main_v14, val_main_v15]

theorem qhead_at (b : Fin 4) (h : Fin 8) (t : Fin 8192) (d : Fin 64) :
    val_main_v40 (F := Ideal) x0 x1 x2 (ix4 b h t d) = zc x0 x1 x2 b t ⟨0 + h.val * 64 + d.val, by omega⟩ := by
  refine Eq.trans ?_ (z_at x0 x1 x2 b t ⟨0 + h.val * 64 + d.val, by omega⟩)
  · rw [val_main_v40_apply, val_main_v39_apply, val_main_v16_apply]
    refine congrArg _ (funext fun a => ?_)
    match a with
    | ⟨0, _⟩ => exact Fin.ext (by dsimp [idx_main_v40, idx_main_v39, idx_main_v16]; omega)
    | ⟨1, _⟩ => exact Fin.ext (by dsimp [idx_main_v40, idx_main_v39, idx_main_v16]; omega)
    | ⟨2, _⟩ => exact Fin.ext (by dsimp [idx_main_v40, idx_main_v39, idx_main_v16]; omega)

theorem khead_at (b : Fin 4) (h : Fin 8) (t : Fin 8192) (d : Fin 64) :
    val_main_v73 (F := Ideal) x0 x1 x2 (ix4 b h t d) = zc x0 x1 x2 b t ⟨512 + h.val * 64 + d.val, by omega⟩ := by
  refine Eq.trans ?_ (z_at x0 x1 x2 b t ⟨512 + h.val * 64 + d.val, by omega⟩)
  · rw [val_main_v73_apply, val_main_v72_apply, val_main_v17_apply]
    refine congrArg _ (funext fun a => ?_)
    match a with
    | ⟨0, _⟩ => exact Fin.ext (by dsimp [idx_main_v73, idx_main_v72, idx_main_v17]; omega)
    | ⟨1, _⟩ => exact Fin.ext (by dsimp [idx_main_v73, idx_main_v72, idx_main_v17]; omega)
    | ⟨2, _⟩ => exact Fin.ext (by dsimp [idx_main_v73, idx_main_v72, idx_main_v17]; omega)

theorem vhead_at (b : Fin 4) (h : Fin 8) (t : Fin 8192) (d : Fin 64) :
    val_main_v106 (F := Ideal) x0 x1 x2 (ix4 b h t d) = zc x0 x1 x2 b t ⟨1024 + h.val * 64 + d.val, by omega⟩ := by
  refine Eq.trans ?_ (z_at x0 x1 x2 b t ⟨1024 + h.val * 64 + d.val, by omega⟩)
  · rw [val_main_v106_apply, val_main_v105_apply, val_main_v18_apply]
    refine congrArg _ (funext fun a => ?_)
    match a with
    | ⟨0, _⟩ => exact Fin.ext (by dsimp [idx_main_v106, idx_main_v105, idx_main_v18]; omega)
    | ⟨1, _⟩ => exact Fin.ext (by dsimp [idx_main_v106, idx_main_v105, idx_main_v18]; omega)
    | ⟨2, _⟩ => exact Fin.ext (by dsimp [idx_main_v106, idx_main_v105, idx_main_v18]; omega)

theorem qnorm_at (b : Fin 4) (h : Fin 8) (t : Fin 8192) (d : Fin 64) :
    val_main_v54 (F := Ideal) x0 x1 x2 x3 (ix4 b h t d)
      = nr (fun i => zc x0 x1 x2 b t ⟨0 + h.val * 64 + i.val, by omega⟩) (fun i => x3 (ix2 0 i)) d := by
  rw [← funext fun i => qhead_at x0 x1 x2 b h t i]
  pointwise [val_main_cst, val_main_cst_0, val_main_cst_1, val_main_cst_2, val_main_cst_3, val_main_cst_4, val_main_cst_5, val_main_cst_6, val_main_cst_7, val_main_cst_8, val_main_cst_9, val_main_cst_10, val_main_v41, val_main_v42, val_main_v43, val_main_v44, val_main_v45, val_main_v46, val_main_v47, val_main_v48, val_main_v49, val_main_v50, val_main_v51, val_main_v52, val_main_v53, val_main_v54, nr]

theorem knorm_at (b : Fin 4) (h : Fin 8) (t : Fin 8192) (d : Fin 64) :
    val_main_v87 (F := Ideal) x0 x1 x2 x4 (ix4 b h t d)
      = nr (fun i => zc x0 x1 x2 b t ⟨512 + h.val * 64 + i.val, by omega⟩) (fun i => x4 (ix2 0 i)) d := by
  rw [← funext fun i => khead_at x0 x1 x2 b h t i]
  pointwise [val_main_cst, val_main_cst_0, val_main_cst_1, val_main_cst_2, val_main_cst_3, val_main_cst_4, val_main_cst_5, val_main_cst_6, val_main_cst_7, val_main_cst_8, val_main_cst_9, val_main_cst_10, val_main_v74, val_main_v75, val_main_v76, val_main_v77, val_main_v78, val_main_v79, val_main_v80, val_main_v81, val_main_v82, val_main_v83, val_main_v84, val_main_v85, val_main_v86, val_main_v87, nr]

theorem qrot_at (b : Fin 4) (h : Fin 8) (t : Fin 8192) (d : Fin 64) :
    val_main_v71 (F := Ideal) x0 x1 x2 x3 (ix4 b h t d)
      = rope' (fun i => val_main_v54 (F := Ideal) x0 x1 x2 x3 (ix4 b h t i)) (fun j => val_main_v37 (F := Ideal) (ix2 t j))
          (fun j => val_main_v38 (F := Ideal) (ix2 t j)) d := by
  generalize hy : val_main_v54 (F := Ideal) x0 x1 x2 x3 = y
  generalize hC : val_main_v37 (F := Ideal) = C
  generalize hS : val_main_v38 (F := Ideal) = S
  by_cases hd : d.val < 32
  · pointwise [val_main_v55, val_main_v56, val_main_v57, val_main_v58, val_main_v59, val_main_v60, val_main_v61, val_main_v62, val_main_v63, val_main_v64, val_main_v65, val_main_v66, val_main_v67, val_main_v68, val_main_v69, val_main_v70, val_main_v71, hy, hC, hS, rope']
    rw [dif_pos hd, dif_pos hd]
  · pointwise [val_main_v55, val_main_v56, val_main_v57, val_main_v58, val_main_v59, val_main_v60, val_main_v61, val_main_v62, val_main_v63, val_main_v64, val_main_v65, val_main_v66, val_main_v67, val_main_v68, val_main_v69, val_main_v70, val_main_v71, hy, hC, hS, rope']
    rw [dif_neg hd, dif_neg hd, show (⟨32 + (d.val - 32), by omega⟩ : Fin 64) = d from Fin.ext (by dsimp only; omega)]

theorem krot_at (b : Fin 4) (h : Fin 8) (t : Fin 8192) (d : Fin 64) :
    val_main_v104 (F := Ideal) x0 x1 x2 x4 (ix4 b h t d)
      = rope' (fun i => val_main_v87 (F := Ideal) x0 x1 x2 x4 (ix4 b h t i)) (fun j => val_main_v37 (F := Ideal) (ix2 t j))
          (fun j => val_main_v38 (F := Ideal) (ix2 t j)) d := by
  generalize hy : val_main_v87 (F := Ideal) x0 x1 x2 x4 = y
  generalize hC : val_main_v37 (F := Ideal) = C
  generalize hS : val_main_v38 (F := Ideal) = S
  by_cases hd : d.val < 32
  · pointwise [val_main_v88, val_main_v89, val_main_v90, val_main_v91, val_main_v92, val_main_v93, val_main_v94, val_main_v95, val_main_v96, val_main_v97, val_main_v98, val_main_v99, val_main_v100, val_main_v101, val_main_v102, val_main_v103, val_main_v104, hy, hC, hS, rope']
    rw [dif_pos hd, dif_pos hd]
  · pointwise [val_main_v88, val_main_v89, val_main_v90, val_main_v91, val_main_v92, val_main_v93, val_main_v94, val_main_v95, val_main_v96, val_main_v97, val_main_v98, val_main_v99, val_main_v100, val_main_v101, val_main_v102, val_main_v103, val_main_v104, hy, hC, hS, rope']
    rw [dif_neg hd, dif_neg hd, show (⟨32 + (d.val - 32), by omega⟩ : Fin 64) = d from Fin.ext (by dsimp only; omega)]

/-- The rotated queries, head by head. -/
theorem q_at (b : Fin 4) (h : Fin 8) (d : Fin 64) (t : Fin 8192) :
    val_main_v116 (F := Ideal) x0 x1 x2 x3 (ix4 b h d t)
      = rope' (nr (fun i => zc x0 x1 x2 b t ⟨0 + h.val * 64 + i.val, by omega⟩) (fun i => x3 (ix2 0 i)))
          (fun j => val_main_v37 (F := Ideal) (ix2 t j)) (fun j => val_main_v38 (F := Ideal) (ix2 t j)) d := by
  rw [← funext fun i => qnorm_at x0 x1 x2 x3 b h t i, ← qrot_at]
  pointwise [val_main_v116]

/-- The rotated keys, head by head. -/
theorem k_at (b : Fin 4) (h : Fin 8) (d : Fin 64) (t : Fin 8192) :
    val_main_v117 (F := Ideal) x0 x1 x2 x4 (ix4 b h d t)
      = rope' (nr (fun i => zc x0 x1 x2 b t ⟨512 + h.val * 64 + i.val, by omega⟩) (fun i => x4 (ix2 0 i)))
          (fun j => val_main_v37 (F := Ideal) (ix2 t j)) (fun j => val_main_v38 (F := Ideal) (ix2 t j)) d := by
  rw [← funext fun i => knorm_at x0 x1 x2 x4 b h t i, ← krot_at]
  pointwise [val_main_v117]

/-- The values, head by head. -/
theorem v_at (b : Fin 4) (h : Fin 8) (d : Fin 64) (t : Fin 8192) :
    val_main_v118 (F := Ideal) x0 x1 x2 (ix4 b h d t) = zc x0 x1 x2 b t ⟨1024 + h.val * 64 + d.val, by omega⟩ := by
  rw [← vhead_at]
  pointwise [val_main_v118]

theorem r19_at (b : Fin 4) (t : Fin 8192) (e : Fin 512) : val_main_v19 (F := Ideal) x0 x1 x2 (ix3 b t e) = zc x0 x1 x2 b t ⟨1536 + e.val, by omega⟩ := by
  refine Eq.trans ?_ (z_at x0 x1 x2 b t ⟨1536 + e.val, by omega⟩)
  · pointwise [val_main_v19]

theorem r20_at (b : Fin 4) (t : Fin 8192) (e : Fin 512) : val_main_v20 (F := Ideal) x0 x1 x2 (ix3 b t e) = zc x0 x1 x2 b t ⟨2048 + e.val, by omega⟩ := by
  refine Eq.trans ?_ (z_at x0 x1 x2 b t ⟨2048 + e.val, by omega⟩)
  · pointwise [val_main_v20]

theorem r119_at (b : Fin 4) (t : Fin 8192) (e : Fin 1024) : val_main_v119 (F := Ideal) x0 x1 x2 (ix3 b t e) = zc x0 x1 x2 b t ⟨2560 + e.val, by omega⟩ := by
  refine Eq.trans ?_ (z_at x0 x1 x2 b t ⟨2560 + e.val, by omega⟩)
  · pointwise [val_main_v21, val_main_v119]

theorem r120_at (b : Fin 4) (t : Fin 8192) (e : Fin 1024) : val_main_v120 (F := Ideal) x0 x1 x2 (ix3 b t e) = zc x0 x1 x2 b t ⟨3584 + e.val, by omega⟩ := by
  refine Eq.trans ?_ (z_at x0 x1 x2 b t ⟨3584 + e.val, by omega⟩)
  · pointwise [val_main_v22, val_main_v120]

theorem r23_at (b : Fin 4) (t : Fin 8192) (e : Fin 16) : val_main_v23 (F := Ideal) x0 x1 x2 (ix3 b t e) = zc x0 x1 x2 b t ⟨4608 + e.val, by omega⟩ := by
  refine Eq.trans ?_ (z_at x0 x1 x2 b t ⟨4608 + e.val, by omega⟩)
  · pointwise [val_main_v23]

theorem u_at (b : Fin 4) (t : Fin 8192) (e : Fin 512) : val_main_v112 (F := Ideal) x0 x1 x2 x5 x6 (ix3 b t e)
    = (∑ r : Fin 16, zc x0 x1 x2 b t ⟨4608 + r.val, by omega⟩ * x5 (ix3 0 r e)) + x6 (ix2 0 e) := by
  simp only [← r23_at]
  pointwise [val_main_v107, val_main_v108, val_main_v109, val_main_v110, val_main_v111, val_main_v112]

/-- The logarithms of the decays. -/
theorem la_at (b : Fin 4) (t : Fin 8192) (e : Fin 512) : val_main_v115 (F := Ideal) x0 x1 x2 x5 x6 (ix3 b t e)
    = lsig ((∑ r : Fin 16, zc x0 x1 x2 b t ⟨4608 + r.val, by omega⟩ * x5 (ix3 0 r e)) + x6 (ix2 0 e)) := by
  rw [← u_at, lsig_eq]
  generalize hu : val_main_v112 (F := Ideal) x0 x1 x2 x5 x6 = u
  pointwise [val_main_cst, val_main_cst_0, val_main_cst_1, val_main_cst_2, val_main_cst_3, val_main_cst_4, val_main_cst_5, val_main_cst_6, val_main_cst_7, val_main_cst_8, val_main_cst_9, val_main_cst_10, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v113, val_main_v114, val_main_v115, hu]
  rw [if_neg (by simp)]
  rfl

end Cert.ProjRefProof

end
-- ==== Proof.Proj.Host.lean ====
/- What the host prepares for the projection: the arrays each window is cut from. -/
module

public import proofs.«01_k».proof.Proof.Gen.ProjIdeal.Frame
public import proofs.«01_k».proof.Proof.Gen.ProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ProjProof

open Cert.ProjIdeal Cert.ProjIdeal.Gen

variable (m : (ℓ : Loc nD τ sig) → Buf (Elt Ideal) ℓ) (c : Dev nD)

/-- The weights of the queries, keys and values, transposed. -/
def hw3 (a : FVec Ideal S1x1024x4624 .f32) : FVec Ideal S1536x1024 .bf16 :=
  truncf .bf16 (transpose S1536x1024 [1, 0] (extractStridedSlice S1024x1536 ![0, 0] (shapeCast S1024x4624 a shapeCasts_S1x1024x4624_S1024x4624) slices_S1024x4624_S1024x1536_0_0) transposes_S1024x1536_S1536x1024_1_0) bitsLt_bf16_f32

theorem hw3_at (a : FVec Ideal S1x1024x4624 .f32) (r : Fin 1536) (k : Fin 1024) : hw3 a (ix2 r k) = a (ix3 0 k ⟨r.val, by omega⟩) := by
  pointwise [hw3]

theorem V3 : V m c main_v3 = hw3 (m ((c : Thread nD τ).loc main_arg2)) := by
  show StableHlo.after (List.flatten [hostOps0, hostOps0_1, hostOps0_2, hostOps0_3, hostOps0_4]) (fun b => m (c, b)) (Proc.tc.devRef main_v3) = _
  simp only [hostOps0, hostOps0_1, hostOps0_2, hostOps0_3, hostOps0_4, List.flatten_cons, List.flatten_nil, List.append_nil, List.cons_append, List.nil_append]
  after_results
  try rfl

/-- The other weights, padded with zero columns. -/
def hw7 (a : FVec Ideal S1x1024x4624 .f32) : FVec Ideal S1024x3200 .bf16 :=
  truncf .bf16 (pad S1024x3200 ![0, 0] ![0, 112] ![0, 0] (extractStridedSlice S1024x3088 ![0, 1536] (shapeCast S1024x4624 a shapeCasts_S1x1024x4624_S1024x4624) slices_S1024x4624_S1024x3088_0_1536) (sitofp .f32 (constantI S_ 32 0#32)) pads_S1024x3088_S1024x3200_000_01120 h_S_) bitsLt_bf16_f32

theorem hw7_at (a : FVec Ideal S1x1024x4624 .f32) (k : Fin 1024) (e : Fin 3200) : hw7 a (ix2 k e) = if h : e.val < 3088 then a (ix3 0 k ⟨1536 + e.val, by omega⟩) else (0 : EReal) := by
  have hz : (FloatOps.sitofp .f32 (0#32) : Ideal .f32) = (0 : EReal) := by show (((0#32 : BitVec 32).toInt : ℝ) : EReal) = 0; simp
  pointwise [hw7]
  rw [hz]

theorem V7 : V m c main_v7 = hw7 (m ((c : Thread nD τ).loc main_arg2)) := by
  show StableHlo.after (List.flatten [hostOps0, hostOps0_1, hostOps0_2, hostOps0_3, hostOps0_4]) (fun b => m (c, b)) (Proc.tc.devRef main_v7) = _
  simp only [hostOps0, hostOps0_1, hostOps0_2, hostOps0_3, hostOps0_4, List.flatten_cons, List.flatten_nil, List.append_nil, List.cons_append, List.nil_append]
  after_results
  try rfl

/-- The weights of the low-rank gate, padded with zero rows. -/
def hw10 (a : FVec Ideal S1x16x512 .f32) : FVec Ideal S128x512 .bf16 :=
  truncf .bf16 (pad S128x512 ![0, 0] ![112, 0] ![0, 0] (shapeCast S16x512 a shapeCasts_S1x16x512_S16x512) (sitofp .f32 (constantI S_ 32 0#32)) pads_S16x512_S128x512_01120_000 h_S_) bitsLt_bf16_f32

theorem hw10_at (a : FVec Ideal S1x16x512 .f32) (r : Fin 128) (e : Fin 512) : hw10 a (ix2 r e) = if h : r.val < 16 then a (ix3 0 ⟨r.val, h⟩ e) else (0 : EReal) := by
  have hz : (FloatOps.sitofp .f32 (0#32) : Ideal .f32) = (0 : EReal) := by show (((0#32 : BitVec 32).toInt : ℝ) : EReal) = 0; simp
  pointwise [hw10]
  rw [hz]

theorem V10 : V m c main_v10 = hw10 (m ((c : Thread nD τ).loc main_arg5)) := by
  show StableHlo.after (List.flatten [hostOps0, hostOps0_1, hostOps0_2, hostOps0_3, hostOps0_4]) (fun b => m (c, b)) (Proc.tc.devRef main_v10) = _
  simp only [hostOps0, hostOps0_1, hostOps0_2, hostOps0_3, hostOps0_4, List.flatten_cons, List.flatten_nil, List.append_nil, List.cons_append, List.nil_append]
  after_results
  try rfl

/-- The scale of the first norm. -/
def hw12 (a : FVec Ideal S1x1024 .f32) : FVec Ideal S1x1024 .f32 :=
  broadcastInDim S1x1024 ![1] bcast_S1024_S1x1024_1 (shapeCast S1024 a shapeCasts_S1x1024_S1024)

theorem hw12_at (a : FVec Ideal S1x1024 .f32) (k : Fin 1024) : hw12 a (ix2 0 k) = a (ix2 0 k) := by
  pointwise [hw12]

theorem V12 : V m c main_v12 = hw12 (m ((c : Thread nD τ).loc main_arg1)) := by
  show StableHlo.after (List.flatten [hostOps0, hostOps0_1, hostOps0_2, hostOps0_3, hostOps0_4]) (fun b => m (c, b)) (Proc.tc.devRef main_v12) = _
  simp only [hostOps0, hostOps0_1, hostOps0_2, hostOps0_3, hostOps0_4, List.flatten_cons, List.flatten_nil, List.append_nil, List.cons_append, List.nil_append]
  after_results
  try rfl

/-- The scale of the queries' norm. -/
def hw14 (a : FVec Ideal S1x64 .f32) : FVec Ideal S64x1 .f32 :=
  broadcastInDim S64x1 ![0] bcast_S64_S64x1_0 (shapeCast S64 a shapeCasts_S1x64_S64)

theorem hw14_at (a : FVec Ideal S1x64 .f32) (d : Fin 64) : hw14 a (ix2 d 0) = a (ix2 0 d) := by
  pointwise [hw14]

theorem V14 : V m c main_v14 = hw14 (m ((c : Thread nD τ).loc main_arg3)) := by
  show StableHlo.after (List.flatten [hostOps0, hostOps0_1, hostOps0_2, hostOps0_3, hostOps0_4]) (fun b => m (c, b)) (Proc.tc.devRef main_v14) = _
  simp only [hostOps0, hostOps0_1, hostOps0_2, hostOps0_3, hostOps0_4, List.flatten_cons, List.flatten_nil, List.append_nil, List.cons_append, List.nil_append]
  after_results
  try rfl

/-- The scale of the keys' norm. -/
def hw16 (a : FVec Ideal S1x64 .f32) : FVec Ideal S64x1 .f32 :=
  broadcastInDim S64x1 ![0] bcast_S64_S64x1_0 (shapeCast S64 a shapeCasts_S1x64_S64)

theorem hw16_at (a : FVec Ideal S1x64 .f32) (d : Fin 64) : hw16 a (ix2 d 0) = a (ix2 0 d) := by
  pointwise [hw16]

theorem V16 : V m c main_v16 = hw16 (m ((c : Thread nD τ).loc main_arg4)) := by
  show StableHlo.after (List.flatten [hostOps0, hostOps0_1, hostOps0_2, hostOps0_3, hostOps0_4]) (fun b => m (c, b)) (Proc.tc.devRef main_v16) = _
  simp only [hostOps0, hostOps0_1, hostOps0_2, hostOps0_3, hostOps0_4, List.flatten_cons, List.flatten_nil, List.append_nil, List.cons_append, List.nil_append]
  after_results
  try rfl

/-- The bias of the gate. -/
def hw18 (a : FVec Ideal S1x512 .f32) : FVec Ideal S1x512 .f32 :=
  broadcastInDim S1x512 ![1] bcast_S512_S1x512_1 (shapeCast S512 a shapeCasts_S1x512_S512)

theorem hw18_at (a : FVec Ideal S1x512 .f32) (e : Fin 512) : hw18 a (ix2 0 e) = a (ix2 0 e) := by
  pointwise [hw18]

theorem V18 : V m c main_v18 = hw18 (m ((c : Thread nD τ).loc main_arg6)) := by
  show StableHlo.after (List.flatten [hostOps0, hostOps0_1, hostOps0_2, hostOps0_3, hostOps0_4]) (fun b => m (c, b)) (Proc.tc.devRef main_v18) = _
  simp only [hostOps0, hostOps0_1, hostOps0_2, hostOps0_3, hostOps0_4, List.flatten_cons, List.flatten_nil, List.append_nil, List.cons_append, List.nil_append]
  after_results
  try rfl

/-- The angle of each pair of entries at each position. -/
def ang : FVec Ideal S32x8192 .f32 :=
  mulf (broadcastInDim S32x8192 ![0, 1] bcast_S32x1_S32x8192_0_1 (broadcastInDim S32x1 ![0] bcast_S32_S32x1_0
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))
    (broadcastInDim S32x8192 ![0, 1] bcast_S1x8192_S32x8192_0_1 (broadcastInDim S1x8192 ![1] bcast_S8192_S1x8192_1 (sitofp (F := Ideal) .f32 (iotaInDim S8192 32 0))))

/-- The cosines, repeated for both halves. -/
def hcos : FVec Ideal S64x8192 .f32 :=
  concatenate S64x8192 0 [⟨S32x8192, Host.cos ang⟩, ⟨S32x8192, Host.cos ang⟩] concatenates_S32x8192_S32x8192_S64x8192_d0

/-- The sines, negated for the first half. -/
def hsin : FVec Ideal S64x8192 .f32 :=
  concatenate S64x8192 0 [⟨S32x8192, Host.negf (Host.sin ang)⟩, ⟨S32x8192, Host.sin ang⟩] concatenates_S32x8192_S32x8192_S64x8192_d0

open Cert.ProjRefIdeal.Read in
theorem ang_at (j : Fin 32) (t : Fin 8192) : ang (ix2 j t) = val_main_v36 (F := Ideal) (ix2 t j) := by
  pointwise [ang, val_main_v24, val_main_v25, val_main_v26, val_main_v27, val_main_v28, val_main_v29, val_main_v30, val_main_v31, val_main_v32, val_main_v33, val_main_v34, val_main_v35, val_main_v36, val_main_cst_2, val_main_cst_3]
  exact mul_comm _ _

open Cert.ProjRefIdeal.Read in
theorem hcos_at (d : Fin 64) (t : Fin 8192) : hcos (ix2 d t) = if h : d.val < 32 then val_main_v37 (F := Ideal) (ix2 t ⟨d.val, h⟩)
    else val_main_v37 (F := Ideal) (ix2 t ⟨d.val - 32, by omega⟩) := by
  have e : ∀ (j : Fin 32), val_main_v37 (F := Ideal) (ix2 t j) = Ideal.cos (ang (ix2 j t)) := fun j => by rw [ang_at]; rfl
  simp only [e]
  generalize hg : ang = g
  pointwise [hcos, hg]

open Cert.ProjRefIdeal.Read in
theorem hsin_at (d : Fin 64) (t : Fin 8192) : hsin (ix2 d t) = if h : d.val < 32 then -val_main_v38 (F := Ideal) (ix2 t ⟨d.val, h⟩)
    else val_main_v38 (F := Ideal) (ix2 t ⟨d.val - 32, by omega⟩) := by
  have e : ∀ (j : Fin 32), val_main_v38 (F := Ideal) (ix2 t j) = Ideal.sin (ang (ix2 j t)) := fun j => by rw [ang_at]; rfl
  simp only [e]
  generalize hg : ang = g
  pointwise [hsin, hg]

theorem V34 : V m c main_v34 = hcos := by
  show StableHlo.after (List.flatten [hostOps0, hostOps0_1, hostOps0_2, hostOps0_3, hostOps0_4]) (fun b => m (c, b)) (Proc.tc.devRef main_v34) = _
  simp only [hostOps0, hostOps0_1, hostOps0_2, hostOps0_3, hostOps0_4, List.flatten_cons, List.flatten_nil, List.append_nil, List.cons_append, List.nil_append]
  after_results
  try rfl

theorem V36 : V m c main_v36 = hsin := by
  show StableHlo.after (List.flatten [hostOps0, hostOps0_1, hostOps0_2, hostOps0_3, hostOps0_4]) (fun b => m (c, b)) (Proc.tc.devRef main_v36) = _
  simp only [hostOps0, hostOps0_1, hostOps0_2, hostOps0_3, hostOps0_4, List.flatten_cons, List.flatten_nil, List.append_nil, List.cons_append, List.nil_append]
  after_results
  try rfl

end Cert.ProjProof

end
-- ==== Proof.Proj.Blocks.lean ====
/- What the blocks of the projection are at a grid point, in terms of the arguments. -/
module

public import proofs.«01_k».proof.Proof.Proj.Block
public import proofs.«01_k».proof.Proof.Proj.Ref
public import proofs.«01_k».proof.Proof.Proj.Host

@[expose] public section

set_option maxRecDepth 16384

noncomputable section

open Idealize.ShloMosaic Idealize.ShloMosaic.TcCoe Idealize.SL.Sem
open scoped BigOperators

namespace Cert.ProjProof

open Cert.ProjIdeal Cert.ProjIdeal.Gen Cert.ProjForms

variable (m : (ℓ : Loc nD τ sig) → Buf (Elt Ideal) ℓ)

/-- The block each window takes at a grid point. -/
theorem idx : ∀ t : Fin cfg0.N, win0_0.index t = ![t.val / 16, t.val % 16, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, t.val % 16]
    ∧ win0_9.index t = ![0, t.val % 16]
    ∧ win0_10.index t = ![t.val / 16, 0, 0, t.val % 16]
    ∧ win0_11.index t = ![t.val / 16, 0, 0, t.val % 16]
    ∧ win0_12.index t = ![t.val / 16, 0, 0, t.val % 16]
    ∧ win0_13.index t = ![t.val / 16, t.val % 16, 0]
    ∧ win0_14.index t = ![t.val / 16, t.val % 16, 0]
    ∧ win0_15.index t = ![t.val / 16, t.val % 16, 0]
    ∧ win0_16.index t = ![t.val / 16, t.val % 16, 0]
    ∧ win0_17.index t = ![t.val / 16, t.val % 16, 0] :=
  (by decide +kernel : ∀ t : Fin grid0.N, _)

variable (c : Dev nD) (t : Fin cfg0.N)

theorem tlt : t.val < 64 := t.isLt

theorem blk0 (j : Fin 512) (k : Fin 1024) : iblk m c 0 t (ix3 0 j k)
    = (m ((c : Thread nD τ).loc main_arg0)) (ix3 ⟨t.val / 16, by have := tlt t; omega⟩ ⟨t.val % 16 * 512 + j.val, by have := tlt t; omega⟩ k) := by
  have := tlt t
  blk_point [iblk, V, idx t]

theorem blk1 (k : Fin 1024) : iblk m c 1 t (ix2 0 k) = (m ((c : Thread nD τ).loc main_arg1)) (ix2 0 k) := by
  refine Eq.trans ?_ (hw12_at _ k)
  rw [← V12 m c]
  blk_point [iblk, idx t]

theorem blk2 (r : Fin 1536) (k : Fin 1024) : iblk m c 2 t (ix2 r k) = (m ((c : Thread nD τ).loc main_arg2)) (ix3 0 k ⟨r.val, by omega⟩) := by
  refine Eq.trans ?_ (hw3_at _ r k)
  rw [← V3 m c]
  blk_point [iblk, idx t]

theorem blk3 (k : Fin 1024) (e : Fin 3200) : iblk m c 3 t (ix2 k e)
    = if h : e.val < 3088 then (m ((c : Thread nD τ).loc main_arg2)) (ix3 0 k ⟨1536 + e.val, by omega⟩) else (0 : EReal) := by
  refine Eq.trans ?_ (hw7_at _ k e)
  rw [← V7 m c]
  blk_point [iblk, idx t]

theorem blk4 (d : Fin 64) : iblk m c 4 t (ix2 d 0) = (m ((c : Thread nD τ).loc main_arg3)) (ix2 0 d) := by
  refine Eq.trans ?_ (hw14_at _ d)
  rw [← V14 m c]
  blk_point [iblk, idx t]

theorem blk5 (d : Fin 64) : iblk m c 5 t (ix2 d 0) = (m ((c : Thread nD τ).loc main_arg4)) (ix2 0 d) := by
  refine Eq.trans ?_ (hw16_at _ d)
  rw [← V16 m c]
  blk_point [iblk, idx t]

theorem blk6 (r : Fin 128) (e : Fin 512) : iblk m c 6 t (ix2 r e)
    = if h : r.val < 16 then (m ((c : Thread nD τ).loc main_arg5)) (ix3 0 ⟨r.val, h⟩ e) else (0 : EReal) := by
  refine Eq.trans ?_ (hw10_at _ r e)
  rw [← V10 m c]
  blk_point [iblk, idx t]

theorem blk7 (e : Fin 512) : iblk m c 7 t (ix2 0 e) = (m ((c : Thread nD τ).loc main_arg6)) (ix2 0 e) := by
  refine Eq.trans ?_ (hw18_at _ e)
  rw [← V18 m c]
  blk_point [iblk, idx t]

open Cert.ProjRefIdeal.Read in
theorem blk8 (d : Fin 64) (j : Fin 512) : iblk m c 8 t (ix2 d j)
    = if h : d.val < 32 then val_main_v37 (F := Ideal) (ix2 ⟨t.val % 16 * 512 + j.val, by have := tlt t; omega⟩ ⟨d.val, h⟩)
      else val_main_v37 (F := Ideal) (ix2 ⟨t.val % 16 * 512 + j.val, by have := tlt t; omega⟩ ⟨d.val - 32, by omega⟩) := by
  have := tlt t
  refine Eq.trans ?_ (hcos_at d ⟨t.val % 16 * 512 + j.val, by omega⟩)
  rw [← V34 m c]
  blk_point [iblk, idx t]

open Cert.ProjRefIdeal.Read in
theorem blk9 (d : Fin 64) (j : Fin 512) : iblk m c 9 t (ix2 d j)
    = if h : d.val < 32 then -val_main_v38 (F := Ideal) (ix2 ⟨t.val % 16 * 512 + j.val, by have := tlt t; omega⟩ ⟨d.val, h⟩)
      else val_main_v38 (F := Ideal) (ix2 ⟨t.val % 16 * 512 + j.val, by have := tlt t; omega⟩ ⟨d.val - 32, by omega⟩) := by
  have := tlt t
  refine Eq.trans ?_ (hsin_at d ⟨t.val % 16 * 512 + j.val, by omega⟩)
  rw [← V36 m c]
  blk_point [iblk, idx t]

end Cert.ProjProof

end
-- ==== Proof.Proj.Value.lean ====
/- The arrays the projection leaves are the reference's. -/
module

public import proofs.«01_k».proof.Proof.Proj.Blocks

@[expose] public section

set_option maxRecDepth 16384

noncomputable section

open Idealize.ShloMosaic Idealize.ShloMosaic.TcCoe Idealize.SL.Sem
open scoped BigOperators

namespace Cert.ProjProof

open Cert.ProjIdeal Cert.ProjIdeal.Gen Cert.ProjForms Cert.ProjRefProof

variable (m : (ℓ : Loc nD τ sig) → Buf (Elt Ideal) ℓ) (c : Dev nD) (t : Fin cfg0.N)

theorem hB_eq (j : Fin 512) : hB (iblk m c 0 t) (iblk m c 1 t) j
    = hrow (fun k => (m ((c : Thread nD τ).loc main_arg0)) (ix3 ⟨t.val / 16, by have := tlt t; omega⟩ ⟨t.val % 16 * 512 + (j).val, by have := tlt t; have hj : (j).val < 512 := (j).isLt; omega⟩ k)) (fun k => (m ((c : Thread nD τ).loc main_arg1)) (ix2 0 k)) := by
  unfold hB
  rw [show (fun k => iblk m c 0 t (ix3 0 j k)) = _ from funext fun k => blk0 m c t j k,
    show (fun k => iblk m c 1 t (ix2 0 k)) = _ from funext fun k => blk1 m c t k]

theorem zt_eq (r : Fin 1536) (j : Fin 512) : zt (iblk m c 0 t) (iblk m c 1 t) (iblk m c 2 t) r j
    = zc (m ((c : Thread nD τ).loc main_arg0)) (m ((c : Thread nD τ).loc main_arg1)) (m ((c : Thread nD τ).loc main_arg2)) ⟨t.val / 16, by have := tlt t; omega⟩ ⟨t.val % 16 * 512 + (j).val, by have := tlt t; have hj : (j).val < 512 := (j).isLt; omega⟩ ⟨r.val, by omega⟩ := by
  unfold zt zc
  refine Finset.sum_congr rfl fun k _ => ?_
  rw [hB_eq, mul_comm]
  exact congrArg _ (blk2 m c t r k)

theorem zr_eq (j : Fin 512) (e : Fin 3200) (h : e.val < 3088) : zr (iblk m c 0 t) (iblk m c 1 t) (iblk m c 3 t) j e
    = zc (m ((c : Thread nD τ).loc main_arg0)) (m ((c : Thread nD τ).loc main_arg1)) (m ((c : Thread nD τ).loc main_arg2)) ⟨t.val / 16, by have := tlt t; omega⟩ ⟨t.val % 16 * 512 + (j).val, by have := tlt t; have hj : (j).val < 512 := (j).isLt; omega⟩ ⟨1536 + e.val, by omega⟩ := by
  unfold zr zc
  refine Finset.sum_congr rfl fun k _ => ?_
  rw [hB_eq]
  exact congrArg _ ((blk3 m c t k e).trans (dif_pos h))

/-- The padded low-rank product is the short one. -/
theorem low_eq (j : Fin 512) (e : Fin 512) :
    (∑ r : Fin 128, zr (iblk m c 0 t) (iblk m c 1 t) (iblk m c 3 t) j ⟨3072 + r.val, by omega⟩ * iblk m c 6 t (ix2 r e) : EReal)
      = ∑ r : Fin 16, zc (m ((c : Thread nD τ).loc main_arg0)) (m ((c : Thread nD τ).loc main_arg1)) (m ((c : Thread nD τ).loc main_arg2)) ⟨t.val / 16, by have := tlt t; omega⟩ ⟨t.val % 16 * 512 + (j).val, by have := tlt t; have hj : (j).val < 512 := (j).isLt; omega⟩ ⟨4608 + r.val, by omega⟩ * (m ((c : Thread nD τ).loc main_arg5)) (ix3 0 r e) := by
  refine (Fin.sum_univ_add (a := 16) (b := 112) (fun r : Fin 128 =>
    (zr (iblk m c 0 t) (iblk m c 1 t) (iblk m c 3 t) j ⟨3072 + r.val, by omega⟩ * iblk m c 6 t (ix2 r e) : EReal))).trans ?_
  rw [Finset.sum_eq_zero (s := (Finset.univ : Finset (Fin 112))) (fun r _ => ?_), add_zero]
  · refine Finset.sum_congr rfl fun r _ => ?_
    refine congrArg₂ (· * ·) ((zr_eq m c t j _ (by dsimp [Fin.castAdd]; omega)).trans (congrArg _ (Fin.ext (by dsimp [Fin.castAdd]; omega)))) ?_
    exact (blk6 m c t _ e).trans (dif_pos (by dsimp [Fin.castAdd]; omega))
  · rw [show iblk m c 6 t (ix2 (Fin.natAdd 16 r) e) = (0 : EReal) from (blk6 m c t _ e).trans (dif_neg (by dsimp [Fin.natAdd]; omega))]
    exact mul_zero _

theorem emb10 (y : S1x8x64x512.Idx) :
    ((cfg0.win 10).blk t).view.emb y = (ix4 ⟨t.val / 16, by have := tlt t; omega⟩ (y 1) (y 2) ⟨t.val % 16 * 512 + (y 3).val, by have := tlt t; have hj : (y 3).val < 512 := (y 3).isLt; omega⟩ : S4x8x64x8192.Idx) := by
  have := tlt t
  blk_ext [idx t]

theorem emb11 (y : S1x8x64x512.Idx) :
    ((cfg0.win 11).blk t).view.emb y = (ix4 ⟨t.val / 16, by have := tlt t; omega⟩ (y 1) (y 2) ⟨t.val % 16 * 512 + (y 3).val, by have := tlt t; have hj : (y 3).val < 512 := (y 3).isLt; omega⟩ : S4x8x64x8192.Idx) := by
  have := tlt t
  blk_ext [idx t]

theorem emb12 (y : S1x8x64x512.Idx) :
    ((cfg0.win 12).blk t).view.emb y = (ix4 ⟨t.val / 16, by have := tlt t; omega⟩ (y 1) (y 2) ⟨t.val % 16 * 512 + (y 3).val, by have := tlt t; have hj : (y 3).val < 512 := (y 3).isLt; omega⟩ : S4x8x64x8192.Idx) := by
  have := tlt t
  blk_ext [idx t]

theorem emb13 (y : S1x512x512.Idx) :
    ((cfg0.win 13).blk t).view.emb y = (ix3 ⟨t.val / 16, by have := tlt t; omega⟩ ⟨t.val % 16 * 512 + (y 1).val, by have := tlt t; have hj : (y 1).val < 512 := (y 1).isLt; omega⟩ (y 2) : S4x8192x512.Idx) := by
  have := tlt t
  blk_ext [idx t]

theorem emb14 (y : S1x512x512.Idx) :
    ((cfg0.win 14).blk t).view.emb y = (ix3 ⟨t.val / 16, by have := tlt t; omega⟩ ⟨t.val % 16 * 512 + (y 1).val, by have := tlt t; have hj : (y 1).val < 512 := (y 1).isLt; omega⟩ (y 2) : S4x8192x512.Idx) := by
  have := tlt t
  blk_ext [idx t]

theorem emb15 (y : S1x512x1024.Idx) :
    ((cfg0.win 15).blk t).view.emb y = (ix3 ⟨t.val / 16, by have := tlt t; omega⟩ ⟨t.val % 16 * 512 + (y 1).val, by have := tlt t; have hj : (y 1).val < 512 := (y 1).isLt; omega⟩ (y 2) : S4x8192x1024.Idx) := by
  have := tlt t
  blk_ext [idx t]

theorem emb16 (y : S1x512x512.Idx) :
    ((cfg0.win 16).blk t).view.emb y = (ix3 ⟨t.val / 16, by have := tlt t; omega⟩ ⟨t.val % 16 * 512 + (y 1).val, by have := tlt t; have hj : (y 1).val < 512 := (y 1).isLt; omega⟩ (y 2) : S4x8192x512.Idx) := by
  have := tlt t
  blk_ext [idx t]

theorem emb17 (y : S1x512x1024.Idx) :
    ((cfg0.win 17).blk t).view.emb y = (ix3 ⟨t.val / 16, by have := tlt t; omega⟩ ⟨t.val % 16 * 512 + (y 1).val, by have := tlt t; have hj : (y 1).val < 512 := (y 1).isLt; omega⟩ (y 2) : S4x8192x1024.Idx) := by
  have := tlt t
  blk_ext [idx t]

theorem point10 (y : S1x8x64x512.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v116 (F := Ideal) (m ((c : Thread nD τ).loc main_arg0)) (m ((c : Thread nD τ).loc main_arg1)) (m ((c : Thread nD τ).loc main_arg2)) (m ((c : Thread nD τ).loc main_arg3)) (((cfg0.win 10).blk t).view.emb y) := by
  refine (out10_at _ _ _ _ _ _ _ _ _ _ y).trans (Eq.trans ?_ ((congrArg _ (emb10 t y)).trans (q_at _ _ _ _ ⟨t.val / 16, by have := tlt t; omega⟩ (y 1) (y 2) ⟨t.val % 16 * 512 + (y 3).val, by have := tlt t; have hj : (y 3).val < 512 := (y 3).isLt; omega⟩)).symm)
  rw [rope'_eq _ _ _ (fun i => Cert.ProjRefIdeal.Read.val_main_v37 (F := Ideal) (ix2 ⟨t.val % 16 * 512 + (y 3).val, by have := tlt t; have hj : (y 3).val < 512 := (y 3).isLt; omega⟩ i)) (fun i => Cert.ProjRefIdeal.Read.val_main_v38 (F := Ideal) (ix2 ⟨t.val % 16 * 512 + (y 3).val, by have := tlt t; have hj : (y 3).val < 512 := (y 3).isLt; omega⟩ i)) (y 2) (fun d => blk8 m c t d (y 3)) (fun d => blk9 m c t d (y 3)),
    show (fun d : Fin 64 => (iblk m c 4 t (ix2 d 0) : EReal)) = _ from funext fun d => blk4 m c t d,
    show (fun d : Fin 64 => zt (iblk m c 0 t) (iblk m c 1 t) (iblk m c 2 t) _ (y 3)) = _ from funext fun d => zt_eq m c t _ (y 3)]

/-- The rotated queries. -/
theorem final10 : (dats m 0 c).arrAt 10 (cfgs 0).N = Cert.ProjRefIdeal.Read.val_main_v116 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  exact point10 m c t y

theorem point11 (y : S1x8x64x512.Idx) :
    out0_11 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v117 (F := Ideal) (m ((c : Thread nD τ).loc main_arg0)) (m ((c : Thread nD τ).loc main_arg1)) (m ((c : Thread nD τ).loc main_arg2)) (m ((c : Thread nD τ).loc main_arg4)) (((cfg0.win 11).blk t).view.emb y) := by
  refine (out11_at _ _ _ _ _ _ _ _ _ _ y).trans (Eq.trans ?_ ((congrArg _ (emb11 t y)).trans (k_at _ _ _ _ ⟨t.val / 16, by have := tlt t; omega⟩ (y 1) (y 2) ⟨t.val % 16 * 512 + (y 3).val, by have := tlt t; have hj : (y 3).val < 512 := (y 3).isLt; omega⟩)).symm)
  rw [rope'_eq _ _ _ (fun i => Cert.ProjRefIdeal.Read.val_main_v37 (F := Ideal) (ix2 ⟨t.val % 16 * 512 + (y 3).val, by have := tlt t; have hj : (y 3).val < 512 := (y 3).isLt; omega⟩ i)) (fun i => Cert.ProjRefIdeal.Read.val_main_v38 (F := Ideal) (ix2 ⟨t.val % 16 * 512 + (y 3).val, by have := tlt t; have hj : (y 3).val < 512 := (y 3).isLt; omega⟩ i)) (y 2) (fun d => blk8 m c t d (y 3)) (fun d => blk9 m c t d (y 3)),
    show (fun d : Fin 64 => (iblk m c 5 t (ix2 d 0) : EReal)) = _ from funext fun d => blk5 m c t d,
    show (fun d : Fin 64 => zt (iblk m c 0 t) (iblk m c 1 t) (iblk m c 2 t) _ (y 3)) = _ from funext fun d => zt_eq m c t _ (y 3)]

/-- The rotated keys. -/
theorem final11 : (dats m 0 c).arrAt 11 (cfgs 0).N = Cert.ProjRefIdeal.Read.val_main_v117 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t hf y => ?_
  blk_simp; rw [after0_11]
  exact point11 m c t y

theorem point12 (y : S1x8x64x512.Idx) :
    out0_12 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v118 (F := Ideal) (m ((c : Thread nD τ).loc main_arg0)) (m ((c : Thread nD τ).loc main_arg1)) (m ((c : Thread nD τ).loc main_arg2)) (((cfg0.win 12).blk t).view.emb y) := by
  refine (out12_at _ _ _ _ _ _ _ _ _ _ y).trans (Eq.trans ?_ ((congrArg _ (emb12 t y)).trans (v_at _ _ _ ⟨t.val / 16, by have := tlt t; omega⟩ (y 1) (y 2) ⟨t.val % 16 * 512 + (y 3).val, by have := tlt t; have hj : (y 3).val < 512 := (y 3).isLt; omega⟩)).symm)
  exact zt_eq m c t _ (y 3)

/-- The values. -/
theorem final12 : (dats m 0 c).arrAt 12 (cfgs 0).N = Cert.ProjRefIdeal.Read.val_main_v118 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp; rw [after0_12]
  exact point12 m c t y

theorem point13 (y : S1x512x512.Idx) :
    out0_13 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v19 (F := Ideal) (m ((c : Thread nD τ).loc main_arg0)) (m ((c : Thread nD τ).loc main_arg1)) (m ((c : Thread nD τ).loc main_arg2)) (((cfg0.win 13).blk t).view.emb y) := by
  refine (out13_at _ _ _ _ _ _ _ _ _ _ y).trans (Eq.trans ?_ ((congrArg _ (emb13 t y)).trans (r19_at _ _ _ ⟨t.val / 16, by have := tlt t; omega⟩ ⟨t.val % 16 * 512 + (y 1).val, by have := tlt t; have hj : (y 1).val < 512 := (y 1).isLt; omega⟩ (y 2))).symm)
  have h2 : (y 2).val < 512 := (y 2).isLt
  refine (zr_eq m c t (y 1) _ (by dsimp only; omega)).trans (congrArg _ (Fin.ext ?_))
  dsimp only
  omega

/-- The queries of the linear attention. -/
theorem final13 : (dats m 0 c).arrAt 13 (cfgs 0).N = Cert.ProjRefIdeal.Read.val_main_v19 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]
  exact point13 m c t y

theorem point14 (y : S1x512x512.Idx) :
    out0_14 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v20 (F := Ideal) (m ((c : Thread nD τ).loc main_arg0)) (m ((c : Thread nD τ).loc main_arg1)) (m ((c : Thread nD τ).loc main_arg2)) (((cfg0.win 14).blk t).view.emb y) := by
  refine (out14_at _ _ _ _ _ _ _ _ _ _ y).trans (Eq.trans ?_ ((congrArg _ (emb14 t y)).trans (r20_at _ _ _ ⟨t.val / 16, by have := tlt t; omega⟩ ⟨t.val % 16 * 512 + (y 1).val, by have := tlt t; have hj : (y 1).val < 512 := (y 1).isLt; omega⟩ (y 2))).symm)
  have h2 : (y 2).val < 512 := (y 2).isLt
  refine (zr_eq m c t (y 1) _ (by dsimp only; omega)).trans (congrArg _ (Fin.ext ?_))
  dsimp only
  omega

/-- The keys of the linear attention. -/
theorem final14 : (dats m 0 c).arrAt 14 (cfgs 0).N = Cert.ProjRefIdeal.Read.val_main_v20 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp; rw [after0_14]
  exact point14 m c t y

theorem point15 (y : S1x512x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v119 (F := Ideal) (m ((c : Thread nD τ).loc main_arg0)) (m ((c : Thread nD τ).loc main_arg1)) (m ((c : Thread nD τ).loc main_arg2)) (((cfg0.win 15).blk t).view.emb y) := by
  refine (out15_at _ _ _ _ _ _ _ _ _ _ y).trans (Eq.trans ?_ ((congrArg _ (emb15 t y)).trans (r119_at _ _ _ ⟨t.val / 16, by have := tlt t; omega⟩ ⟨t.val % 16 * 512 + (y 1).val, by have := tlt t; have hj : (y 1).val < 512 := (y 1).isLt; omega⟩ (y 2))).symm)
  have h2 : (y 2).val < 1024 := (y 2).isLt
  refine (zr_eq m c t (y 1) _ (by dsimp only; omega)).trans (congrArg _ (Fin.ext ?_))
  dsimp only
  omega

/-- The values of the linear attention. -/
theorem final15 : (dats m 0 c).arrAt 15 (cfgs 0).N = Cert.ProjRefIdeal.Read.val_main_v119 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp; rw [after0_15]
  exact point15 m c t y

theorem point16 (y : S1x512x512.Idx) :
    out0_16 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v115 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (((cfg0.win 16).blk t).view.emb y) := by
  refine (out16_at _ _ _ _ _ _ _ _ _ _ y).trans (Eq.trans ?_ ((congrArg _ (emb16 t y)).trans (la_at _ _ _ _ _ ⟨t.val / 16, by have := tlt t; omega⟩ ⟨t.val % 16 * 512 + (y 1).val, by have := tlt t; have hj : (y 1).val < 512 := (y 1).isLt; omega⟩ (y 2))).symm)
  exact congrArg lsig (congrArg₂ (· + ·) (low_eq m c t (y 1) (y 2)) (blk7 m c t (y 2)))

/-- The logarithms of the decays. -/
theorem final16 : (dats m 0 c).arrAt 16 (cfgs 0).N = Cert.ProjRefIdeal.Read.val_main_v115 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 16 _ (by decide +kernel) fun t hf y => ?_
  blk_simp; rw [after0_16]
  exact point16 m c t y

theorem point17 (y : S1x512x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) y
      = Cert.ProjRefIdeal.Read.val_main_v120 (F := Ideal) (m ((c : Thread nD τ).loc main_arg0)) (m ((c : Thread nD τ).loc main_arg1)) (m ((c : Thread nD τ).loc main_arg2)) (((cfg0.win 17).blk t).view.emb y) := by
  refine (out17_at _ _ _ _ _ _ _ _ _ _ y).trans (Eq.trans ?_ ((congrArg _ (emb17 t y)).trans (r120_at _ _ _ ⟨t.val / 16, by have := tlt t; omega⟩ ⟨t.val % 16 * 512 + (y 1).val, by have := tlt t; have hj : (y 1).val < 512 := (y 1).isLt; omega⟩ (y 2))).symm)
  have h2 : (y 2).val < 1024 := (y 2).isLt
  refine (zr_eq m c t (y 1) _ (by dsimp only; omega)).trans (congrArg _ (Fin.ext ?_))
  dsimp only
  omega

/-- The output gate. -/
theorem final17 : (dats m 0 c).arrAt 17 (cfgs 0).N = Cert.ProjRefIdeal.Read.val_main_v120 (F := Ideal) (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp; rw [after0_17]
  exact point17 m c t y

end Cert.ProjProof

end
-- ==== Proof.Proj.Claim.lean ====
/- The projection against its reference, as stated. -/
module

public import proofs.«01_k».proof.Defs
public import proofs.«01_k».proof.Proof.Proj.Value
public import proofs.«01_k».proof.Proof.Gen.ProjRefIdeal.Run
public import Idealize.ShloMosaic.Lib.Claim

@[expose] public section

set_option maxRecDepth 16384

noncomputable section

open Idealize.ShloMosaic Idealize.ShloMosaic.TcCoe Idealize.SL.Sem

namespace Cert.ProjProof

set_option maxHeartbeats 3200000 in
theorem algebraic : Cert.algebraic_ProjIdeal_ProjRefIdeal (hProjIdeal := Cert.ProjIdeal.Gen.facts)
    (hProjRefIdeal := Cert.ProjRefIdeal.Gen.facts) := by
  intro m g m' g' _ hagree
  refine ⟨fun c => (ProjIdeal.Gen.dats m 0 c).arrAt 10 (ProjIdeal.cfgs 0).N, fun c => (ProjIdeal.Gen.dats m 0 c).arrAt 11 (ProjIdeal.cfgs 0).N, fun c => (ProjIdeal.Gen.dats m 0 c).arrAt 12 (ProjIdeal.cfgs 0).N, fun c => (ProjIdeal.Gen.dats m 0 c).arrAt 13 (ProjIdeal.cfgs 0).N, fun c => (ProjIdeal.Gen.dats m 0 c).arrAt 14 (ProjIdeal.cfgs 0).N, fun c => (ProjIdeal.Gen.dats m 0 c).arrAt 15 (ProjIdeal.cfgs 0).N, fun c => (ProjIdeal.Gen.dats m 0 c).arrAt 16 (ProjIdeal.cfgs 0).N, fun c => (ProjIdeal.Gen.dats m 0 c).arrAt 17 (ProjIdeal.cfgs 0).N, ?_, ?_⟩
  · refine Idealize.ShloMosaic.θ_run_mono (Idealize.ShloMosaic.θ_run_and (Cert.ProjIdeal.Gen.run_main m g) (Cert.ProjIdeal.Gen.unchanged m g)) ?_
    exact fun r h c => ⟨(h.1 c).1 10, (h.1 c).1 11, (h.1 c).1 12, (h.1 c).1 13, (h.1 c).1 14, (h.1 c).1 15, (h.1 c).1 16, (h.1 c).1 17, h.2 c⟩
  · refine Idealize.ShloMosaic.θ_run_mono (Cert.ProjRefIdeal.Value.run m' g') ?_
    intro r h c
    obtain ⟨a0, a1, a2, a3, a4, a5, a6⟩ := hagree c
    obtain ⟨r0, r1, r2, r3, r4, r5, r6, r7, rest⟩ := h c
    refine ⟨r0.trans ?_, r1.trans ?_, r2.trans ?_, r3.trans ?_, r4.trans ?_, r5.trans ?_, r6.trans ?_, r7.trans ?_, rest⟩
    · rw [Cert.ProjRefIdeal.Read.val_main_v116_eq, a0, a1, a2, a3]
      exact (final10 m c).symm
    · rw [Cert.ProjRefIdeal.Read.val_main_v117_eq, a0, a1, a2, a4]
      exact (final11 m c).symm
    · refine (Cert.ProjRefIdeal.Read.val_main_v118_eq _ _ _ ).trans ?_
      rw [a0, a1, a2]
      exact (final12 m c).symm
    · refine (Cert.ProjRefIdeal.Read.val_main_v19_eq _ _ _ ).trans ?_
      rw [a0, a1, a2]
      exact (final13 m c).symm
    · refine (Cert.ProjRefIdeal.Read.val_main_v20_eq _ _ _ ).trans ?_
      rw [a0, a1, a2]
      exact (final14 m c).symm
    · refine (Cert.ProjRefIdeal.Read.val_main_v119_eq _ _ _ ).trans ?_
      rw [a0, a1, a2]
      exact (final15 m c).symm
    · rw [Cert.ProjRefIdeal.Read.val_main_v115_eq, a0, a1, a2, a5, a6]
      exact (final16 m c).symm
    · refine (Cert.ProjRefIdeal.Read.val_main_v120_eq _ _ _ ).trans ?_
      rw [a0, a1, a2]
      exact (final17 m c).symm

end Cert.ProjProof

end
-- ==== Proof.ProjS.Head.lean ====
/- What one block of the projection holds, head by head, over the arrays it is computed from. -/
module

public import proofs.«01_k».proof.Proof.Gen.ProjSIdeal.Frame
public import proofs.«01_k».proof.Proof.Proj.Forms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ProjSProof

open Cert.ProjSIdeal Cert.ProjSIdeal.Gen Cert.ProjForms

/-- The normalised row. -/
theorem hb_at (x : Vec Ideal S1x128x1024 .f32) (g : Vec Ideal S1x1024 .f32) (t : Fin 128) (k : Fin 1024) :
    k0_pay3 (F := Ideal) x g (ix2 t k) = hrow (fun k => x (ix3 0 t k)) (fun k => g (ix2 0 k)) k := by
  pointwise [k0_pay3, hrow]

section
variable (c s : Vec Ideal S64x128 .f32) (g : Vec Ideal S64x1 .f32) (z : FVec Ideal S512x128 .f32)

theorem q0_at (x : Vec Ideal S1x128x1024 .f32) (w : Vec Ideal S1x1024 .f32) (a : Vec Ideal S512x1024 .bf16) (y : S1x1x64x128.Idx) : k0_pay9 (F := Ideal) c s (k0_pay7 x w a) (k0_pay8 g) y
    = rope (nr (fun d => (k0_pay6 x w a) (ix2 ⟨0 + d.val, by omega⟩ (y 3))) (fun d => g (ix2 d 0))) (fun d => c (ix2 d (y 3)))
        (fun d => s (ix2 d (y 3))) (y 2) := by
  idx_vars y
  pointwise [k0_pay9, k0_pay7, k0_pay8, rope, nr]

theorem q1_at (y : S1x1x64x128.Idx) : k0_pay10 (F := Ideal) c s z g y
    = rope (nr (fun d => z (ix2 ⟨64 + d.val, by omega⟩ (y 3))) (fun d => g (ix2 d 0))) (fun d => c (ix2 d (y 3)))
        (fun d => s (ix2 d (y 3))) (y 2) := by
  idx_vars y
  pointwise [k0_pay10, rope, nr]

theorem q2_at (y : S1x1x64x128.Idx) : k0_pay13 (F := Ideal) c s (k0_pay11 z) (k0_pay12 z) g y
    = rope (nr (fun d => z (ix2 ⟨128 + d.val, by omega⟩ (y 3))) (fun d => g (ix2 d 0))) (fun d => c (ix2 d (y 3)))
        (fun d => s (ix2 d (y 3))) (y 2) := by
  idx_vars y
  pointwise [k0_pay13, k0_pay12, k0_pay11, rope, nr]

theorem q3_at (y : S1x1x64x128.Idx) : k0_pay14 (F := Ideal) c s z g y
    = rope (nr (fun d => z (ix2 ⟨192 + d.val, by omega⟩ (y 3))) (fun d => g (ix2 d 0))) (fun d => c (ix2 d (y 3)))
        (fun d => s (ix2 d (y 3))) (y 2) := by
  idx_vars y
  pointwise [k0_pay14, rope, nr]

theorem q4_at (y : S1x1x64x128.Idx) : k0_pay17 (F := Ideal) c s (k0_pay15 z) (k0_pay16 z) g y
    = rope (nr (fun d => z (ix2 ⟨256 + d.val, by omega⟩ (y 3))) (fun d => g (ix2 d 0))) (fun d => c (ix2 d (y 3)))
        (fun d => s (ix2 d (y 3))) (y 2) := by
  idx_vars y
  pointwise [k0_pay17, k0_pay16, k0_pay15, rope, nr]

theorem q5_at (y : S1x1x64x128.Idx) : k0_pay19 (F := Ideal) (k0_pay18 c s z g) y
    = rope (nr (fun d => z (ix2 ⟨320 + d.val, by omega⟩ (y 3))) (fun d => g (ix2 d 0))) (fun d => c (ix2 d (y 3)))
        (fun d => s (ix2 d (y 3))) (y 2) := by
  idx_vars y
  pointwise [k0_pay19, k0_pay18, rope, nr]

theorem q6_at (y : S1x1x64x128.Idx) : k0_pay20 (F := Ideal) c s z g y
    = rope (nr (fun d => z (ix2 ⟨384 + d.val, by omega⟩ (y 3))) (fun d => g (ix2 d 0))) (fun d => c (ix2 d (y 3)))
        (fun d => s (ix2 d (y 3))) (y 2) := by
  idx_vars y
  pointwise [k0_pay20, rope, nr]

theorem q7_at (y : S1x1x64x128.Idx) : k0_pay23 (F := Ideal) c s (k0_pay21 z g) (k0_pay22 z g) y
    = rope (nr (fun d => z (ix2 ⟨448 + d.val, by omega⟩ (y 3))) (fun d => g (ix2 d 0))) (fun d => c (ix2 d (y 3)))
        (fun d => s (ix2 d (y 3))) (y 2) := by
  idx_vars y
  pointwise [k0_pay23, k0_pay22, k0_pay21, rope, nr]

theorem k0_at (h : FVec Ideal S128x1024 .bf16) (b : Vec Ideal S512x1024 .bf16) (y : S1x1x64x128.Idx) : k0_pay25 (F := Ideal) h c s b g y
    = rope (nr (fun d => (k0_pay24 h b) (ix2 ⟨0 + d.val, by omega⟩ (y 3))) (fun d => g (ix2 d 0))) (fun d => c (ix2 d (y 3)))
        (fun d => s (ix2 d (y 3))) (y 2) := by
  idx_vars y
  pointwise [k0_pay25, rope, nr]

theorem k1_at (h : FVec Ideal S128x1024 .bf16) (b : Vec Ideal S512x1024 .bf16) (y : S1x1x64x128.Idx) : k0_pay29 (F := Ideal) c s (k0_pay26 h b) (k0_pay27 h b) (k0_pay28 (F := Ideal)) g y
    = rope (nr (fun d => (k0_pay24 h b) (ix2 ⟨64 + d.val, by omega⟩ (y 3))) (fun d => g (ix2 d 0))) (fun d => c (ix2 d (y 3)))
        (fun d => s (ix2 d (y 3))) (y 2) := by
  idx_vars y
  pointwise [k0_pay29, k0_pay28, k0_pay27, k0_pay26, rope, nr]

theorem k2_at (y : S1x1x64x128.Idx) : k0_pay30 (F := Ideal) c s z g y
    = rope (nr (fun d => z (ix2 ⟨128 + d.val, by omega⟩ (y 3))) (fun d => g (ix2 d 0))) (fun d => c (ix2 d (y 3)))
        (fun d => s (ix2 d (y 3))) (y 2) := by
  idx_vars y
  pointwise [k0_pay30, rope, nr]

theorem k3_at (y : S1x1x64x128.Idx) : k0_pay31 (F := Ideal) c s z g y
    = rope (nr (fun d => z (ix2 ⟨192 + d.val, by omega⟩ (y 3))) (fun d => g (ix2 d 0))) (fun d => c (ix2 d (y 3)))
        (fun d => s (ix2 d (y 3))) (y 2) := by
  idx_vars y
  pointwise [k0_pay31, rope, nr]

theorem k4_at (y : S1x1x64x128.Idx) : k0_pay35 (F := Ideal) (k0_pay33 c z g) (k0_pay34 s z g) y
    = rope (nr (fun d => z (ix2 ⟨256 + d.val, by omega⟩ (y 3))) (fun d => g (ix2 d 0))) (fun d => c (ix2 d (y 3)))
        (fun d => s (ix2 d (y 3))) (y 2) := by
  idx_vars y
  pointwise [k0_pay35, k0_pay34, k0_pay33, k0_pay32, rope, nr]

theorem k5_at (y : S1x1x64x128.Idx) : k0_pay36 (F := Ideal) c s z g y
    = rope (nr (fun d => z (ix2 ⟨320 + d.val, by omega⟩ (y 3))) (fun d => g (ix2 d 0))) (fun d => c (ix2 d (y 3)))
        (fun d => s (ix2 d (y 3))) (y 2) := by
  idx_vars y
  pointwise [k0_pay36, rope, nr]

theorem k6_at (y : S1x1x64x128.Idx) : k0_pay38 (F := Ideal) c s (k0_pay37 z) g y
    = rope (nr (fun d => z (ix2 ⟨384 + d.val, by omega⟩ (y 3))) (fun d => g (ix2 d 0))) (fun d => c (ix2 d (y 3)))
        (fun d => s (ix2 d (y 3))) (y 2) := by
  idx_vars y
  pointwise [k0_pay38, k0_pay37, rope, nr]

theorem k7_at (y : S1x1x64x128.Idx) : k0_pay39 (F := Ideal) c s z g y
    = rope (nr (fun d => z (ix2 ⟨448 + d.val, by omega⟩ (y 3))) (fun d => g (ix2 d 0))) (fun d => c (ix2 d (y 3)))
        (fun d => s (ix2 d (y 3))) (y 2) := by
  idx_vars y
  pointwise [k0_pay39, rope, nr]

end

end Cert.ProjSProof

end
-- ==== Proof.ProjS.Block.lean ====
/- What the blocks of the projection hold, over the blocks they are computed from. -/
module

public import proofs.«01_k».proof.Proof.ProjS.Head

@[expose] public section

set_option maxRecDepth 16384

noncomputable section

open Idealize.ShloMosaic Idealize.ShloMosaic.TcCoe Idealize.SL.Sem
open scoped BigOperators

namespace Cert.ProjSProof

open Cert.ProjSIdeal Cert.ProjSIdeal.Gen Cert.ProjForms

variable (x0 : Vec Ideal S1x128x1024 .f32) (x1 : Vec Ideal S1x1024 .f32) (x2 : Vec Ideal S1536x1024 .bf16) (x3 : Vec Ideal S1024x3200 .bf16)
  (x4 x5 : Vec Ideal S64x1 .f32) (x6 : Vec Ideal S128x512 .bf16) (x7 : Vec Ideal S1x512 .f32) (x8 x9 : Vec Ideal S64x128 .f32)

/-- The normalised row of token `t`. -/
def hB (t : Fin 128) : Fin 1024 → EReal := hrow (fun k => x0 (ix3 0 t k)) (fun k => x1 (ix2 0 k))

/-- Row `r` of the transposed product, at token `t`. -/
def zt (r : Fin 1536) (t : Fin 128) : EReal := ∑ k : Fin 1024, x2 (ix2 r k) * hB x0 x1 t k

/-- Column `e` of the second product, at token `t`. -/
def zr (t : Fin 128) (e : Fin 3200) : EReal := ∑ k : Fin 1024, hB x0 x1 t k * x3 (ix2 k e)

theorem p54_at (t : Fin 128) (k : Fin 1024) : k0_pay54 x0 x1 x2 x3 x4 x5 x6 x7 x8 x9 (ix2 t k) = hB x0 x1 t k := by
  refine (hb_at (View.ld x0 r0_0) (View.ld x1 r0_1) t k).trans ?_
  pointwise [hB, hrow]

theorem p55_at (d : Fin 64) (t : Fin 128) : k0_pay55 x0 x1 x2 x3 x4 x5 x6 x7 x8 x9 (ix2 d t) = x8 (ix2 d t) := by
  pointwise [k0_pay55, k0_pay4]

theorem p56_at (d : Fin 64) (t : Fin 128) : k0_pay56 x0 x1 x2 x3 x4 x5 x6 x7 x8 x9 (ix2 d t) = x9 (ix2 d t) := by
  pointwise [k0_pay56, k0_pay5]

theorem mm_at (x : Vec Ideal S1x128x1024 .f32) (g : Vec Ideal S1x1024 .f32) (w : Vec Ideal S512x1024 .bf16) (r : Fin 512) (t : Fin 128) :
    k0_pay6 (F := Ideal) x g w (ix2 r t) = ∑ k : Fin 1024, w (ix2 r k) * k0_pay3 x g (ix2 t k) := by
  pointwise [k0_pay6]

theorem mm24_at (h : FVec Ideal S128x1024 .bf16) (w : Vec Ideal S512x1024 .bf16) (r : Fin 512) (t : Fin 128) :
    k0_pay24 (F := Ideal) h w (ix2 r t) = ∑ k : Fin 1024, w (ix2 r k) * h (ix2 t k) := by
  pointwise [k0_pay24]

theorem mm40_at (h : FVec Ideal S128x1024 .bf16) (w : Vec Ideal S512x1024 .bf16) (r : Fin 512) (t : Fin 128) :
    k0_pay40 (F := Ideal) h w (ix2 r t) = ∑ k : Fin 1024, w (ix2 r k) * h (ix2 t k) := by
  pointwise [k0_pay40]

theorem p57_at (r : Fin 512) (t : Fin 128) : k0_pay57 x0 x1 x2 x3 x4 x5 x6 x7 x8 x9 (ix2 r t) = zt x0 x1 x2 ⟨r.val, by omega⟩ t := by
  refine (mm_at (View.ld x0 r0_0) (View.ld x1 r0_1) (View.ld x2 r0_3) r t).trans ?_
  unfold zt
  refine Finset.sum_congr rfl fun k _ => ?_
  refine congrArg₂ (· * ·) ?_ (p54_at x0 x1 x2 x3 x4 x5 x6 x7 x8 x9 t k)
  pointwise []

theorem p58_at (r : Fin 512) (t : Fin 128) : k0_pay58 x0 x1 x2 x3 x4 x5 x6 x7 x8 x9 (ix2 r t) = zt x0 x1 x2 ⟨512 + r.val, by omega⟩ t := by
  refine (mm24_at _ (View.ld x2 r0_13) r t).trans ?_
  unfold zt
  refine Finset.sum_congr rfl fun k _ => ?_
  refine congrArg₂ (· * ·) ?_ (p54_at x0 x1 x2 x3 x4 x5 x6 x7 x8 x9 t k)
  pointwise []

theorem p59_at (r : Fin 512) (t : Fin 128) : k0_pay59 x0 x1 x2 x3 x4 x5 x6 x7 x8 x9 (ix2 r t) = zt x0 x1 x2 ⟨1024 + r.val, by omega⟩ t := by
  refine (mm40_at _ (View.ld x2 r0_14) r t).trans ?_
  unfold zt
  refine Finset.sum_congr rfl fun k _ => ?_
  refine congrArg₂ (· * ·) ?_ (p54_at x0 x1 x2 x3 x4 x5 x6 x7 x8 x9 t k)
  pointwise []

theorem head_congr {z z' g g' c c' s s' : Fin 64 → EReal} {d d' : Fin 64} (hz : ∀ i, z i = z' i) (hg : ∀ i, g i = g' i)
    (hc : ∀ i, c i = c' i) (hs : ∀ i, s i = s' i) (hd : d = d') : rope (nr z g) c s d = rope (nr z' g') c' s' d' := by
  rw [funext hz, funext hg, funext hc, funext hs, hd]

/-- Head `y 1` of the rotated queries. -/
theorem out10_at (y : S1x8x64x128.Idx) : out0_10 x0 x1 x2 x3 x4 x5 x6 x7 x8 x9 y
    = rope (nr (fun d => zt x0 x1 x2 ⟨0 + (y 1).val * 64 + d.val, by have h1 : (y 1).val < 8 := (y 1).isLt; omega⟩ (y 3)) (fun d => x4 (ix2 d 0)))
        (fun d => x8 (ix2 d (y 3))) (fun d => x9 (ix2 d (y 3))) (y 2) := by
  canon_tiles x h
  case piece0 =>
    refine (q7_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨448 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece1 =>
    refine (q6_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨384 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece2 =>
    refine (q5_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨320 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece3 =>
    refine (q4_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨256 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece4 =>
    refine (q3_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨192 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece5 =>
    refine (q2_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨128 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece6 =>
    refine (q1_at (k0_pay55 x0 x1 x2 x3 x4 x5 x6 x7 x8 x9) (k0_pay56 x0 x1 x2 x3 x4 x5 x6 x7 x8 x9) (View.ld x4 r0_4) (k0_pay57 x0 x1 x2 x3 x4 x5 x6 x7 x8 x9) x).trans (head_congr (fun d => (p57_at x0 x1 x2 x3 x4 x5 x6 x7 x8 x9 ⟨64 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece7 =>
    refine (q0_at (k0_pay55 x0 x1 x2 x3 x4 x5 x6 x7 x8 x9) (k0_pay56 x0 x1 x2 x3 x4 x5 x6 x7 x8 x9) (View.ld x4 r0_4) (View.ld x0 r0_0) (View.ld x1 r0_1) (View.ld x2 r0_3) x).trans (head_congr (fun d => (p57_at x0 x1 x2 x3 x4 x5 x6 x7 x8 x9 ⟨0 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])

/-- Head `y 1` of the rotated keys. -/
theorem out11_at (y : S1x8x64x128.Idx) : out0_11 x0 x1 x2 x3 x4 x5 x6 x7 x8 x9 y
    = rope (nr (fun d => zt x0 x1 x2 ⟨512 + (y 1).val * 64 + d.val, by have h1 : (y 1).val < 8 := (y 1).isLt; omega⟩ (y 3)) (fun d => x5 (ix2 d 0)))
        (fun d => x8 (ix2 d (y 3))) (fun d => x9 (ix2 d (y 3))) (y 2) := by
  canon_tiles x h
  case piece0 =>
    refine (k7_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨448 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece1 =>
    refine (k6_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨384 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece2 =>
    refine (k5_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨320 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece3 =>
    refine (k4_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨256 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece4 =>
    refine (k3_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨192 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece5 =>
    refine (k2_at (k0_pay55 x0 x1 x2 x3 x4 x5 x6 x7 x8 x9) (k0_pay56 x0 x1 x2 x3 x4 x5 x6 x7 x8 x9) (View.ld x5 r0_4) (k0_pay58 x0 x1 x2 x3 x4 x5 x6 x7 x8 x9) x).trans (head_congr (fun d => (p58_at x0 x1 x2 x3 x4 x5 x6 x7 x8 x9 ⟨128 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece6 =>
    refine (k1_at (k0_pay55 x0 x1 x2 x3 x4 x5 x6 x7 x8 x9) (k0_pay56 x0 x1 x2 x3 x4 x5 x6 x7 x8 x9) (View.ld x5 r0_4) (k0_pay54 x0 x1 x2 x3 x4 x5 x6 x7 x8 x9) (View.ld x2 r0_13) x).trans (head_congr (fun d => (p58_at x0 x1 x2 x3 x4 x5 x6 x7 x8 x9 ⟨64 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])
  case piece7 =>
    refine (k0_at (k0_pay55 x0 x1 x2 x3 x4 x5 x6 x7 x8 x9) (k0_pay56 x0 x1 x2 x3 x4 x5 x6 x7 x8 x9) (View.ld x5 r0_4) (k0_pay54 x0 x1 x2 x3 x4 x5 x6 x7 x8 x9) (View.ld x2 r0_13) x).trans (head_congr (fun d => (p58_at x0 x1 x2 x3 x4 x5 x6 x7 x8 x9 ⟨0 + d.val, by omega⟩ (x 3)).trans ?_) (fun d => ?_) (fun d => ?_) (fun d => ?_) ?_)
    all_goals first
      | exact (p55_at _ _ _ _ _ _ _ _ _ _ _ _).trans (congrArg x8 (congrArg (ix2 d) (Fin.ext (by omega))))
      | exact (p56_at _ _ _ _ _ _ _ _ _ _ _ _).trans (congrArg x9 (congrArg (ix2 d) (Fin.ext (by omega))))
      | exact Fin.ext (by omega)
      | (refine congrArg₂ (zt x0 x1 x2) (Fin.ext ?_) (Fin.ext ?_) <;> (try dsimp only) <;> omega)
      | (pointwise [])

theorem v0_at (h : FVec Ideal S128x1024 .bf16) (w : Vec Ideal S512x1024 .bf16) (y : S1x1x64x128.Idx) :
    k0_pay42 (F := Ideal) (k0_pay41 h w) y = k0_pay40 h w (ix2 ⟨(y 2).val, by have h2 : (y 2).val < 64 := (y 2).isLt; omega⟩ (y 3)) := by
  pointwise [k0_pay42, k0_pay41]

theorem v1_at (z : FVec Ideal S512x128 .f32) (y : S1x1x64x128.Idx) :
    k0_pay43 (F := Ideal) z y = z (ix2 ⟨64 + (y 2).val, by have h2 : (y 2).val < 64 := (y 2).isLt; omega⟩ (y 3)) := by
  pointwise [k0_pay43]

theorem v2_at (z : FVec Ideal S512x128 .f32) (y : S1x1x64x128.Idx) :
    k0_pay44 (F := Ideal) z y = z (ix2 ⟨128 + (y 2).val, by have h2 : (y 2).val < 64 := (y 2).isLt; omega⟩ (y 3)) := by
  pointwise [k0_pay44]

theorem v3_at (z : FVec Ideal S512x128 .f32) (y : S1x1x64x128.Idx) :
    k0_pay45 (F := Ideal) z y = z (ix2 ⟨192 + (y 2).val, by have h2 : (y 2).val < 64 := (y 2).isLt; omega⟩ (y 3)) := by
  pointwise [k0_pay45]

theorem v4_at (z : FVec Ideal S512x128 .f32) (y : S1x1x64x128.Idx) :
    k0_pay46 (F := Ideal) z y = z (ix2 ⟨256 + (y 2).val, by have h2 : (y 2).val < 64 := (y 2).isLt; omega⟩ (y 3)) := by
  pointwise [k0_pay46]

theorem v5_at (z : FVec Ideal S512x128 .f32) (y : S1x1x64x128.Idx) :
    k0_pay47 (F := Ideal) z y = z (ix2 ⟨320 + (y 2).val, by have h2 : (y 2).val < 64 := (y 2).isLt; omega⟩ (y 3)) := by
  pointwise [k0_pay47]

theorem v6_at (z : FVec Ideal S512x128 .f32) (y : S1x1x64x128.Idx) :
    k0_pay48 (F := Ideal) z y = z (ix2 ⟨384 + (y 2).val, by have h2 : (y 2).val < 64 := (y 2).isLt; omega⟩ (y 3)) := by
  pointwise [k0_pay48]

theorem v7_at (z : FVec Ideal S512x128 .f32) (y : S1x1x64x128.Idx) :
    k0_pay49 (F := Ideal) z y = z (ix2 ⟨448 + (y 2).val, by have h2 : (y 2).val < 64 := (y 2).isLt; omega⟩ (y 3)) := by
  pointwise [k0_pay49]

/-- Head `y 1` of the values. -/
theorem out12_at (y : S1x8x64x128.Idx) : out0_12 x0 x1 x2 x3 x4 x5 x6 x7 x8 x9 y
    = zt x0 x1 x2 ⟨1024 + (y 1).val * 64 + (y 2).val, by have h1 : (y 1).val < 8 := (y 1).isLt; have h2 : (y 2).val < 64 := (y 2).isLt; omega⟩ (y 3) := by
  canon_tiles x h
  case piece0 =>
    refine (v7_at _ x).trans ((p59_at x0 x1 x2 x3 x4 x5 x6 x7 x8 x9 ⟨448 + (x 2).val, by have h2 : (x 2).val < 64 := (x 2).isLt; omega⟩ (x 3)).trans ?_)
    refine congrArg₂ (zt x0 x1 x2) (Fin.ext ?_) (Fin.ext ?_) <;> (try dsimp only) <;> omega
  case piece1 =>
    refine (v6_at _ x).trans ((p59_at x0 x1 x2 x3 x4 x5 x6 x7 x8 x9 ⟨384 + (x 2).val, by have h2 : (x 2).val < 64 := (x 2).isLt; omega⟩ (x 3)).trans ?_)
    refine congrArg₂ (zt x0 x1 x2) (Fin.ext ?_) (Fin.ext ?_) <;> (try dsimp only) <;> omega
  case piece2 =>
    refine (v5_at _ x).trans ((p59_at x0 x1 x2 x3 x4 x5 x6 x7 x8 x9 ⟨320 + (x 2).val, by have h2 : (x 2).val < 64 := (x 2).isLt; omega⟩ (x 3)).trans ?_)
    refine congrArg₂ (zt x0 x1 x2) (Fin.ext ?_) (Fin.ext ?_) <;> (try dsimp only) <;> omega
  case piece3 =>
    refine (v4_at _ x).trans ((p59_at x0 x1 x2 x3 x4 x5 x6 x7 x8 x9 ⟨256 + (x 2).val, by have h2 : (x 2).val < 64 := (x 2).isLt; omega⟩ (x 3)).trans ?_)
    refine congrArg₂ (zt x0 x1 x2) (Fin.ext ?_) (Fin.ext ?_) <;> (try dsimp only) <;> omega
  case piece4 =>
    refine (v3_at _ x).trans ((p59_at x0 x1 x2 x3 x4 x5 x6 x7 x8 x9 ⟨192 + (x 2).val, by have h2 : (x 2).val < 64 := (x 2).isLt; omega⟩ (x 3)).trans ?_)
    refine congrArg₂ (zt x0 x1 x2) (Fin.ext ?_) (Fin.ext ?_) <;> (try dsimp only) <;> omega
  case piece5 =>
    refine (v2_at _ x).trans ((p59_at x0 x1 x2 x3 x4 x5 x6 x7 x8 x9 ⟨128 + (x 2).val, by have h2 : (x 2).val < 64 := (x 2).isLt; omega⟩ (x 3)).trans ?_)
    refine congrArg₂ (zt x0 x1 x2) (Fin.ext ?_) (Fin.ext ?_) <;> (try dsimp only) <;> omega
  case piece6 =>
    refine (v1_at _ x).trans ((p59_at x0 x1 x2 x3 x4 x5 x6 x7 x8 x9 ⟨64 + (x 2).val, by have h2 : (x 2).val < 64 := (x 2).isLt; omega⟩ (x 3)).trans ?_)
    refine congrArg₂ (zt x0 x1 x2) (Fin.ext ?_) (Fin.ext ?_) <;> (try dsimp only) <;> omega
  case piece7 =>
    refine (v0_at _ _ x).trans ?_
    refine (p59_at x0 x1 x2 x3 x4 x5 x6 x7 x8 x9 ⟨(x 2).val, by have h2 : (x 2).val < 64 := (x 2).isLt; omega⟩ (x 3)).trans ?_
    refine congrArg₂ (zt x0 x1 x2) (Fin.ext ?_) (Fin.ext ?_) <;> (try dsimp only) <;> omega

theorem mm13_at (h : FVec Ideal S128x1024 .bf16) (w : Vec Ideal S1024x512 .bf16) (y : S1x128x512.Idx) :
    k0_pay50 (F := Ideal) h w y = ∑ k : Fin 1024, h (ix2 (y 1) k) * w (ix2 k (y 2)) := by
  pointwise [k0_pay50]

theorem out13_at (y : S1x128x512.Idx) : out0_13 x0 x1 x2 x3 x4 x5 x6 x7 x8 x9 y
    = zr x0 x1 x3 (y 1) ⟨0 + (y 2).val, by have h2 : (y 2).val < 512 := (y 2).isLt; omega⟩ := by
  frame_out
  refine (mm13_at (k0_pay54 x0 x1 x2 x3 x4 x5 x6 x7 x8 x9) (View.ld x3 r0_15) y).trans ?_
  unfold zr
  refine Finset.sum_congr rfl fun k _ => ?_
  refine congrArg₂ (· * ·) (p54_at x0 x1 x2 x3 x4 x5 x6 x7 x8 x9 (y 1) k) ?_
  pointwise []

theorem mm14_at (h : FVec Ideal S128x1024 .bf16) (w : Vec Ideal S1024x512 .bf16) (y : S1x128x512.Idx) :
    k0_pay51 (F := Ideal) h w y = ∑ k : Fin 1024, h (ix2 (y 1) k) * w (ix2 k (y 2)) := by
  pointwise [k0_pay51]

theorem out14_at (y : S1x128x512.Idx) : out0_14 x0 x1 x2 x3 x4 x5 x6 x7 x8 x9 y
    = zr x0 x1 x3 (y 1) ⟨512 + (y 2).val, by have h2 : (y 2).val < 512 := (y 2).isLt; omega⟩ := by
  frame_out
  refine (mm14_at (k0_pay54 x0 x1 x2 x3 x4 x5 x6 x7 x8 x9) (View.ld x3 r0_17) y).trans ?_
  unfold zr
  refine Finset.sum_congr rfl fun k _ => ?_
  refine congrArg₂ (· * ·) (p54_at x0 x1 x2 x3 x4 x5 x6 x7 x8 x9 (y 1) k) ?_
  pointwise []

theorem mm15_at (h : FVec Ideal S128x1024 .bf16) (w : Vec Ideal S1024x1024 .bf16) (y : S1x128x1024.Idx) :
    k0_pay52 (F := Ideal) h w y = ∑ k : Fin 1024, h (ix2 (y 1) k) * w (ix2 k (y 2)) := by
  pointwise [k0_pay52]

theorem out15_at (y : S1x128x1024.Idx) : out0_15 x0 x1 x2 x3 x4 x5 x6 x7 x8 x9 y
    = zr x0 x1 x3 (y 1) ⟨1024 + (y 2).val, by have h2 : (y 2).val < 1024 := (y 2).isLt; omega⟩ := by
  frame_out
  refine (mm15_at (k0_pay54 x0 x1 x2 x3 x4 x5 x6 x7 x8 x9) (View.ld x3 r0_18) y).trans ?_
  unfold zr
  refine Finset.sum_congr rfl fun k _ => ?_
  refine congrArg₂ (· * ·) (p54_at x0 x1 x2 x3 x4 x5 x6 x7 x8 x9 (y 1) k) ?_
  pointwise []

theorem mm17_at (h : FVec Ideal S128x1024 .bf16) (w : Vec Ideal S1024x1024 .bf16) (y : S1x128x1024.Idx) :
    k0_pay1 (F := Ideal) (k0_pay53 h w) y = ∑ k : Fin 1024, h (ix2 (y 1) k) * w (ix2 k (y 2)) := by
  pointwise [k0_pay1, k0_pay53]

theorem out17_at (y : S1x128x1024.Idx) : out0_17 x0 x1 x2 x3 x4 x5 x6 x7 x8 x9 y
    = zr x0 x1 x3 (y 1) ⟨2048 + (y 2).val, by have h2 : (y 2).val < 1024 := (y 2).isLt; omega⟩ := by
  frame_out
  refine (mm17_at (k0_pay54 x0 x1 x2 x3 x4 x5 x6 x7 x8 x9) (View.ld x3 r0_19) y).trans ?_
  unfold zr
  refine Finset.sum_congr rfl fun k _ => ?_
  refine congrArg₂ (· * ·) (p54_at x0 x1 x2 x3 x4 x5 x6 x7 x8 x9 (y 1) k) ?_
  pointwise []

theorem mm16_at (h : FVec Ideal S128x1024 .bf16) (w : Vec Ideal S1024x128 .bf16) (u : Vec Ideal S128x512 .bf16) (b : Vec Ideal S1x512 .f32)
    (y : S1x128x512.Idx) : k0_pay2 (F := Ideal) h w u b y
    = lsig ((∑ r : Fin 128, (∑ k : Fin 1024, h (ix2 (y 1) k) * w (ix2 k r)) * u (ix2 r (y 2))) + b (ix2 0 (y 2))) := by
  pointwise [k0_pay2, lsig]
  rfl

theorem out16_at (y : S1x128x512.Idx) : out0_16 x0 x1 x2 x3 x4 x5 x6 x7 x8 x9 y
    = lsig ((∑ r : Fin 128, zr x0 x1 x3 (y 1) ⟨3072 + r.val, by omega⟩ * x6 (ix2 r (y 2))) + x7 (ix2 0 (y 2))) := by
  frame_out
  refine (mm16_at (k0_pay54 x0 x1 x2 x3 x4 x5 x6 x7 x8 x9) (View.ld x3 r0_20) x6 x7 y).trans (congrArg lsig ?_)
  refine congrArg₂ (· + ·) (Finset.sum_congr rfl fun r _ => congrArg₂ (· * ·) ?_ ?_) ?_
  · unfold zr
    refine Finset.sum_congr rfl fun k _ => ?_
    refine congrArg₂ (· * ·) (p54_at x0 x1 x2 x3 x4 x5 x6 x7 x8 x9 (y 1) k) ?_
    pointwise []
  · rfl
  · rfl

end Cert.ProjSProof

end
-- ==== Proof.ProjS.Ref.lean ====
/- What the reference of the projection computes, entry by entry. -/
module

public import proofs.«01_k».proof.Proof.Gen.ProjSRefIdeal.Read
public import Idealize.ShloMosaic.Lib.Pointwise
public import Idealize.ShloMosaic.Lib.Pipeline.ValueKit
public import proofs.«01_k».proof.Proof.Proj.Forms

@[expose] public section

set_option maxRecDepth 16384

noncomputable section

open Idealize.ShloMosaic Idealize.ShloMosaic.TcCoe Idealize.SL.Sem
open scoped BigOperators

namespace Cert.ProjSRefProof

open Cert.ProjSRefIdeal Cert.ProjSRefIdeal.Read Cert.ProjForms

variable (x0 : FVec Ideal S32x4x1024 .f32) (x1 : FVec Ideal S1x1024 .f32)
  (x2 : FVec Ideal S1x1024x4624 .f32) (x3 x4 : FVec Ideal S1x64 .f32)
  (x5 : FVec Ideal S1x16x512 .f32) (x6 : FVec Ideal S1x512 .f32)

/-- Entry `e` of the one product with the whole weight array, for token `t` of sequence `b`. -/
def zc (b : Fin 1) (t : Fin 128) (e : Fin 4624) : EReal :=
  ∑ k : Fin 1024, hrow (fun k => val_main_v0 (F := Ideal) x0 (ix3 b t k)) (fun k => x1 (ix2 0 k)) k * x2 (ix3 0 k e)

theorem h_at (b : Fin 1) (t : Fin 128) (k : Fin 1024) :
    val_main_v14 (F := Ideal) x0 x1 (ix3 b t k) = hrow (fun k => val_main_v0 (F := Ideal) x0 (ix3 b t k)) (fun k => x1 (ix2 0 k)) k := by
  obtain rfl : b = 0 := Subsingleton.elim _ _
  pointwise [val_main_cst, val_main_cst_0, val_main_cst_1, val_main_cst_2, val_main_cst_3, val_main_cst_4, val_main_cst_5, val_main_cst_6, val_main_cst_7, val_main_cst_8, val_main_cst_9, val_main_cst_10, val_main_v1, val_main_v2, val_main_v3, val_main_v4, val_main_v5, val_main_v6, val_main_v7, val_main_v8, val_main_v9, val_main_v10, val_main_v11, val_main_v12, val_main_v13, val_main_v14, hrow]

theorem z_at (b : Fin 1) (t : Fin 128) (e : Fin 4624) : val_main_v16 (F := Ideal) x0 x1 x2 (ix3 b t e) = zc x0 x1 x2 b t e := by
  obtain rfl : b = 0 := Subsingleton.elim _ _
  unfold zc
  rw [← funext fun k => h_at x0 x1 0 t k]
  pointwise [val_main_v15, val_main_v16]

theorem qhead_at (b : Fin 1) (h : Fin 8) (t : Fin 128) (d : Fin 64) :
    val_main_v46 (F := Ideal) x0 x1 x2 (ix4 b h t d) = zc x0 x1 x2 b t ⟨0 + h.val * 64 + d.val, by omega⟩ := by
  obtain rfl : b = 0 := Subsingleton.elim _ _
  refine Eq.trans ?_ (z_at x0 x1 x2 0 t ⟨0 + h.val * 64 + d.val, by omega⟩)
  · rw [val_main_v46_apply, val_main_v45_apply, val_main_v17_apply]
    refine congrArg _ (funext fun a => ?_)
    match a with
    | ⟨0, _⟩ => exact Fin.ext (by dsimp [idx_main_v46, idx_main_v45, idx_main_v17]; try omega)
    | ⟨1, _⟩ => exact Fin.ext (by dsimp [idx_main_v46, idx_main_v45, idx_main_v17]; omega)
    | ⟨2, _⟩ => exact Fin.ext (by dsimp [idx_main_v46, idx_main_v45, idx_main_v17]; omega)

theorem khead_at (b : Fin 1) (h : Fin 8) (t : Fin 128) (d : Fin 64) :
    val_main_v79 (F := Ideal) x0 x1 x2 (ix4 b h t d) = zc x0 x1 x2 b t ⟨512 + h.val * 64 + d.val, by omega⟩ := by
  obtain rfl : b = 0 := Subsingleton.elim _ _
  refine Eq.trans ?_ (z_at x0 x1 x2 0 t ⟨512 + h.val * 64 + d.val, by omega⟩)
  · rw [val_main_v79_apply, val_main_v78_apply, val_main_v18_apply]
    refine congrArg _ (funext fun a => ?_)
    match a with
    | ⟨0, _⟩ => exact Fin.ext (by dsimp [idx_main_v79, idx_main_v78, idx_main_v18]; try omega)
    | ⟨1, _⟩ => exact Fin.ext (by dsimp [idx_main_v79, idx_main_v78, idx_main_v18]; omega)
    | ⟨2, _⟩ => exact Fin.ext (by dsimp [idx_main_v79, idx_main_v78, idx_main_v18]; omega)

theorem vhead_at (b : Fin 1) (h : Fin 8) (t : Fin 128) (d : Fin 64) :
    val_main_v112 (F := Ideal) x0 x1 x2 (ix4 b h t d) = zc x0 x1 x2 b t ⟨1024 + h.val * 64 + d.val, by omega⟩ := by
  obtain rfl : b = 0 := Subsingleton.elim _ _
  refine Eq.trans ?_ (z_at x0 x1 x2 0 t ⟨1024 + h.val * 64 + d.val, by omega⟩)
  · rw [val_main_v112_apply, val_main_v111_apply, val_main_v19_apply]
    refine congrArg _ (funext fun a => ?_)
    match a with
    | ⟨0, _⟩ => exact Fin.ext (by dsimp [idx_main_v112, idx_main_v111, idx_main_v19]; try omega)
    | ⟨1, _⟩ => exact Fin.ext (by dsimp [idx_main_v112, idx_main_v111, idx_main_v19]; omega)
    | ⟨2, _⟩ => exact Fin.ext (by dsimp [idx_main_v112, idx_main_v111, idx_main_v19]; omega)

theorem qnorm_at (b : Fin 1) (h : Fin 8) (t : Fin 128) (d : Fin 64) :
    val_main_v60 (F := Ideal) x0 x1 x2 x3 (ix4 b h t d)
      = nr (fun i => zc x0 x1 x2 b t ⟨0 + h.val * 64 + i.val, by omega⟩) (fun i => x3 (ix2 0 i)) d := by
  obtain rfl : b = 0 := Subsingleton.elim _ _
  rw [← funext fun i => qhead_at x0 x1 x2 0 h t i]
  pointwise [val_main_cst, val_main_cst_0, val_main_cst_1, val_main_cst_2, val_main_cst_3, val_main_cst_4, val_main_cst_5, val_main_cst_6, val_main_cst_7, val_main_cst_8, val_main_cst_9, val_main_cst_10, val_main_v47, val_main_v48, val_main_v49, val_main_v50, val_main_v51, val_main_v52, val_main_v53, val_main_v54, val_main_v55, val_main_v56, val_main_v57, val_main_v58, val_main_v59, val_main_v60, nr]

theorem knorm_at (b : Fin 1) (h : Fin 8) (t : Fin 128) (d : Fin 64) :
    val_main_v93 (F := Ideal) x0 x1 x2 x4 (ix4 b h t d)
      = nr (fun i => zc x0 x1 x2 b t ⟨512 + h.val * 64 + i.val, by omega⟩) (fun i => x4 (ix2 0 i)) d := by
  obtain rfl : b = 0 := Subsingleton.elim _ _
  rw [← funext fun i => khead_at x0 x1 x2 0 h t i]
  pointwise [val_main_cst, val_main_cst_0, val_main_cst_1, val_main_cst_2, val_main_cst_3, val_main_cst_4, val_main_cst_5, val_main_cst_6, val_main_cst_7, val_main_cst_8, val_main_cst_9, val_main_cst_10, val_main_v80, val_main_v81, val_main_v82, val_main_v83, val_main_v84, val_main_v85, val_main_v86, val_main_v87, val_main_v88, val_main_v89, val_main_v90, val_main_v91, val_main_v92, val_main_v93, nr]

theorem qrot_at (b : Fin 1) (h : Fin 8) (t : Fin 128) (d : Fin 64) :
    val_main_v77 (F := Ideal) x0 x1 x2 x3 (ix4 b h t d)
      = rope' (fun i => val_main_v60 (F := Ideal) x0 x1 x2 x3 (ix4 b h t i)) (fun j => val_main_v43 (F := Ideal) (ix2 t j))
          (fun j => val_main_v44 (F := Ideal) (ix2 t j)) d := by
  obtain rfl : b = 0 := Subsingleton.elim _ _
  generalize hy : val_main_v60 (F := Ideal) x0 x1 x2 x3 = y
  generalize hC : val_main_v43 (F := Ideal) = C
  generalize hS : val_main_v44 (F := Ideal) = S
  by_cases hd : d.val < 32
  · pointwise [val_main_v61, val_main_v62, val_main_v63, val_main_v64, val_main_v65, val_main_v66, val_main_v67, val_main_v68, val_main_v69, val_main_v70, val_main_v71, val_main_v72, val_main_v73, val_main_v74, val_main_v75, val_main_v76, val_main_v77, hy, hC, hS, rope']
    rw [dif_pos hd, dif_pos hd]
  · pointwise [val_main_v61, val_main_v62, val_main_v63, val_main_v64, val_main_v65, val_main_v66, val_main_v67, val_main_v68, val_main_v69, val_main_v70, val_main_v71, val_main_v72, val_main_v73, val_main_v74, val_main_v75, val_main_v76, val_main_v77, hy, hC, hS, rope']
    rw [dif_neg hd, dif_neg hd, show (⟨32 + (d.val - 32), by omega⟩ : Fin 64) = d from Fin.ext (by dsimp only; omega)]

theorem krot_at (b : Fin 1) (h : Fin 8) (t : Fin 128) (d : Fin 64) :
    val_main_v110 (F := Ideal) x0 x1 x2 x4 (ix4 b h t d)
      = rope' (fun i => val_main_v93 (F := Ideal) x0 x1 x2 x4 (ix4 b h t i)) (fun j => val_main_v43 (F := Ideal) (ix2 t j))
          (fun j => val_main_v44 (F := Ideal) (ix2 t j)) d := by
  obtain rfl : b = 0 := Subsingleton.elim _ _
  generalize hy : val_main_v93 (F := Ideal) x0 x1 x2 x4 = y
  generalize hC : val_main_v43 (F := Ideal) = C
  generalize hS : val_main_v44 (F := Ideal) = S
  by_cases hd : d.val < 32
  · pointwise [val_main_v94, val_main_v95, val_main_v96, val_main_v97, val_main_v98, val_main_v99, val_main_v100, val_main_v101, val_main_v102, val_main_v103, val_main_v104, val_main_v105, val_main_v106, val_main_v107, val_main_v108, val_main_v109, val_main_v110, hy, hC, hS, rope']
    rw [dif_pos hd, dif_pos hd]
  · pointwise [val_main_v94, val_main_v95, val_main_v96, val_main_v97, val_main_v98, val_main_v99, val_main_v100, val_main_v101, val_main_v102, val_main_v103, val_main_v104, val_main_v105, val_main_v106, val_main_v107, val_main_v108, val_main_v109, val_main_v110, hy, hC, hS, rope']
    rw [dif_neg hd, dif_neg hd, show (⟨32 + (d.val - 32), by omega⟩ : Fin 64) = d from Fin.ext (by dsimp only; omega)]

/-- The rotated queries, head by head. -/
theorem q_at (b : Fin 1) (h : Fin 8) (d : Fin 64) (t : Fin 128) :
    val_main_v122 (F := Ideal) x0 x1 x2 x3 (ix4 b h d t)
      = rope' (nr (fun i => zc x0 x1 x2 b t ⟨0 + h.val * 64 + i.val, by omega⟩) (fun i => x3 (ix2 0 i)))
          (fun j => val_main_v43 (F := Ideal) (ix2 t j)) (fun j => val_main_v44 (F := Ideal) (ix2 t j)) d := by
  obtain rfl : b = 0 := Subsingleton.elim _ _
  rw [← funext fun i => qnorm_at x0 x1 x2 x3 0 h t i, ← qrot_at]
  pointwise [val_main_v122]

/-- The rotated keys, head by head. -/
theorem k_at (b : Fin 1) (h : Fin 8) (d : Fin 64) (t : Fin 128) :
    val_main_v123 (F := Ideal) x0 x1 x2 x4 (ix4 b h d t)
      = rope' (nr (fun i => zc x0 x1 x2 b t ⟨512 + h.val * 64 + i.val, by omega⟩) (fun i => x4 (ix2 0 i)))
          (fun j => val_main_v43 (F := Ideal) (ix2 t j)) (fun j => val_main_v44 (F := Ideal) (ix2 t j)) d := by
  obtain rfl : b = 0 := Subsingleton.elim _ _
  rw [← funext fun i => knorm_at x0 x1 x2 x4 0 h t i, ← krot_at]
  pointwise [val_main_v123]

/-- The values, head by head. -/
theorem v_at (b : Fin 1) (h : Fin 8) (d : Fin 64) (t : Fin 128) :
    val_main_v124 (F := Ideal) x0 x1 x2 (ix4 b h d t) = zc x0 x1 x2 b t ⟨1024 + h.val * 64 + d.val, by omega⟩ := by
  obtain rfl : b = 0 := Subsingleton.elim _ _
  rw [← vhead_at]
  pointwise [val_main_v124]

theorem r19_at (b : Fin 1) (t : Fin 128) (e : Fin 512) : val_main_v20 (F := Ideal) x0 x1 x2 (ix3 b t e) = zc x0 x1 x2 b t ⟨1536 + e.val, by omega⟩ := by
  obtain rfl : b = 0 := Subsingleton.elim _ _
  refine Eq.trans ?_ (z_at x0 x1 x2 0 t ⟨1536 + e.val, by omega⟩)
  · pointwise [val_main_v20]

theorem r20_at (b : Fin 1) (t : Fin 128) (e : Fin 512) : val_main_v21 (F := Ideal) x0 x1 x2 (ix3 b t e) = zc x0 x1 x2 b t ⟨2048 + e.val, by omega⟩ := by
  obtain rfl : b = 0 := Subsingleton.elim _ _
  refine Eq.trans ?_ (z_at x0 x1 x2 0 t ⟨2048 + e.val, by omega⟩)
  · pointwise [val_main_v21]

theorem r119_at (b : Fin 1) (t : Fin 128) (e : Fin 1024) : val_main_v125 (F := Ideal) x0 x1 x2 (ix3 b t e) = zc x0 x1 x2 b t ⟨2560 + e.val, by omega⟩ := by
  obtain rfl : b = 0 := Subsingleton.elim _ _
  refine Eq.trans ?_ (z_at x0 x1 x2 0 t ⟨2560 + e.val, by omega⟩)
  · pointwise [val_main_v22, val_main_v125]

theorem r120_at (b : Fin 1) (t : Fin 128) (e : Fin 1024) : val_main_v126 (F := Ideal) x0 x1 x2 (ix3 b t e) = zc x0 x1 x2 b t ⟨3584 + e.val, by omega⟩ := by
  obtain rfl : b = 0 := Subsingleton.elim _ _
  refine Eq.trans ?_ (z_at x0 x1 x2 0 t ⟨3584 + e.val, by omega⟩)
  · pointwise [val_main_v23, val_main_v126]

theorem r23_at (b : Fin 1) (t : Fin 128) (e : Fin 16) : val_main_v24 (F := Ideal) x0 x1 x2 (ix3 b t e) = zc x0 x1 x2 b t ⟨4608 + e.val, by omega⟩ := by
  obtain rfl : b = 0 := Subsingleton.elim _ _
  refine Eq.trans ?_ (z_at x0 x1 x2 0 t ⟨4608 + e.val, by omega⟩)
  · pointwise [val_main_v24]

theorem u_at (b : Fin 1) (t : Fin 128) (e : Fin 512) : val_main_v118 (F := Ideal) x0 x1 x2 x5 x6 (ix3 b t e)
    = (∑ r : Fin 16, zc x0 x1 x2 b t ⟨4608 + r.val, by omega⟩ * x5 (ix3 0 r e)) + x6 (ix2 0 e) := by
  obtain rfl : b = 0 := Subsingleton.elim _ _
  simp only [← r23_at]
  pointwise [val_main_v113, val_main_v114, val_main_v115, val_main_v116, val_main_v117, val_main_v118]

/-- The logarithms of the decays. -/
theorem la_at (b : Fin 1) (t : Fin 128) (e : Fin 512) : val_main_v121 (F := Ideal) x0 x1 x2 x5 x6 (ix3 b t e)
    = lsig ((∑ r : Fin 16, zc x0 x1 x2 b t ⟨4608 + r.val, by omega⟩ * x5 (ix3 0 r e)) + x6 (ix2 0 e)) := by
  obtain rfl : b = 0 := Subsingleton.elim _ _
  rw [← u_at, lsig_eq]
  generalize hu : val_main_v118 (F := Ideal) x0 x1 x2 x5 x6 = u
  pointwise [val_main_cst, val_main_cst_0, val_main_cst_1, val_main_cst_2, val_main_cst_3, val_main_cst_4, val_main_cst_5, val_main_cst_6, val_main_cst_7, val_main_cst_8, val_main_cst_9, val_main_cst_10, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v119, val_main_v120, val_main_v121, hu]
  rw [if_neg (by simp)]
  rfl

end Cert.ProjSRefProof

end
-- ==== Proof.ProjS.Host.lean ====
/- What the host prepares for the projection: the arrays each window is cut from. -/
module

public import proofs.«01_k».proof.Proof.Gen.ProjSIdeal.Frame
public import proofs.«01_k».proof.Proof.Gen.ProjSRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ProjSProof

open Cert.ProjSIdeal Cert.ProjSIdeal.Gen

variable (m : (ℓ : Loc nD τ sig) → Buf (Elt Ideal) ℓ) (c : Dev nD)

/-- The weights of the queries, keys and values, transposed. -/
def hw3 (a : FVec Ideal S1x1024x4624 .f32) : FVec Ideal S1536x1024 .bf16 :=
  truncf .bf16 (transpose S1536x1024 [1, 0] (extractStridedSlice S1024x1536 ![0, 0] (shapeCast S1024x4624 a shapeCasts_S1x1024x4624_S1024x4624) slices_S1024x4624_S1024x1536_0_0) transposes_S1024x1536_S1536x1024_1_0) bitsLt_bf16_f32

theorem hw3_at (a : FVec Ideal S1x1024x4624 .f32) (r : Fin 1536) (k : Fin 1024) : hw3 a (ix2 r k) = a (ix3 0 k ⟨r.val, by omega⟩) := by
  pointwise [hw3]

theorem V3 : V m c main_v3 = hw3 (m ((c : Thread nD τ).loc main_arg2)) := by
  show StableHlo.after (List.flatten [hostOps0, hostOps0_1, hostOps0_2, hostOps0_3, hostOps0_4]) (fun b => m (c, b)) (Proc.tc.devRef main_v3) = _
  simp only [hostOps0, hostOps0_1, hostOps0_2, hostOps0_3, hostOps0_4, List.flatten_cons, List.flatten_nil, List.append_nil, List.cons_append, List.nil_append]
  after_results
  try rfl

/-- The other weights, padded with zero columns. -/
def hw7 (a : FVec Ideal S1x1024x4624 .f32) : FVec Ideal S1024x3200 .bf16 :=
  truncf .bf16 (pad S1024x3200 ![0, 0] ![0, 112] ![0, 0] (extractStridedSlice S1024x3088 ![0, 1536] (shapeCast S1024x4624 a shapeCasts_S1x1024x4624_S1024x4624) slices_S1024x4624_S1024x3088_0_1536) (sitofp .f32 (constantI S_ 32 0#32)) pads_S1024x3088_S1024x3200_000_01120 h_S_) bitsLt_bf16_f32

theorem hw7_at (a : FVec Ideal S1x1024x4624 .f32) (k : Fin 1024) (e : Fin 3200) : hw7 a (ix2 k e) = if h : e.val < 3088 then a (ix3 0 k ⟨1536 + e.val, by omega⟩) else (0 : EReal) := by
  have hz : (FloatOps.sitofp .f32 (0#32) : Ideal .f32) = (0 : EReal) := by show (((0#32 : BitVec 32).toInt : ℝ) : EReal) = 0; simp
  pointwise [hw7]
  rw [hz]

theorem V7 : V m c main_v7 = hw7 (m ((c : Thread nD τ).loc main_arg2)) := by
  show StableHlo.after (List.flatten [hostOps0, hostOps0_1, hostOps0_2, hostOps0_3, hostOps0_4]) (fun b => m (c, b)) (Proc.tc.devRef main_v7) = _
  simp only [hostOps0, hostOps0_1, hostOps0_2, hostOps0_3, hostOps0_4, List.flatten_cons, List.flatten_nil, List.append_nil, List.cons_append, List.nil_append]
  after_results
  try rfl

/-- The weights of the low-rank gate, padded with zero rows. -/
def hw10 (a : FVec Ideal S1x16x512 .f32) : FVec Ideal S128x512 .bf16 :=
  truncf .bf16 (pad S128x512 ![0, 0] ![112, 0] ![0, 0] (shapeCast S16x512 a shapeCasts_S1x16x512_S16x512) (sitofp .f32 (constantI S_ 32 0#32)) pads_S16x512_S128x512_01120_000 h_S_) bitsLt_bf16_f32

theorem hw10_at (a : FVec Ideal S1x16x512 .f32) (r : Fin 128) (e : Fin 512) : hw10 a (ix2 r e) = if h : r.val < 16 then a (ix3 0 ⟨r.val, h⟩ e) else (0 : EReal) := by
  have hz : (FloatOps.sitofp .f32 (0#32) : Ideal .f32) = (0 : EReal) := by show (((0#32 : BitVec 32).toInt : ℝ) : EReal) = 0; simp
  pointwise [hw10]
  rw [hz]

theorem V10 : V m c main_v10 = hw10 (m ((c : Thread nD τ).loc main_arg5)) := by
  show StableHlo.after (List.flatten [hostOps0, hostOps0_1, hostOps0_2, hostOps0_3, hostOps0_4]) (fun b => m (c, b)) (Proc.tc.devRef main_v10) = _
  simp only [hostOps0, hostOps0_1, hostOps0_2, hostOps0_3, hostOps0_4, List.flatten_cons, List.flatten_nil, List.append_nil, List.cons_append, List.nil_append]
  after_results
  try rfl

/-- The scale of the first norm. -/
def hw12 (a : FVec Ideal S1x1024 .f32) : FVec Ideal S1x1024 .f32 :=
  broadcastInDim S1x1024 ![1] bcast_S1024_S1x1024_1 (shapeCast S1024 a shapeCasts_S1x1024_S1024)

theorem hw12_at (a : FVec Ideal S1x1024 .f32) (k : Fin 1024) : hw12 a (ix2 0 k) = a (ix2 0 k) := by
  pointwise [hw12]

theorem V12 : V m c main_v12 = hw12 (m ((c : Thread nD τ).loc main_arg1)) := by
  show StableHlo.after (List.flatten [hostOps0, hostOps0_1, hostOps0_2, hostOps0_3, hostOps0_4]) (fun b => m (c, b)) (Proc.tc.devRef main_v12) = _
  simp only [hostOps0, hostOps0_1, hostOps0_2, hostOps0_3, hostOps0_4, List.flatten_cons, List.flatten_nil, List.append_nil, List.cons_append, List.nil_append]
  after_results
  try rfl

/-- The scale of the queries' norm. -/
def hw14 (a : FVec Ideal S1x64 .f32) : FVec Ideal S64x1 .f32 :=
  broadcastInDim S64x1 ![0] bcast_S64_S64x1_0 (shapeCast S64 a shapeCasts_S1x64_S64)

theorem hw14_at (a : FVec Ideal S1x64 .f32) (d : Fin 64) : hw14 a (ix2 d 0) = a (ix2 0 d) := by
  pointwise [hw14]

theorem V14 : V m c main_v14 = hw14 (m ((c : Thread nD τ).loc main_arg3)) := by
  show StableHlo.after (List.flatten [hostOps0, hostOps0_1, hostOps0_2, hostOps0_3, hostOps0_4]) (fun b => m (c, b)) (Proc.tc.devRef main_v14) = _
  simp only [hostOps0, hostOps0_1, hostOps0_2, hostOps0_3, hostOps0_4, List.flatten_cons, List.flatten_nil, List.append_nil, List.cons_append, List.nil_append]
  after_results
  try rfl

/-- The scale of the keys' norm. -/
def hw16 (a : FVec Ideal S1x64 .f32) : FVec Ideal S64x1 .f32 :=
  broadcastInDim S64x1 ![0] bcast_S64_S64x1_0 (shapeCast S64 a shapeCasts_S1x64_S64)

theorem hw16_at (a : FVec Ideal S1x64 .f32) (d : Fin 64) : hw16 a (ix2 d 0) = a (ix2 0 d) := by
  pointwise [hw16]

theorem V16 : V m c main_v16 = hw16 (m ((c : Thread nD τ).loc main_arg4)) := by
  show StableHlo.after (List.flatten [hostOps0, hostOps0_1, hostOps0_2, hostOps0_3, hostOps0_4]) (fun b => m (c, b)) (Proc.tc.devRef main_v16) = _
  simp only [hostOps0, hostOps0_1, hostOps0_2, hostOps0_3, hostOps0_4, List.flatten_cons, List.flatten_nil, List.append_nil, List.cons_append, List.nil_append]
  after_results
  try rfl

/-- The bias of the gate. -/
def hw18 (a : FVec Ideal S1x512 .f32) : FVec Ideal S1x512 .f32 :=
  broadcastInDim S1x512 ![1] bcast_S512_S1x512_1 (shapeCast S512 a shapeCasts_S1x512_S512)

theorem hw18_at (a : FVec Ideal S1x512 .f32) (e : Fin 512) : hw18 a (ix2 0 e) = a (ix2 0 e) := by
  pointwise [hw18]

theorem V18 : V m c main_v18 = hw18 (m ((c : Thread nD τ).loc main_arg6)) := by
  show StableHlo.after (List.flatten [hostOps0, hostOps0_1, hostOps0_2, hostOps0_3, hostOps0_4]) (fun b => m (c, b)) (Proc.tc.devRef main_v18) = _
  simp only [hostOps0, hostOps0_1, hostOps0_2, hostOps0_3, hostOps0_4, List.flatten_cons, List.flatten_nil, List.append_nil, List.cons_append, List.nil_append]
  after_results
  try rfl

/-- The rows of the sample, sequence after sequence. -/
theorem V39 : V m c main_v39 = Cert.ProjSRefIdeal.Read.val_main_v0 (F := Ideal) (m ((c : Thread nD τ).loc main_arg0)) := by
  show StableHlo.after (List.flatten [hostOps0, hostOps0_1, hostOps0_2, hostOps0_3, hostOps0_4]) (fun b => m (c, b)) (Proc.tc.devRef main_v39) = _
  simp only [hostOps0, hostOps0_1, hostOps0_2, hostOps0_3, hostOps0_4, List.flatten_cons, List.flatten_nil, List.append_nil, List.cons_append, List.nil_append]
  after_results
  try rfl

/-- The angle of each pair of entries at each of the four positions. -/
def ang : FVec Ideal S32x4 .f32 :=
  mulf (broadcastInDim S32x4 ![0, 1] bcast_S32x1_S32x4_0_1 (broadcastInDim S32x1 ![0] bcast_S32_S32x1_0
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))
    (broadcastInDim S32x4 ![0, 1] bcast_S1x4_S32x4_0_1 (broadcastInDim S1x4 ![1] bcast_S4_S1x4_1
      (sitofp (F := Ideal) .f32 (addi (broadcastInDim S4 ![] bcast_S_S4 (constantI S_ 32 16384#32)) (iotaInDim S4 32 0)))))

/-- A table of four positions, repeated for every sequence. -/
def rep (a : FVec Ideal S64x4 .f32) : FVec Ideal S64x128 .f32 :=
  shapeCast S64x128 (broadcastInDim S1x64x32x4 ![0, 1, 2, 3] bcast_S1x64x1x4_S1x64x32x4_0_1_2_3 (shapeCast S1x64x1x4 a shapeCasts_S64x4_S1x64x1x4)) shapeCasts_S1x64x32x4_S64x128

theorem rep_at (a : FVec Ideal S64x4 .f32) (d : Fin 64) (t : Fin 128) : rep a (ix2 d t) = a (ix2 d ⟨t.val % 4, by omega⟩) := by
  pointwise [rep]

/-- The cosines, repeated for both halves. -/
def hcos : FVec Ideal S64x128 .f32 :=
  rep (concatenate S64x4 0 [⟨S32x4, Host.cos ang⟩, ⟨S32x4, Host.cos ang⟩] concatenates_S32x4_S32x4_S64x4_d0)

/-- The sines, negated for the first half. -/
def hsin : FVec Ideal S64x128 .f32 :=
  rep (concatenate S64x4 0 [⟨S32x4, Host.negf (Host.sin ang)⟩, ⟨S32x4, Host.sin ang⟩] concatenates_S32x4_S32x4_S64x4_d0)

open Cert.ProjSRefIdeal.Read in
theorem ang_at (j : Fin 32) (t : Fin 128) : ang (ix2 j ⟨t.val % 4, by omega⟩) = val_main_v42 (F := Ideal) (ix2 t j) := by
  pointwise [ang, val_main_v25, val_main_v26, val_main_v27, val_main_v28, val_main_v29, val_main_v30, val_main_v31, val_main_c, val_main_v32, val_main_v33, val_main_v34, val_main_v35, val_main_v36, val_main_v37, val_main_v38, val_main_v39, val_main_v40, val_main_v41, val_main_v42, val_main_cst_2, val_main_cst_3]
  exact mul_comm _ _

open Cert.ProjSRefIdeal.Read in
theorem hcos_at (d : Fin 64) (t : Fin 128) : hcos (ix2 d t) = if h : d.val < 32 then val_main_v43 (F := Ideal) (ix2 t ⟨d.val, h⟩)
    else val_main_v43 (F := Ideal) (ix2 t ⟨d.val - 32, by omega⟩) := by
  have e : ∀ (j : Fin 32), val_main_v43 (F := Ideal) (ix2 t j) = Ideal.cos (ang (ix2 j ⟨t.val % 4, by omega⟩)) := fun j => by rw [ang_at]; rfl
  simp only [e]
  refine (rep_at _ d t).trans ?_
  generalize hg : ang = g
  pointwise [hg]

open Cert.ProjSRefIdeal.Read in
theorem hsin_at (d : Fin 64) (t : Fin 128) : hsin (ix2 d t) = if h : d.val < 32 then -val_main_v44 (F := Ideal) (ix2 t ⟨d.val, h⟩)
    else val_main_v44 (F := Ideal) (ix2 t ⟨d.val - 32, by omega⟩) := by
  have e : ∀ (j : Fin 32), val_main_v44 (F := Ideal) (ix2 t j) = Ideal.sin (ang (ix2 j ⟨t.val % 4, by omega⟩)) := fun j => by rw [ang_at]; rfl
  simp only [e]
  refine (rep_at _ d t).trans ?_
  generalize hg : ang = g
  pointwise [hg]

theorem V42 : V m c main_v42 = hcos := by
  show StableHlo.after (List.flatten [hostOps0, hostOps0_1, hostOps0_2, hostOps0_3, hostOps0_4]) (fun b => m (c, b)) (Proc.tc.devRef main_v42) = _
  simp only [hostOps0, hostOps0_1, hostOps0_2, hostOps0_3, hostOps0_4, List.flatten_cons, List.flatten_nil, List.append_nil, List.cons_append, List.nil_append]
  after_results
  try rfl

theorem V45 : V m c main_v45 = hsin := by
  show StableHlo.after (List.flatten [hostOps0, hostOps0_1, hostOps0_2, hostOps0_3, hostOps0_4]) (fun b => m (c, b)) (Proc.tc.devRef main_v45) = _
  simp only [hostOps0, hostOps0_1, hostOps0_2, hostOps0_3, hostOps0_4, List.flatten_cons, List.flatten_nil, List.append_nil, List.cons_append, List.nil_append]
  after_results
  try rfl

end Cert.ProjSProof

end
-- ==== Proof.ProjS.Blocks.lean ====
/- What the blocks of the projection are at a grid point, in terms of the arguments. -/
module

public import proofs.«01_k».proof.Proof.ProjS.Block
public import proofs.«01_k».proof.Proof.ProjS.Ref
public import proofs.«01_k».proof.Proof.ProjS.Host

@[expose] public section

set_option maxRecDepth 16384

noncomputable section

open Idealize.ShloMosaic Idealize.ShloMosaic.TcCoe Idealize.SL.Sem
open scoped BigOperators

namespace Cert.ProjSProof

open Cert.ProjSIdeal Cert.ProjSIdeal.Gen Cert.ProjForms

variable (m : (ℓ : Loc nD τ sig) → Buf (Elt Ideal) ℓ)

/-- The block each window takes at a grid point. -/
theorem idx : ∀ t : Fin cfg0.N, win0_0.index t = ![t.val / 1, t.val % 1, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, t.val % 1]
    ∧ win0_9.index t = ![0, t.val % 1]
    ∧ win0_10.index t = ![t.val / 1, 0, 0, t.val % 1]
    ∧ win0_11.index t = ![t.val / 1, 0, 0, t.val % 1]
    ∧ win0_12.index t = ![t.val / 1, 0, 0, t.val % 1]
    ∧ win0_13.index t = ![t.val / 1, t.val % 1, 0]
    ∧ win0_14.index t = ![t.val / 1, t.val % 1, 0]
    ∧ win0_15.index t = ![t.val / 1, t.val % 1, 0]
    ∧ win0_16.index t = ![t.val / 1, t.val % 1, 0]
    ∧ win0_17.index t = ![t.val / 1, t.val % 1, 0] :=
  (by decide +kernel : ∀ t : Fin grid0.N, _)

variable (c : Dev nD) (t : Fin cfg0.N)

theorem tlt : t.val < 1 := t.isLt

theorem blk0 (j : Fin 128) (k : Fin 1024) : iblk m c 0 t (ix3 0 j k)
    = Cert.ProjSRefIdeal.Read.val_main_v0 (F := Ideal) (m ((c : Thread nD τ).loc main_arg0)) (ix3 ⟨t.val / 1, by have := tlt t; omega⟩ ⟨t.val % 1 * 128 + j.val, by have := tlt t; omega⟩ k) := by
  have := tlt t
  rw [← V39 m c]
  blk_point [iblk, idx t]

theorem blk1 (k : Fin 1024) : iblk m c 1 t (ix2 0 k) = (m ((c : Thread nD τ).loc main_arg1)) (ix2 0 k) := by
  refine Eq.trans ?_ (hw12_at _ k)
  rw [← V12 m c]
  blk_point [iblk, idx t]

theorem blk2 (r : Fin 1536) (k : Fin 1024) : iblk m c 2 t (ix2 r k) = (m ((c : Thread nD τ).loc main_arg2)) (ix3 0 k ⟨r.val, by omega⟩) := by
  refine Eq.trans ?_ (hw3_at _ r k)
  rw [← V3 m c]
  blk_point [iblk, idx t]

theorem blk3 (k : Fin 1024) (e : Fin 3200) : iblk m c 3 t (ix2 k e)
    = if h : e.val < 3088 then (m ((c : Thread nD τ).loc main_arg2)) (ix3 0 k ⟨1536 + e.val, by omega⟩) else (0 : EReal) := by
  refine Eq.trans ?_ (hw7_at _ k e)
  rw [← V7 m c]
  blk_point [iblk, idx t]

theorem blk4 (d : Fin 64) : iblk m c 4 t (ix2 d 0) = (m ((c : Thread nD τ).loc main_arg3)) (ix2 0 d) := by
  refine Eq.trans ?_ (hw14_at _ d)
  rw [← V14 m c]
  blk_point [iblk, idx t]

theorem blk5 (d : Fin 64) : iblk m c 5 t (ix2 d 0) = (m ((c : Thread nD τ).loc main_arg4)) (ix2 0 d) := by
  refine Eq.trans ?_ (hw16_at _ d)
  rw [← V16 m c]
  blk_point [iblk, idx t]

theorem blk6 (r : Fin 128) (e : Fin 512) : iblk m c 6 t (ix2 r e)
    = if h : r.val < 16 then (m ((c : Thread nD τ).loc main_arg5)) (ix3 0 ⟨r.val, h⟩ e) else (0 : EReal) := by
  refine Eq.trans ?_ (hw10_at _ r e)
  rw [← V10 m c]
  blk_point [iblk, idx t]

theorem blk7 (e : Fin 512) : iblk m c 7 t (ix2 0 e) = (m ((c : Thread nD τ).loc main_arg6)) (ix2 0 e) := by
  refine Eq.trans ?_ (hw18_at _ e)
  rw [← V18 m c]
  blk_point [iblk, idx t]

open Cert.ProjSRefIdeal.Read in
theorem blk8 (d : Fin 64) (j : Fin 128) : iblk m c 8 t (ix2 d j)
    = if h : d.val < 32 then val_main_v43 (F := Ideal) (ix2 ⟨t.val % 1 * 128 + j.val, by have := tlt t; omega⟩ ⟨d.val, h⟩)
      else val_main_v43 (F := Ideal) (ix2 ⟨t.val % 1 * 128 + j.val, by have := tlt t; omega⟩ ⟨d.val - 32, by omega⟩) := by
  have := tlt t
  refine Eq.trans ?_ (hcos_at d ⟨t.val % 1 * 128 + j.val, by omega⟩)
  rw [← V42 m c]
  blk_point [iblk, idx t]

open Cert.ProjSRefIdeal.Read in
theorem blk9 (d : Fin 64) (j : Fin 128) : iblk m c 9 t (ix2 d j)
    = if h : d.val < 32 then -val_main_v44 (F := Ideal) (ix2 ⟨t.val % 1 * 128 + j.val, by have := tlt t; omega⟩ ⟨d.val, h⟩)
      else val_main_v44 (F := Ideal) (ix2 ⟨t.val % 1 * 128 + j.val, by have := tlt t; omega⟩ ⟨d.val - 32, by omega⟩) := by
  have := tlt t
  refine Eq.trans ?_ (hsin_at d ⟨t.val % 1 * 128 + j.val, by omega⟩)
  rw [← V45 m c]
  blk_point [iblk, idx t]

end Cert.ProjSProof

end
-- ==== Proof.ProjS.Value.lean ====
/- The arrays the projection leaves are the reference's. -/
module

public import proofs.«01_k».proof.Proof.ProjS.Blocks

@[expose] public section

set_option maxRecDepth 16384

noncomputable section

open Idealize.ShloMosaic Idealize.ShloMosaic.TcCoe Idealize.SL.Sem
open scoped BigOperators

namespace Cert.ProjSProof

open Cert.ProjSIdeal Cert.ProjSIdeal.Gen Cert.ProjForms Cert.ProjSRefProof

variable (m : (ℓ : Loc nD τ sig) → Buf (Elt Ideal) ℓ) (c : Dev nD) (t : Fin cfg0.N)

theorem hB_eq (j : Fin 128) : hB (iblk m c 0 t) (iblk m c 1 t) j
    = hrow (fun k => Cert.ProjSRefIdeal.Read.val_main_v0 (F := Ideal) (m ((c : Thread nD τ).loc main_arg0)) (ix3 ⟨t.val / 1, by have := tlt t; omega⟩ ⟨t.val % 1 * 128 + (j).val, by have := tlt t; have hj : (j).val < 128 := (j).isLt; omega⟩ k)) (fun k => (m ((c : Thread nD τ).loc main_arg1)) (ix2 0 k)) := by
  unfold hB
  rw [show (fun k => iblk m c 0 t (ix3 0 j k)) = _ from funext fun k => blk0 m c t j k,
    show (fun k => iblk m c 1 t (ix2 0 k)) = _ from funext fun k => blk1 m c t k]

theorem zt_eq (r : Fin 1536) (j : Fin 128) : zt (iblk m c 0 t) (iblk m c 1 t) (iblk m c 2 t) r j
    = zc (m ((c : Thread nD τ).loc main_arg0)) (m ((c : Thread nD τ).loc main_arg1)) (m ((c : Thread nD τ).loc main_arg2)) ⟨t.val / 1, by have := tlt t; omega⟩ ⟨t.val % 1 * 128 + (j).val, by have := tlt t; have hj : (j).val < 128 := (j).isLt; omega⟩ ⟨r.val, by omega⟩ := by
  unfold zt zc
  refine Finset.sum_congr rfl fun k _ => ?_
  rw [hB_eq, mul_comm]
  exact congrArg _ (blk2 m c t r k)

theorem zr_eq (j : Fin 128) (e : Fin 3200) (h : e.val < 3088) : zr (iblk m c 0 t) (iblk m c 1 t) (iblk m c 3 t) j e
    = zc (m ((c : Thread nD τ).loc main_arg0)) (m ((c : Thread nD τ).loc main_arg1)) (m ((c : Thread nD τ).loc main_arg2)) ⟨t.val / 1, by have := tlt t; omega⟩ ⟨t.val % 1 * 128 + (j).val, by have := tlt t; have hj : (j).val < 128 := (j).isLt; omega⟩ ⟨1536 + e.val, by omega⟩ := by
  unfold zr zc
  refine Finset.sum_congr rfl fun k _ => ?_
  rw [hB_eq]
  exact congrArg _ ((blk3 m c t k e).trans (dif_pos h))

/-- The padded low-rank product is the short one. -/
theorem low_eq (j : Fin 128) (e : Fin 512) :
    (∑ r : Fin 128, zr (iblk m c 0 t) (iblk m c 1 t) (iblk m c 3 t) j ⟨3072 + r.val, by omega⟩ * iblk m c 6 t (ix2 r e) : EReal)
      = ∑ r : Fin 16, zc (m ((c : Thread nD τ).loc main_arg0)) (m ((c : Thread nD τ).loc main_arg1)) (m ((c : Thread nD τ).loc main_arg2)) ⟨t.val / 1, by have := tlt t; omega⟩ ⟨t.val % 1 * 128 + (j).val, by have := tlt t; have hj : (j).val < 128 := (j).isLt; omega⟩ ⟨4608 + r.val, by omega⟩ * (m ((c : Thread nD τ).loc main_arg5)) (ix3 0 r e) := by
  refine (Fin.sum_univ_add (a := 16) (b := 112) (fun r : Fin 128 =>
    (zr (iblk m c 0 t) (iblk m c 1 t) (iblk m c 3 t) j ⟨3072 + r.val, by omega⟩ * iblk m c 6 t (ix2 r e) : EReal))).trans ?_
  rw [Finset.sum_eq_zero (s := (Finset.univ : Finset (Fin 112))) (fun r _ => ?_), add_zero]
  · refine Finset.sum_congr rfl fun r _ => ?_
    refine congrArg₂ (· * ·) ((zr_eq m c t j _ (by dsimp [Fin.castAdd]; omega)).trans (congrArg _ (Fin.ext (by dsimp [Fin.castAdd]; omega)))) ?_
    exact (blk6 m c t _ e).trans (dif_pos (by dsimp [Fin.castAdd]; omega))
  · rw [show iblk m c 6 t (ix2 (Fin.natAdd 16 r) e) = (0 : EReal) from (blk6 m c t _ e).trans (dif_neg (by dsimp [Fin.natAdd]; omega))]
    exact mul_zero _

theorem emb10 (y : S1x8x64x128.Idx) :
    ((cfg0.win 10).blk t).view.emb y = (ix4 ⟨t.val / 1, by have := tlt t; omega⟩ (y 1) (y 2) ⟨t.val % 1 * 128 + (y 3).val, by have := tlt t; have hj : (y 3).val < 128 := (y 3).isLt; omega⟩ : S1x8x64x128.Idx) := by
  have := tlt t
  blk_ext [idx t]

theorem emb11 (y : S1x8x64x128.Idx) :
    ((cfg0.win 11).blk t).view.emb y = (ix4 ⟨t.val / 1, by have := tlt t; omega⟩ (y 1) (y 2) ⟨t.val % 1 * 128 + (y 3).val, by have := tlt t; have hj : (y 3).val < 128 := (y 3).isLt; omega⟩ : S1x8x64x128.Idx) := by
  have := tlt t
  blk_ext [idx t]

theorem emb12 (y : S1x8x64x128.Idx) :
    ((cfg0.win 12).blk t).view.emb y = (ix4 ⟨t.val / 1, by have := tlt t; omega⟩ (y 1) (y 2) ⟨t.val % 1 * 128 + (y 3).val, by have := tlt t; have hj : (y 3).val < 128 := (y 3).isLt; omega⟩ : S1x8x64x128.Idx) := by
  have := tlt t
  blk_ext [idx t]

theorem emb13 (y : S1x128x512.Idx) :
    ((cfg0.win 13).blk t).view.emb y = (ix3 ⟨t.val / 1, by have := tlt t; omega⟩ ⟨t.val % 1 * 128 + (y 1).val, by have := tlt t; have hj : (y 1).val < 128 := (y 1).isLt; omega⟩ (y 2) : S1x128x512.Idx) := by
  have := tlt t
  blk_ext [idx t]

theorem emb14 (y : S1x128x512.Idx) :
    ((cfg0.win 14).blk t).view.emb y = (ix3 ⟨t.val / 1, by have := tlt t; omega⟩ ⟨t.val % 1 * 128 + (y 1).val, by have := tlt t; have hj : (y 1).val < 128 := (y 1).isLt; omega⟩ (y 2) : S1x128x512.Idx) := by
  have := tlt t
  blk_ext [idx t]

theorem emb15 (y : S1x128x1024.Idx) :
    ((cfg0.win 15).blk t).view.emb y = (ix3 ⟨t.val / 1, by have := tlt t; omega⟩ ⟨t.val % 1 * 128 + (y 1).val, by have := tlt t; have hj : (y 1).val < 128 := (y 1).isLt; omega⟩ (y 2) : S1x128x1024.Idx) := by
  have := tlt t
  blk_ext [idx t]

theorem emb16 (y : S1x128x512.Idx) :
    ((cfg0.win 16).blk t).view.emb y = (ix3 ⟨t.val / 1, by have := tlt t; omega⟩ ⟨t.val % 1 * 128 + (y 1).val, by have := tlt t; have hj : (y 1).val < 128 := (y 1).isLt; omega⟩ (y 2) : S1x128x512.Idx) := by
  have := tlt t
  blk_ext [idx t]

theorem emb17 (y : S1x128x1024.Idx) :
    ((cfg0.win 17).blk t).view.emb y = (ix3 ⟨t.val / 1, by have := tlt t; omega⟩ ⟨t.val % 1 * 128 + (y 1).val, by have := tlt t; have hj : (y 1).val < 128 := (y 1).isLt; omega⟩ (y 2) : S1x128x1024.Idx) := by
  have := tlt t
  blk_ext [idx t]

theorem point10 (y : S1x8x64x128.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v122 (F := Ideal) (m ((c : Thread nD τ).loc main_arg0)) (m ((c : Thread nD τ).loc main_arg1)) (m ((c : Thread nD τ).loc main_arg2)) (m ((c : Thread nD τ).loc main_arg3)) (((cfg0.win 10).blk t).view.emb y) := by
  refine (out10_at _ _ _ _ _ _ _ _ _ _ y).trans (Eq.trans ?_ ((congrArg _ (emb10 t y)).trans (q_at _ _ _ _ ⟨t.val / 1, by have := tlt t; omega⟩ (y 1) (y 2) ⟨t.val % 1 * 128 + (y 3).val, by have := tlt t; have hj : (y 3).val < 128 := (y 3).isLt; omega⟩)).symm)
  rw [rope'_eq _ _ _ (fun i => Cert.ProjSRefIdeal.Read.val_main_v43 (F := Ideal) (ix2 ⟨t.val % 1 * 128 + (y 3).val, by have := tlt t; have hj : (y 3).val < 128 := (y 3).isLt; omega⟩ i)) (fun i => Cert.ProjSRefIdeal.Read.val_main_v44 (F := Ideal) (ix2 ⟨t.val % 1 * 128 + (y 3).val, by have := tlt t; have hj : (y 3).val < 128 := (y 3).isLt; omega⟩ i)) (y 2) (fun d => blk8 m c t d (y 3)) (fun d => blk9 m c t d (y 3)),
    show (fun d : Fin 64 => (iblk m c 4 t (ix2 d 0) : EReal)) = _ from funext fun d => blk4 m c t d,
    show (fun d : Fin 64 => zt (iblk m c 0 t) (iblk m c 1 t) (iblk m c 2 t) _ (y 3)) = _ from funext fun d => zt_eq m c t _ (y 3)]

/-- The rotated queries. -/
theorem final10 : (dats m 0 c).arrAt 10 (cfgs 0).N = Cert.ProjSRefIdeal.Read.val_main_v122 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  exact point10 m c t y

theorem point11 (y : S1x8x64x128.Idx) :
    out0_11 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v123 (F := Ideal) (m ((c : Thread nD τ).loc main_arg0)) (m ((c : Thread nD τ).loc main_arg1)) (m ((c : Thread nD τ).loc main_arg2)) (m ((c : Thread nD τ).loc main_arg4)) (((cfg0.win 11).blk t).view.emb y) := by
  refine (out11_at _ _ _ _ _ _ _ _ _ _ y).trans (Eq.trans ?_ ((congrArg _ (emb11 t y)).trans (k_at _ _ _ _ ⟨t.val / 1, by have := tlt t; omega⟩ (y 1) (y 2) ⟨t.val % 1 * 128 + (y 3).val, by have := tlt t; have hj : (y 3).val < 128 := (y 3).isLt; omega⟩)).symm)
  rw [rope'_eq _ _ _ (fun i => Cert.ProjSRefIdeal.Read.val_main_v43 (F := Ideal) (ix2 ⟨t.val % 1 * 128 + (y 3).val, by have := tlt t; have hj : (y 3).val < 128 := (y 3).isLt; omega⟩ i)) (fun i => Cert.ProjSRefIdeal.Read.val_main_v44 (F := Ideal) (ix2 ⟨t.val % 1 * 128 + (y 3).val, by have := tlt t; have hj : (y 3).val < 128 := (y 3).isLt; omega⟩ i)) (y 2) (fun d => blk8 m c t d (y 3)) (fun d => blk9 m c t d (y 3)),
    show (fun d : Fin 64 => (iblk m c 5 t (ix2 d 0) : EReal)) = _ from funext fun d => blk5 m c t d,
    show (fun d : Fin 64 => zt (iblk m c 0 t) (iblk m c 1 t) (iblk m c 2 t) _ (y 3)) = _ from funext fun d => zt_eq m c t _ (y 3)]

/-- The rotated keys. -/
theorem final11 : (dats m 0 c).arrAt 11 (cfgs 0).N = Cert.ProjSRefIdeal.Read.val_main_v123 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t hf y => ?_
  blk_simp; rw [after0_11]
  exact point11 m c t y

theorem point12 (y : S1x8x64x128.Idx) :
    out0_12 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v124 (F := Ideal) (m ((c : Thread nD τ).loc main_arg0)) (m ((c : Thread nD τ).loc main_arg1)) (m ((c : Thread nD τ).loc main_arg2)) (((cfg0.win 12).blk t).view.emb y) := by
  refine (out12_at _ _ _ _ _ _ _ _ _ _ y).trans (Eq.trans ?_ ((congrArg _ (emb12 t y)).trans (v_at _ _ _ ⟨t.val / 1, by have := tlt t; omega⟩ (y 1) (y 2) ⟨t.val % 1 * 128 + (y 3).val, by have := tlt t; have hj : (y 3).val < 128 := (y 3).isLt; omega⟩)).symm)
  exact zt_eq m c t _ (y 3)

/-- The values. -/
theorem final12 : (dats m 0 c).arrAt 12 (cfgs 0).N = Cert.ProjSRefIdeal.Read.val_main_v124 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp; rw [after0_12]
  exact point12 m c t y

theorem point13 (y : S1x128x512.Idx) :
    out0_13 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v20 (F := Ideal) (m ((c : Thread nD τ).loc main_arg0)) (m ((c : Thread nD τ).loc main_arg1)) (m ((c : Thread nD τ).loc main_arg2)) (((cfg0.win 13).blk t).view.emb y) := by
  refine (out13_at _ _ _ _ _ _ _ _ _ _ y).trans (Eq.trans ?_ ((congrArg _ (emb13 t y)).trans (r19_at _ _ _ ⟨t.val / 1, by have := tlt t; omega⟩ ⟨t.val % 1 * 128 + (y 1).val, by have := tlt t; have hj : (y 1).val < 128 := (y 1).isLt; omega⟩ (y 2))).symm)
  have h2 : (y 2).val < 512 := (y 2).isLt
  refine (zr_eq m c t (y 1) _ (by dsimp only; omega)).trans (congrArg _ (Fin.ext ?_))
  dsimp only
  omega

/-- The queries of the linear attention. -/
theorem final13 : (dats m 0 c).arrAt 13 (cfgs 0).N = Cert.ProjSRefIdeal.Read.val_main_v20 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]
  exact point13 m c t y

theorem point14 (y : S1x128x512.Idx) :
    out0_14 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v21 (F := Ideal) (m ((c : Thread nD τ).loc main_arg0)) (m ((c : Thread nD τ).loc main_arg1)) (m ((c : Thread nD τ).loc main_arg2)) (((cfg0.win 14).blk t).view.emb y) := by
  refine (out14_at _ _ _ _ _ _ _ _ _ _ y).trans (Eq.trans ?_ ((congrArg _ (emb14 t y)).trans (r20_at _ _ _ ⟨t.val / 1, by have := tlt t; omega⟩ ⟨t.val % 1 * 128 + (y 1).val, by have := tlt t; have hj : (y 1).val < 128 := (y 1).isLt; omega⟩ (y 2))).symm)
  have h2 : (y 2).val < 512 := (y 2).isLt
  refine (zr_eq m c t (y 1) _ (by dsimp only; omega)).trans (congrArg _ (Fin.ext ?_))
  dsimp only
  omega

/-- The keys of the linear attention. -/
theorem final14 : (dats m 0 c).arrAt 14 (cfgs 0).N = Cert.ProjSRefIdeal.Read.val_main_v21 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp; rw [after0_14]
  exact point14 m c t y

theorem point15 (y : S1x128x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v125 (F := Ideal) (m ((c : Thread nD τ).loc main_arg0)) (m ((c : Thread nD τ).loc main_arg1)) (m ((c : Thread nD τ).loc main_arg2)) (((cfg0.win 15).blk t).view.emb y) := by
  refine (out15_at _ _ _ _ _ _ _ _ _ _ y).trans (Eq.trans ?_ ((congrArg _ (emb15 t y)).trans (r119_at _ _ _ ⟨t.val / 1, by have := tlt t; omega⟩ ⟨t.val % 1 * 128 + (y 1).val, by have := tlt t; have hj : (y 1).val < 128 := (y 1).isLt; omega⟩ (y 2))).symm)
  have h2 : (y 2).val < 1024 := (y 2).isLt
  refine (zr_eq m c t (y 1) _ (by dsimp only; omega)).trans (congrArg _ (Fin.ext ?_))
  dsimp only
  omega

/-- The values of the linear attention. -/
theorem final15 : (dats m 0 c).arrAt 15 (cfgs 0).N = Cert.ProjSRefIdeal.Read.val_main_v125 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp; rw [after0_15]
  exact point15 m c t y

theorem point16 (y : S1x128x512.Idx) :
    out0_16 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v121 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (((cfg0.win 16).blk t).view.emb y) := by
  refine (out16_at _ _ _ _ _ _ _ _ _ _ y).trans (Eq.trans ?_ ((congrArg _ (emb16 t y)).trans (la_at _ _ _ _ _ ⟨t.val / 1, by have := tlt t; omega⟩ ⟨t.val % 1 * 128 + (y 1).val, by have := tlt t; have hj : (y 1).val < 128 := (y 1).isLt; omega⟩ (y 2))).symm)
  exact congrArg lsig (congrArg₂ (· + ·) (low_eq m c t (y 1) (y 2)) (blk7 m c t (y 2)))

/-- The logarithms of the decays. -/
theorem final16 : (dats m 0 c).arrAt 16 (cfgs 0).N = Cert.ProjSRefIdeal.Read.val_main_v121 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 16 _ (by decide +kernel) fun t hf y => ?_
  blk_simp; rw [after0_16]
  exact point16 m c t y

theorem point17 (y : S1x128x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) y
      = Cert.ProjSRefIdeal.Read.val_main_v126 (F := Ideal) (m ((c : Thread nD τ).loc main_arg0)) (m ((c : Thread nD τ).loc main_arg1)) (m ((c : Thread nD τ).loc main_arg2)) (((cfg0.win 17).blk t).view.emb y) := by
  refine (out17_at _ _ _ _ _ _ _ _ _ _ y).trans (Eq.trans ?_ ((congrArg _ (emb17 t y)).trans (r120_at _ _ _ ⟨t.val / 1, by have := tlt t; omega⟩ ⟨t.val % 1 * 128 + (y 1).val, by have := tlt t; have hj : (y 1).val < 128 := (y 1).isLt; omega⟩ (y 2))).symm)
  have h2 : (y 2).val < 1024 := (y 2).isLt
  refine (zr_eq m c t (y 1) _ (by dsimp only; omega)).trans (congrArg _ (Fin.ext ?_))
  dsimp only
  omega

/-- The output gate. -/
theorem final17 : (dats m 0 c).arrAt 17 (cfgs 0).N = Cert.ProjSRefIdeal.Read.val_main_v126 (F := Ideal) (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp; rw [after0_17]
  exact point17 m c t y

end Cert.ProjSProof

end
-- ==== Proof.ProjS.Claim.lean ====
/- The projection against its reference, as stated. -/
module

public import proofs.«01_k».proof.Defs
public import proofs.«01_k».proof.Proof.ProjS.Value
public import proofs.«01_k».proof.Proof.Gen.ProjSRefIdeal.Run
public import Idealize.ShloMosaic.Lib.Claim

@[expose] public section

set_option maxRecDepth 16384

noncomputable section

open Idealize.ShloMosaic Idealize.ShloMosaic.TcCoe Idealize.SL.Sem

namespace Cert.ProjSProof

set_option maxHeartbeats 3200000 in
theorem algebraic : Cert.algebraic_ProjSIdeal_ProjSRefIdeal (hProjSIdeal := Cert.ProjSIdeal.Gen.facts)
    (hProjSRefIdeal := Cert.ProjSRefIdeal.Gen.facts) := by
  intro m g m' g' _ hagree
  refine ⟨fun c => (ProjSIdeal.Gen.dats m 0 c).arrAt 10 (ProjSIdeal.cfgs 0).N, fun c => (ProjSIdeal.Gen.dats m 0 c).arrAt 11 (ProjSIdeal.cfgs 0).N, fun c => (ProjSIdeal.Gen.dats m 0 c).arrAt 12 (ProjSIdeal.cfgs 0).N, fun c => (ProjSIdeal.Gen.dats m 0 c).arrAt 13 (ProjSIdeal.cfgs 0).N, fun c => (ProjSIdeal.Gen.dats m 0 c).arrAt 14 (ProjSIdeal.cfgs 0).N, fun c => (ProjSIdeal.Gen.dats m 0 c).arrAt 15 (ProjSIdeal.cfgs 0).N, fun c => (ProjSIdeal.Gen.dats m 0 c).arrAt 16 (ProjSIdeal.cfgs 0).N, fun c => (ProjSIdeal.Gen.dats m 0 c).arrAt 17 (ProjSIdeal.cfgs 0).N, ?_, ?_⟩
  · refine Idealize.ShloMosaic.θ_run_mono (Idealize.ShloMosaic.θ_run_and (Cert.ProjSIdeal.Gen.run_main m g) (Cert.ProjSIdeal.Gen.unchanged m g)) ?_
    exact fun r h c => ⟨(h.1 c).1 10, (h.1 c).1 11, (h.1 c).1 12, (h.1 c).1 13, (h.1 c).1 14, (h.1 c).1 15, (h.1 c).1 16, (h.1 c).1 17, h.2 c⟩
  · refine Idealize.ShloMosaic.θ_run_mono (Cert.ProjSRefIdeal.Value.run m' g') ?_
    intro r h c
    obtain ⟨a0, a1, a2, a3, a4, a5, a6⟩ := hagree c
    obtain ⟨r0, r1, r2, r3, r4, r5, r6, r7, rest⟩ := h c
    refine ⟨r0.trans ?_, r1.trans ?_, r2.trans ?_, r3.trans ?_, r4.trans ?_, r5.trans ?_, r6.trans ?_, r7.trans ?_, rest⟩
    · refine (Cert.ProjSRefIdeal.Read.val_main_v122_eq _ _).trans ?_
      rw [a0, a1, a2, a3]
      exact (final10 m c).symm
    · refine (Cert.ProjSRefIdeal.Read.val_main_v123_eq _ _).trans ?_
      rw [a0, a1, a2, a4]
      exact (final11 m c).symm
    · refine (Cert.ProjSRefIdeal.Read.val_main_v124_eq _ _ _ ).trans ?_
      rw [a0, a1, a2]
      exact (final12 m c).symm
    · refine (Cert.ProjSRefIdeal.Read.val_main_v20_eq _ _ _ ).trans ?_
      rw [a0, a1, a2]
      exact (final13 m c).symm
    · refine (Cert.ProjSRefIdeal.Read.val_main_v21_eq _ _ _ ).trans ?_
      rw [a0, a1, a2]
      exact (final14 m c).symm
    · refine (Cert.ProjSRefIdeal.Read.val_main_v125_eq _ _ _ ).trans ?_
      rw [a0, a1, a2]
      exact (final15 m c).symm
    · refine (Cert.ProjSRefIdeal.Read.val_main_v121_eq _ _).trans ?_
      rw [a0, a1, a2, a5, a6]
      exact (final16 m c).symm
    · refine (Cert.ProjSRefIdeal.Read.val_main_v126_eq _ _ _ ).trans ?_
      rw [a0, a1, a2]
      exact (final17 m c).symm

end Cert.ProjSProof

end
-- ==== Proof.Merge.Forms.lean ====
/- The rows the merge computes, as functions of the rows they come from. -/
module

public import proofs.«01_k».proof.Proof.Proj.Forms

@[expose] public section

noncomputable section

open Idealize.ShloMosaic
open scoped BigOperators

namespace Cert.MergeForms

open Cert.ProjForms

/-- One entry of the mixed row: each branch's product times its own logistic gate. -/
def mix (h : Fin 1024 → EReal) (a : Fin 512 → EReal) (b : Fin 1024 → EReal) (wa : Fin 512 → Fin 1024 → EReal)
    (wb : Fin 1024 → Fin 1024 → EReal) (wg : Fin 1024 → Fin 2048 → EReal) (k : Fin 1024) : EReal :=
  Ideal.logistic (∑ j : Fin 1024, h j * wg j ⟨k.val, by omega⟩) * (∑ j : Fin 512, a j * wa j k)
    + Ideal.logistic (∑ j : Fin 1024, h j * wg j ⟨1024 + k.val, by omega⟩) * ∑ j : Fin 1024, b j * wb j k

/-- The residual row after the merge. -/
def x2row (x g : Fin 1024 → EReal) (a : Fin 512 → EReal) (b : Fin 1024 → EReal) (wa : Fin 512 → Fin 1024 → EReal)
    (wb : Fin 1024 → Fin 1024 → EReal) (wg : Fin 1024 → Fin 2048 → EReal) (wo : Fin 1024 → Fin 1024 → EReal) (e : Fin 1024) : EReal :=
  x e + ∑ k : Fin 1024, mix (hrow x g) a b wa wb wg k * wo k e

/-- The same row normalised and scaled for the router and the experts. -/
def h2row (x g : Fin 1024 → EReal) (a : Fin 512 → EReal) (b : Fin 1024 → EReal) (wa : Fin 512 → Fin 1024 → EReal)
    (wb : Fin 1024 → Fin 1024 → EReal) (wg : Fin 1024 → Fin 2048 → EReal) (wo : Fin 1024 → Fin 1024 → EReal) (g2 : Fin 1024 → EReal)
    (e : Fin 1024) : EReal :=
  hrow (x2row x g a b wa wb wg wo) g2 e

theorem logistic_eq (u : EReal) : Ideal.div 1 (1 + Ideal.exp (-u)) = Ideal.logistic u := rfl

end Cert.MergeForms

end
-- ==== Proof.Merge.Block.lean ====
/- What the blocks of the merge hold, over the blocks they are computed from. -/
module

public import proofs.«01_k».proof.Proof.Gen.MergeIdeal.Frame
public import proofs.«01_k».proof.Proof.Merge.Forms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MergeProof

open Cert.MergeIdeal Cert.MergeIdeal.Gen Cert.ProjForms Cert.MergeForms

theorem hb_at (x : Vec Ideal S512x1024 .f32) (g : Vec Ideal S1x1024 .f32) (r : Fin 512) (k : Fin 1024) :
    k0_pay7 (F := Ideal) x g (ix2 r k) = hrow (fun k => x (ix2 r k)) (fun k => g (ix2 0 k)) k := by
  pointwise [k0_pay7, k0_pay6, hrow]

theorem pay8_at (a : Vec Ideal S512x1024 .bf16) (w : Vec Ideal S1024x1024 .bf16) (r : Fin 512) (k : Fin 1024) :
    k0_pay8 (F := Ideal) a w (ix2 r k) = ∑ j : Fin 1024, a (ix2 r j) * w (ix2 j k) := by
  pointwise [k0_pay8]

theorem pay9_at (x : Vec Ideal S512x1024 .f32) (g : Vec Ideal S1x1024 .f32) (a : Vec Ideal S512x512 .bf16) (wa : Vec Ideal S512x1024 .bf16)
    (w : Vec Ideal S1024x1024 .bf16) (r : Fin 512) (k : Fin 1024) :
    k0_pay9 (F := Ideal) x g a wa w (ix2 r k) = Ideal.logistic (∑ j : Fin 1024, k0_pay7 (F := Ideal) x g (ix2 r j) * w (ix2 j k)) * ∑ j : Fin 512, a (ix2 r j) * wa (ix2 j k) := by
  pointwise [k0_pay9]

theorem pay10_at (x : Vec Ideal S512x1024 .f32) (g : Vec Ideal S1x1024 .f32) (w : Vec Ideal S1024x1024 .bf16) (r : Fin 512) (k : Fin 1024) :
    k0_pay10 (F := Ideal) x g w (ix2 r k) = Ideal.logistic (∑ j : Fin 1024, k0_pay7 (F := Ideal) x g (ix2 r j) * w (ix2 j k)) := by
  pointwise [k0_pay10]

theorem pay11_at (v1 v26 v31 v35 : Vec Ideal S512x1024 .f32) (w : Vec Ideal S1024x1024 .bf16) (r : Fin 512) (e : Fin 1024) :
    k0_pay11 (F := Ideal) v1 v26 v31 v35 w (ix2 r e)
      = v1 (ix2 r e) + ∑ k : Fin 1024, (v31 (ix2 r k) + v35 (ix2 r k) * v26 (ix2 r k)) * w (ix2 k e) := by
  pointwise [k0_pay11]

theorem pay13_at (v1 v26 v31 v35 : Vec Ideal S512x1024 .f32) (w : Vec Ideal S1024x1024 .bf16) (g : Vec Ideal S1x1024 .f32) (r : Fin 512) (e : Fin 1024) :
    k0_pay13 (F := Ideal) v1 v26 v31 v35 w g (ix2 r e)
      = hrow (fun k => k0_pay11 (F := Ideal) v1 v26 v31 v35 w (ix2 r k)) (fun k => g (ix2 0 k)) e := by
  pointwise [k0_pay13, k0_pay12, hrow]

section

variable (x0 : Vec Ideal S512x1024 .f32) (x1 : Vec Ideal S512x512 .bf16) (x2 : Vec Ideal S512x1024 .bf16) (x3 : Vec Ideal S1x1024 .f32)
  (x4 : Vec Ideal S512x1024 .bf16) (x5 : Vec Ideal S1024x1024 .bf16) (x6 : Vec Ideal S1024x2048 .bf16) (x7 : Vec Ideal S1024x1024 .bf16)
  (x8 : Vec Ideal S1x1024 .f32) (x9 x10 : Vec Ideal S1024x32 .bf16) (x11 : Vec Ideal S1x32 .f32)

theorem p25_at (r : Fin 512) (k : Fin 1024) : k0_pay25 x0 x1 x2 x3 x4 x5 x6 x7 x8 x9 x10 x11 (ix2 r k) = x0 (ix2 r k) := by
  pointwise [k0_pay25, k0_pay6]

theorem p26_at (r : Fin 512) (k : Fin 1024) : k0_pay26 x0 x1 x2 x3 x4 x5 x6 x7 x8 x9 x10 x11 (ix2 r k) = ∑ j : Fin 1024, x2 (ix2 r j) * x5 (ix2 j k) := by
  refine (pay8_at (View.ld x2 r0_0) (View.ld x5 r0_3) r k).trans ?_
  pointwise []

theorem p27_at (r : Fin 512) (k : Fin 1024) : k0_pay27 x0 x1 x2 x3 x4 x5 x6 x7 x8 x9 x10 x11 (ix2 r k)
    = Ideal.logistic (∑ j : Fin 1024, hrow (fun k => x0 (ix2 r k)) (fun k => x3 (ix2 0 k)) j * x6 (ix2 j ⟨k.val, by omega⟩))
      * ∑ j : Fin 512, x1 (ix2 r j) * x4 (ix2 j k) := by
  refine (pay9_at (View.ld x0 r0_0) (View.ld x3 r0_1) (View.ld x1 r0_2) (View.ld x4 r0_0) (View.ld x6 r0_4) r k).trans ?_
  simp only [hb_at]
  pointwise [hrow]

theorem p28_at (r : Fin 512) (k : Fin 1024) : k0_pay28 x0 x1 x2 x3 x4 x5 x6 x7 x8 x9 x10 x11 (ix2 r k)
    = Ideal.logistic (∑ j : Fin 1024, hrow (fun k => x0 (ix2 r k)) (fun k => x3 (ix2 0 k)) j * x6 (ix2 j ⟨1024 + k.val, by omega⟩)) := by
  refine (pay10_at (View.ld x0 r0_0) (View.ld x3 r0_1) (View.ld x6 r0_5) r k).trans ?_
  simp only [hb_at]
  pointwise [hrow]

theorem p11_at (r : Fin 512) (e : Fin 1024) :
    k0_pay11 (F := Ideal) (k0_pay25 x0 x1 x2 x3 x4 x5 x6 x7 x8 x9 x10 x11) (k0_pay26 x0 x1 x2 x3 x4 x5 x6 x7 x8 x9 x10 x11) (k0_pay27 x0 x1 x2 x3 x4 x5 x6 x7 x8 x9 x10 x11) (k0_pay28 x0 x1 x2 x3 x4 x5 x6 x7 x8 x9 x10 x11) (View.ld x7 r0_3) (ix2 r e)
      = x2row (fun k => x0 (ix2 r k)) (fun k => x3 (ix2 0 k)) (fun j => x1 (ix2 r j)) (fun j => x2 (ix2 r j)) (fun j k => x4 (ix2 j k)) (fun j k => x5 (ix2 j k)) (fun j k => x6 (ix2 j k)) (fun k e => x7 (ix2 k e)) e := by
  rw [pay11_at]
  unfold x2row
  refine congrArg₂ (· + ·) (p25_at x0 x1 x2 x3 x4 x5 x6 x7 x8 x9 x10 x11 r e) (Finset.sum_congr rfl fun k _ => ?_)
  refine congrArg₂ (· * ·) ?_ ?_
  · rw [p26_at, p27_at, p28_at]
    rfl
  · pointwise []

theorem out12_at (r : Fin 512) (e : Fin 1024) : out0_12 x0 x1 x2 x3 x4 x5 x6 x7 x8 x9 x10 x11 (ix2 r e) = x2row (fun k => x0 (ix2 r k)) (fun k => x3 (ix2 0 k)) (fun j => x1 (ix2 r j)) (fun j => x2 (ix2 r j)) (fun j k => x4 (ix2 j k)) (fun j k => x5 (ix2 j k)) (fun j k => x6 (ix2 j k)) (fun k e => x7 (ix2 k e)) e := by
  refine Eq.trans ?_ (p11_at x0 x1 x2 x3 x4 x5 x6 x7 x8 x9 x10 x11 r e)
  unfold out0_12
  canon_tiles x h
  case piece0 =>
    exact congrArg _ (funext fun a => match a with | ⟨0, _⟩ => Fin.ext h0.symm | ⟨1, _⟩ => Fin.ext h1.symm)

theorem out13_at (r : Fin 512) (e : Fin 1024) : out0_13 x0 x1 x2 x3 x4 x5 x6 x7 x8 x9 x10 x11 (ix2 r e) = h2row (fun k => x0 (ix2 r k)) (fun k => x3 (ix2 0 k)) (fun j => x1 (ix2 r j)) (fun j => x2 (ix2 r j)) (fun j k => x4 (ix2 j k)) (fun j k => x5 (ix2 j k)) (fun j k => x6 (ix2 j k)) (fun k e => x7 (ix2 k e)) (fun k => x8 (ix2 0 k)) e := by
  have h : k0_pay13 (F := Ideal) (k0_pay25 x0 x1 x2 x3 x4 x5 x6 x7 x8 x9 x10 x11) (k0_pay26 x0 x1 x2 x3 x4 x5 x6 x7 x8 x9 x10 x11) (k0_pay27 x0 x1 x2 x3 x4 x5 x6 x7 x8 x9 x10 x11) (k0_pay28 x0 x1 x2 x3 x4 x5 x6 x7 x8 x9 x10 x11) (View.ld x7 r0_3) (View.ld x8 r0_1) (ix2 r e)
      = h2row (fun k => x0 (ix2 r k)) (fun k => x3 (ix2 0 k)) (fun j => x1 (ix2 r j)) (fun j => x2 (ix2 r j)) (fun j k => x4 (ix2 j k)) (fun j k => x5 (ix2 j k)) (fun j k => x6 (ix2 j k)) (fun k e => x7 (ix2 k e)) (fun k => x8 (ix2 0 k)) e := by
    rw [pay13_at]
    unfold h2row
    refine congrFun (congrArg₂ hrow (funext fun k => p11_at x0 x1 x2 x3 x4 x5 x6 x7 x8 x9 x10 x11 r k) (funext fun k => ?_)) e
    pointwise []
  refine Eq.trans ?_ h
  unfold out0_13
  canon_tiles x h
  case piece0 =>
    exact congrArg _ (funext fun a => match a with | ⟨0, _⟩ => Fin.ext h0.symm | ⟨1, _⟩ => Fin.ext h1.symm)

end

end Cert.MergeProof

end
-- ==== Proof.Merge.Ref.lean ====
/- What the merge's reference holds, entry by entry. -/
module

public import proofs.«01_k».proof.Proof.Gen.MergeRefIdeal.Read
public import proofs.«01_k».proof.Proof.Merge.Forms
public import Idealize.ShloMosaic.Lib.Pointwise

@[expose] public section

set_option maxRecDepth 16384

noncomputable section

open Idealize.ShloMosaic Idealize.ShloMosaic.TcCoe Idealize.SL.Sem
open scoped BigOperators

namespace Cert.MergeRefProof

open Cert.MergeRefIdeal Cert.MergeRefIdeal.Read Cert.ProjForms Cert.MergeForms

variable (x0 : FVec Ideal S4x8192x1024 .f32) (x1 : FVec Ideal S4x8192x512 .bf16) (x2 : FVec Ideal S4x8192x1024 .bf16)
  (x3 : FVec Ideal S1x1024 .f32) (x4 : FVec Ideal S1x512x1024 .f32) (x5 : FVec Ideal S1x1024x1024 .f32) (x6 : FVec Ideal S1x1024x2048 .f32)
  (x7 : FVec Ideal S1x1024x1024 .f32) (x8 : FVec Ideal S1x1024 .f32)

theorem h_at (r : Fin 32768) (k : Fin 1024) : val_main_v14 (F := Ideal) x0 x3 (ix2 r k)
    = hrow (fun k => val_main_v0 (F := Ideal) x0 (ix2 r k)) (fun k => x3 (ix2 0 k)) k := by
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1, hrow]

theorem ya_at (r : Fin 32768) (k : Fin 1024) : val_main_v18 (F := Ideal) x1 x4 (ix2 r k)
    = ∑ j : Fin 512, val_main_v16 (F := Ideal) x1 (ix2 r j) * x4 (ix3 0 j k) := by
  pointwise [val_main_v18, val_main_v17]

theorem yb_at (r : Fin 32768) (k : Fin 1024) : val_main_v22 (F := Ideal) x2 x5 (ix2 r k)
    = ∑ j : Fin 1024, val_main_v20 (F := Ideal) x2 (ix2 r j) * x5 (ix3 0 j k) := by
  pointwise [val_main_v22, val_main_v21]

theorem g_at (r : Fin 32768) (k : Fin 2048) : val_main_v30 (F := Ideal) x0 x3 x6 (ix2 r k)
    = Ideal.logistic (∑ j : Fin 1024, val_main_v14 (F := Ideal) x0 x3 (ix2 r j) * x6 (ix3 0 j k)) := by
  rw [← logistic_eq]
  pointwise [val_main_v30, val_main_v29, val_main_v28, val_main_v27, val_main_v26, val_main_v25, val_main_v24, val_main_v23, val_main_cst_2, val_main_cst_3]

theorem mix_at (r : Fin 32768) (k : Fin 1024) : val_main_v35 (F := Ideal) x0 x1 x2 x3 x4 x5 x6 (ix2 r k)
    = mix (hrow (fun k => val_main_v0 (F := Ideal) x0 (ix2 r k)) (fun k => x3 (ix2 0 k))) (fun j => val_main_v16 (F := Ideal) x1 (ix2 r j))
        (fun j => val_main_v20 (F := Ideal) x2 (ix2 r j)) (fun j k => x4 (ix3 0 j k)) (fun j k => x5 (ix3 0 j k)) (fun j k => x6 (ix3 0 j k)) k := by
  have e : val_main_v35 (F := Ideal) x0 x1 x2 x3 x4 x5 x6 (ix2 r k)
      = val_main_v30 (F := Ideal) x0 x3 x6 (ix2 r ⟨k.val, by omega⟩) * val_main_v18 (F := Ideal) x1 x4 (ix2 r k)
        + val_main_v30 (F := Ideal) x0 x3 x6 (ix2 r ⟨1024 + k.val, by omega⟩) * val_main_v22 (F := Ideal) x2 x5 (ix2 r k) := by
    pointwise [val_main_v35, val_main_v34, val_main_v33, val_main_v32, val_main_v31]
  rw [e, g_at, g_at, ya_at, yb_at]
  simp only [h_at]
  rfl

theorem x2_at (r : Fin 32768) (k : Fin 1024) : val_main_v38 (F := Ideal) x0 x1 x2 x3 x4 x5 x6 x7 (ix2 r k)
    = x2row (fun k => val_main_v0 (F := Ideal) x0 (ix2 r k)) (fun k => x3 (ix2 0 k)) (fun j => val_main_v16 (F := Ideal) x1 (ix2 r j))
        (fun j => val_main_v20 (F := Ideal) x2 (ix2 r j)) (fun j k => x4 (ix3 0 j k)) (fun j k => x5 (ix3 0 j k)) (fun j k => x6 (ix3 0 j k))
        (fun j k => x7 (ix3 0 j k)) k := by
  have e : val_main_v38 (F := Ideal) x0 x1 x2 x3 x4 x5 x6 x7 (ix2 r k)
      = val_main_v0 (F := Ideal) x0 (ix2 r k) + ∑ j : Fin 1024, val_main_v35 (F := Ideal) x0 x1 x2 x3 x4 x5 x6 (ix2 r j) * x7 (ix3 0 j k) := by
    pointwise [val_main_v38, val_main_v37, val_main_v36]
  rw [e]
  simp only [mix_at]
  rfl

theorem h2_at (r : Fin 32768) (k : Fin 1024) : val_main_v53 (F := Ideal) x0 x1 x2 x3 x4 x5 x6 x7 x8 (ix2 r k)
    = h2row (fun k => val_main_v0 (F := Ideal) x0 (ix2 r k)) (fun k => x3 (ix2 0 k)) (fun j => val_main_v16 (F := Ideal) x1 (ix2 r j))
        (fun j => val_main_v20 (F := Ideal) x2 (ix2 r j)) (fun j k => x4 (ix3 0 j k)) (fun j k => x5 (ix3 0 j k)) (fun j k => x6 (ix3 0 j k))
        (fun j k => x7 (ix3 0 j k)) (fun k => x8 (ix2 0 k)) k := by
  have e : val_main_v53 (F := Ideal) x0 x1 x2 x3 x4 x5 x6 x7 x8 (ix2 r k)
      = hrow (fun k => val_main_v38 (F := Ideal) x0 x1 x2 x3 x4 x5 x6 x7 (ix2 r k)) (fun k => x8 (ix2 0 k)) k := by
    pointwise [val_main_v53, val_main_v52, val_main_v51, val_main_v50, val_main_v49, val_main_v48, val_main_v47, val_main_v46, val_main_v45,
      val_main_v44, val_main_v43, val_main_v42, val_main_v41, val_main_v40, val_main_v39, val_main_cst_4, val_main_cst_5, val_main_cst_6, hrow]
  rw [e]
  simp only [x2_at]
  rfl

end Cert.MergeRefProof

end
-- ==== Proof.Merge.Value.lean ====
/- The arrays the merge leaves are the reference's. -/
module

public import proofs.«01_k».proof.Proof.Merge.Block
public import proofs.«01_k».proof.Proof.Merge.Ref

@[expose] public section

set_option maxRecDepth 16384

noncomputable section

open Idealize.ShloMosaic Idealize.ShloMosaic.TcCoe Idealize.SL.Sem
open scoped BigOperators

namespace Cert.MergeProof

open Cert.MergeIdeal Cert.MergeIdeal.Gen Cert.ProjForms Cert.MergeForms Cert.MergeRefProof

variable (m : (ℓ : Loc nD τ sig) → Buf (Elt Ideal) ℓ)

/-- The block each window takes at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_12.index t = ![t.val, 0]
    ∧ win0_13.index t = ![t.val, 0] :=
  (by decide +kernel : ∀ t : Fin grid0.N, _)

variable (c : Dev nD) (t : Fin cfg0.N)

theorem tlt : t.val < 64 := t.isLt

theorem V15 : V m c main_v15 = Cert.MergeRefIdeal.Read.val_main_v0 (F := Ideal) (m ((c : Thread nD τ).loc main_arg0)) := by
  show StableHlo.after (List.flatten [hostOps0]) (fun b => m (c, b)) (Proc.tc.devRef main_v15) = _
  simp only [hostOps0, List.flatten_cons, List.flatten_nil, List.append_nil, List.cons_append, List.nil_append]
  after_results
  try rfl

theorem V16 : V m c main_v16 = Cert.MergeRefIdeal.Read.val_main_v16 (F := Ideal) (m ((c : Thread nD τ).loc main_arg1)) := by
  show StableHlo.after (List.flatten [hostOps0]) (fun b => m (c, b)) (Proc.tc.devRef main_v16) = _
  simp only [hostOps0, List.flatten_cons, List.flatten_nil, List.append_nil, List.cons_append, List.nil_append]
  after_results
  try rfl

theorem V17 : V m c main_v17 = Cert.MergeRefIdeal.Read.val_main_v20 (F := Ideal) (m ((c : Thread nD τ).loc main_arg2)) := by
  show StableHlo.after (List.flatten [hostOps0]) (fun b => m (c, b)) (Proc.tc.devRef main_v17) = _
  simp only [hostOps0, List.flatten_cons, List.flatten_nil, List.append_nil, List.cons_append, List.nil_append]
  after_results
  try rfl

theorem blk0 (r : Fin 512) (k : Fin 1024) : iblk m c 0 t (ix2 r k)
    = Cert.MergeRefIdeal.Read.val_main_v0 (F := Ideal) (m ((c : Thread nD τ).loc main_arg0)) (ix2 ⟨t.val * 512 + r.val, by have := tlt t; omega⟩ k) := by
  have := tlt t
  rw [← V15 m c]
  blk_point [iblk, idx t]

theorem blk1 (r : Fin 512) (k : Fin 512) : iblk m c 1 t (ix2 r k)
    = Cert.MergeRefIdeal.Read.val_main_v16 (F := Ideal) (m ((c : Thread nD τ).loc main_arg1)) (ix2 ⟨t.val * 512 + r.val, by have := tlt t; omega⟩ k) := by
  have := tlt t
  rw [← V16 m c]
  blk_point [iblk, idx t]

theorem blk2 (r : Fin 512) (k : Fin 1024) : iblk m c 2 t (ix2 r k)
    = Cert.MergeRefIdeal.Read.val_main_v20 (F := Ideal) (m ((c : Thread nD τ).loc main_arg2)) (ix2 ⟨t.val * 512 + r.val, by have := tlt t; omega⟩ k) := by
  have := tlt t
  rw [← V17 m c]
  blk_point [iblk, idx t]

theorem blk3 (k : Fin 1024) : iblk m c 3 t (ix2 0 k) = (m ((c : Thread nD τ).loc main_arg3)) (ix2 0 k) := by
  blk_point [iblk, V, idx t]

theorem blk8 (k : Fin 1024) : iblk m c 8 t (ix2 0 k) = (m ((c : Thread nD τ).loc main_arg8)) (ix2 0 k) := by
  blk_point [iblk, V, idx t]

theorem blk4 (j : Fin 512) (k : Fin 1024) : iblk m c 4 t (ix2 j k) = (m ((c : Thread nD τ).loc main_arg4)) (ix3 0 j k) := by
  blk_point [iblk, V, idx t]

theorem blk5 (j : Fin 1024) (k : Fin 1024) : iblk m c 5 t (ix2 j k) = (m ((c : Thread nD τ).loc main_arg5)) (ix3 0 j k) := by
  blk_point [iblk, V, idx t]

theorem blk6 (j : Fin 1024) (k : Fin 2048) : iblk m c 6 t (ix2 j k) = (m ((c : Thread nD τ).loc main_arg6)) (ix3 0 j k) := by
  blk_point [iblk, V, idx t]

theorem blk7 (j : Fin 1024) (k : Fin 1024) : iblk m c 7 t (ix2 j k) = (m ((c : Thread nD τ).loc main_arg7)) (ix3 0 j k) := by
  blk_point [iblk, V, idx t]

theorem eq_ix2 (y : S512x1024.Idx) : y = ix2 (y 0) (y 1) :=
  funext fun a => match a with | ⟨0, _⟩ => rfl | ⟨1, _⟩ => rfl

theorem emb12 (y : S512x1024.Idx) : ((cfg0.win 12).blk t).view.emb y
    = (ix2 ⟨t.val * 512 + (y 0).val, by have := tlt t; have h : (y 0).val < 512 := (y 0).isLt; omega⟩ (y 1) : S32768x1024.Idx) := by
  have := tlt t
  blk_ext [idx t]

theorem at12 (r : Fin 512) (e : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e)
    = Cert.MergeRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 512 + r.val, by have := tlt t; omega⟩ e) := by
  rw [out12_at, x2_at]
  rw [show (fun k => iblk m c 0 t (ix2 r k)) = _ from funext fun k => blk0 m c t r k,
    show (fun k => iblk m c 3 t (ix2 0 k)) = _ from funext fun k => blk3 m c t k,
    show (fun j => iblk m c 1 t (ix2 r j)) = _ from funext fun k => blk1 m c t r k,
    show (fun j => iblk m c 2 t (ix2 r j)) = _ from funext fun k => blk2 m c t r k,
    show (fun j k => iblk m c 4 t (ix2 j k)) = _ from funext fun j => funext fun k => blk4 m c t j k,
    show (fun j k => iblk m c 5 t (ix2 j k)) = _ from funext fun j => funext fun k => blk5 m c t j k,
    show (fun j k => iblk m c 6 t (ix2 j k)) = _ from funext fun j => funext fun k => blk6 m c t j k,
    show (fun j k => iblk m c 7 t (ix2 j k)) = _ from funext fun j => funext fun k => blk7 m c t j k]

theorem point12 (y : S512x1024.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
    = Cert.MergeRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 12).blk t).view.emb y) :=
  ((congrArg _ (eq_ix2 y)).trans (at12 m c t (y 0) (y 1))).trans (congrArg _ (emb12 t y)).symm

theorem final12 : (dats m 0 c).arrAt 12 (cfgs 0).N = Cert.MergeRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  exact point12 m c t y

theorem emb13 (y : S512x1024.Idx) : ((cfg0.win 13).blk t).view.emb y
    = (ix2 ⟨t.val * 512 + (y 0).val, by have := tlt t; have h : (y 0).val < 512 := (y 0).isLt; omega⟩ (y 1) : S32768x1024.Idx) := by
  have := tlt t
  blk_ext [idx t]

theorem at13 (r : Fin 512) (e : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e)
    = Cert.MergeRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, by have := tlt t; omega⟩ e) := by
  rw [out13_at, h2_at]
  rw [show (fun k => iblk m c 0 t (ix2 r k)) = _ from funext fun k => blk0 m c t r k,
    show (fun k => iblk m c 3 t (ix2 0 k)) = _ from funext fun k => blk3 m c t k,
    show (fun j => iblk m c 1 t (ix2 r j)) = _ from funext fun k => blk1 m c t r k,
    show (fun j => iblk m c 2 t (ix2 r j)) = _ from funext fun k => blk2 m c t r k,
    show (fun j k => iblk m c 4 t (ix2 j k)) = _ from funext fun j => funext fun k => blk4 m c t j k,
    show (fun j k => iblk m c 5 t (ix2 j k)) = _ from funext fun j => funext fun k => blk5 m c t j k,
    show (fun j k => iblk m c 6 t (ix2 j k)) = _ from funext fun j => funext fun k => blk6 m c t j k,
    show (fun j k => iblk m c 7 t (ix2 j k)) = _ from funext fun j => funext fun k => blk7 m c t j k, show (fun k => iblk m c 8 t (ix2 0 k)) = _ from funext fun k => blk8 m c t k]

theorem point13 (y : S512x1024.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
    = Cert.MergeRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 13).blk t).view.emb y) :=
  ((congrArg _ (eq_ix2 y)).trans (at13 m c t (y 0) (y 1))).trans (congrArg _ (emb13 t y)).symm

theorem final13 : (dats m 0 c).arrAt 13 (cfgs 0).N = Cert.MergeRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  exact point13 m c t y

end Cert.MergeProof

end
-- ==== Proof.Merge.Claim.lean ====
/- The merge against its reference, as stated. -/
module

public import proofs.«01_k».proof.Defs
public import proofs.«01_k».proof.Proof.Merge.Value
public import proofs.«01_k».proof.Proof.Gen.MergeRefIdeal.Run
public import Idealize.ShloMosaic.Lib.Claim

@[expose] public section

set_option maxRecDepth 16384

noncomputable section

open Idealize.ShloMosaic Idealize.ShloMosaic.TcCoe Idealize.SL.Sem

namespace Cert.MergeProof

set_option maxHeartbeats 3200000 in
theorem algebraic : Cert.algebraic_MergeIdeal_MergeRefIdeal (hMergeIdeal := Cert.MergeIdeal.Gen.facts)
    (hMergeRefIdeal := Cert.MergeRefIdeal.Gen.facts) := by
  intro m g m' g' _ hagree
  refine ⟨fun c => (MergeIdeal.Gen.dats m 0 c).arrAt 12 (MergeIdeal.cfgs 0).N, fun c => (MergeIdeal.Gen.dats m 0 c).arrAt 13 (MergeIdeal.cfgs 0).N, ?_, ?_⟩
  · refine Idealize.ShloMosaic.θ_run_mono (Idealize.ShloMosaic.θ_run_and (Cert.MergeIdeal.Gen.run_main m g) (Cert.MergeIdeal.Gen.unchanged m g)) ?_
    exact fun r h c => ⟨(h.1 c).1 12, (h.1 c).1 13, h.2 c⟩
  · refine Idealize.ShloMosaic.θ_run_mono (Cert.MergeRefIdeal.Value.run m' g') ?_
    intro r h c
    obtain ⟨a0, a1, a2, a3, a4, a5, a6, a7, a8, a9, a10⟩ := hagree c
    obtain ⟨r0, r1, rest⟩ := h c
    refine ⟨r0.trans ?_, r1.trans ?_, rest⟩
    · rw [Cert.MergeRefIdeal.Read.val_main_v38_eq, a0, a1, a2, a3, a4, a5, a6, a7]
      exact (final12 m c).symm
    · rw [Cert.MergeRefIdeal.Read.val_main_v53_eq, a0, a1, a2, a3, a4, a5, a6, a7, a8]
      exact (final13 m c).symm

end Cert.MergeProof

end
-- ==== Proof.Combine.lean ====
/- The expert outputs put back together: the final array of the combining kernel is the reference's sum
   `x + Σ_k y_k · gate_k`, index by index. -/
module

public import proofs.«01_k».proof.Proof.Gen.CombineIdeal.Frame
public import proofs.«01_k».proof.Proof.Gen.CombineRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.CombineProof

open Cert.CombineIdeal Cert.CombineIdeal.Gen

variable (m : (ℓ : Loc nD τ sig) → Buf (Elt Ideal) ℓ)

/-- The block each window reads or writes at grid point `t`: the `t`-th block of 1024 rows. -/
theorem idx : ∀ t : Fin cfg0.N, win0_0.index t = ![t.val, 0] ∧ win0_1.index t = ![0, t.val, 0]
    ∧ win0_2.index t = ![t.val, 0] ∧ win0_3.index t = ![t.val, 0] :=
  (by decide +kernel : ∀ t : Fin grid0.N, _)

/-- What one block stores: the residual row plus the four gated expert rows, added from the left. -/
theorem pay_at (v0 : Vec Ideal S1024x1024 .f32) (v1 : Vec Ideal S1024x4 .f32) (a b c d : Vec Ideal S1x1024x1024 .bf16)
    (y : S1024x1024.Idx) :
    k0_pay1 (F := Ideal) v0 v1 a b c d y
      = v0 y + v1 (ix2 (y 0) 0) * a (ix3 0 (y 0) (y 1)) + v1 (ix2 (y 0) 1) * b (ix3 0 (y 0) (y 1))
        + v1 (ix2 (y 0) 2) * c (ix3 0 (y 0) (y 1)) + v1 (ix2 (y 0) 3) * d (ix3 0 (y 0) (y 1)) := by
  pointwise [k0_pay1]
  try blk_ext

/-- What the reference holds at an index. -/
theorem ref_at (x0 : FVec Ideal S32768x1024 .f32) (x1 : FVec Ideal S4x32768x1024 .bf16) (x2 : FVec Ideal S32768x4 .f32)
    (j : S32768x1024.Idx) :
    Cert.CombineRefIdeal.Read.val_main_v2 (F := Ideal) x0 x1 x2 j
      = x0 j + ∑ k : Fin 4, x1 (ix3 k (j 0) (j 1)) * x2 (ix2 (j 0) k) := by
  pointwise [Cert.CombineRefIdeal.Read.val_main_v2, Cert.CombineRefIdeal.Read.val_main_v1, Cert.CombineRefIdeal.Read.val_main_v0]

/-- What grid point `t` stores at `y` is the reference at the array index of `y`. -/
theorem point (c : Dev nD) (t : Fin cfg0.N) (y : S1024x1024.Idx) :
    k0_pay1 (F := Ideal) (iblk m c 0 t) (iblk m c 2 t) (View.ld (iblk m c 1 t) r0_2) (View.ld (iblk m c 1 t) r0_3)
        (View.ld (iblk m c 1 t) r0_4) (View.ld (iblk m c 1 t) r0_5) y
      = Cert.CombineRefIdeal.Read.val_main_v2 (F := Ideal) (m ((c : Thread nD τ).loc main_arg0))
          (m ((c : Thread nD τ).loc main_arg1)) (m ((c : Thread nD τ).loc main_arg2)) (((cfg0.win 3).blk t).view.emb y) := by
  rw [pay_at, ref_at, Fin.sum_univ_four]
  simp only [← add_assoc]
  refine congrArg₂ (· + ·) (congrArg₂ (· + ·) (congrArg₂ (· + ·) (congrArg₂ (· + ·) ?_ ((mul_comm _ _).trans ?_))
    ((mul_comm _ _).trans ?_)) ((mul_comm _ _).trans ?_)) ((mul_comm _ _).trans ?_)
  all_goals blk_point [iblk, V, idx t]

/-- The array the combining kernel leaves is the reference's. -/
theorem final (c : Dev nD) : (dats m 0 c).arrAt 3 (cfgs 0).N
    = Cert.CombineRefIdeal.Read.val_main_v2 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.CombineProof

end
-- ==== Proof.CombineClaim.lean ====
/- The combination of the experts' rows against its reference, as stated. -/
module

public import proofs.«01_k».proof.Defs
public import proofs.«01_k».proof.Proof.Combine
public import proofs.«01_k».proof.Proof.Gen.CombineRefIdeal.Run
public import Idealize.ShloMosaic.Lib.Claim

@[expose] public section

set_option maxRecDepth 16384

noncomputable section

open Idealize.ShloMosaic Idealize.ShloMosaic.TcCoe Idealize.SL.Sem

namespace Cert.CombineProof

theorem algebraic : Cert.algebraic_CombineIdeal_CombineRefIdeal (hCombineIdeal := Cert.CombineIdeal.Gen.facts)
    (hCombineRefIdeal := Cert.CombineRefIdeal.Gen.facts) := by
  pair_intro
  · run_from Cert.CombineIdeal.Gen.run_main m g
  · run_from Cert.CombineRefIdeal.Value.run m' g'
    exact (final m c).symm

end Cert.CombineProof

end
-- ==== Proof.CombineS.lean ====
/- The expert outputs put back together: the final array of the combining kernel for the sample is the reference's sum
   `x + Σ_k y_k · gate_k`, index by index. -/
module

public import proofs.«01_k».proof.Proof.Gen.CombineSIdeal.Frame
public import proofs.«01_k».proof.Proof.Gen.CombineSRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.CombineSProof

open Cert.CombineSIdeal Cert.CombineSIdeal.Gen

variable (m : (ℓ : Loc nD τ sig) → Buf (Elt Ideal) ℓ)

/-- The block each window reads or writes at grid point `t`: the whole of its array. -/
theorem idx : ∀ t : Fin cfg0.N, win0_0.index t = ![t.val, 0] ∧ win0_1.index t = ![0, t.val, 0]
    ∧ win0_2.index t = ![t.val, 0] ∧ win0_3.index t = ![t.val, 0] :=
  (by decide +kernel : ∀ t : Fin grid0.N, _)

/-- What one block stores: the residual row plus the four gated expert rows, added from the left. -/
theorem pay_at (v0 : Vec Ideal S128x1024 .f32) (v1 : Vec Ideal S128x4 .f32) (a b c d : Vec Ideal S1x128x1024 .bf16)
    (y : S128x1024.Idx) :
    k0_pay1 (F := Ideal) v0 v1 a b c d y
      = v0 y + v1 (ix2 (y 0) 0) * a (ix3 0 (y 0) (y 1)) + v1 (ix2 (y 0) 1) * b (ix3 0 (y 0) (y 1))
        + v1 (ix2 (y 0) 2) * c (ix3 0 (y 0) (y 1)) + v1 (ix2 (y 0) 3) * d (ix3 0 (y 0) (y 1)) := by
  pointwise [k0_pay1]
  try blk_ext

/-- What the reference holds at an index. -/
theorem ref_at (x0 : FVec Ideal S128x1024 .f32) (x1 : FVec Ideal S4x128x1024 .bf16) (x2 : FVec Ideal S128x4 .f32)
    (j : S128x1024.Idx) :
    Cert.CombineSRefIdeal.Read.val_main_v2 (F := Ideal) x0 x1 x2 j
      = x0 j + ∑ k : Fin 4, x1 (ix3 k (j 0) (j 1)) * x2 (ix2 (j 0) k) := by
  pointwise [Cert.CombineSRefIdeal.Read.val_main_v2, Cert.CombineSRefIdeal.Read.val_main_v1, Cert.CombineSRefIdeal.Read.val_main_v0]

/-- What grid point `t` stores at `y` is the reference at the array index of `y`. -/
theorem point (c : Dev nD) (t : Fin cfg0.N) (y : S128x1024.Idx) :
    k0_pay1 (F := Ideal) (iblk m c 0 t) (iblk m c 2 t) (View.ld (iblk m c 1 t) r0_2) (View.ld (iblk m c 1 t) r0_3)
        (View.ld (iblk m c 1 t) r0_4) (View.ld (iblk m c 1 t) r0_5) y
      = Cert.CombineSRefIdeal.Read.val_main_v2 (F := Ideal) (m ((c : Thread nD τ).loc main_arg0))
          (m ((c : Thread nD τ).loc main_arg1)) (m ((c : Thread nD τ).loc main_arg2)) (((cfg0.win 3).blk t).view.emb y) := by
  rw [pay_at, ref_at, Fin.sum_univ_four]
  simp only [← add_assoc]
  refine congrArg₂ (· + ·) (congrArg₂ (· + ·) (congrArg₂ (· + ·) (congrArg₂ (· + ·) ?_ ((mul_comm _ _).trans ?_))
    ((mul_comm _ _).trans ?_)) ((mul_comm _ _).trans ?_)) ((mul_comm _ _).trans ?_)
  all_goals blk_point [iblk, V, idx t]

/-- The array the combining kernel leaves is the reference's. -/
theorem final (c : Dev nD) : (dats m 0 c).arrAt 3 (cfgs 0).N
    = Cert.CombineSRefIdeal.Read.val_main_v2 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.CombineSProof

end
-- ==== Proof.CombineSClaim.lean ====
/- The combination of the experts' rows of the sample against its reference, as stated. -/
module

public import proofs.«01_k».proof.Defs
public import proofs.«01_k».proof.Proof.CombineS
public import proofs.«01_k».proof.Proof.Gen.CombineSRefIdeal.Run
public import Idealize.ShloMosaic.Lib.Claim

@[expose] public section

set_option maxRecDepth 16384

noncomputable section

open Idealize.ShloMosaic Idealize.ShloMosaic.TcCoe Idealize.SL.Sem

namespace Cert.CombineSProof

theorem algebraic : Cert.algebraic_CombineSIdeal_CombineSRefIdeal (hCombineSIdeal := Cert.CombineSIdeal.Gen.facts)
    (hCombineSRefIdeal := Cert.CombineSRefIdeal.Gen.facts) := by
  pair_intro
  · run_from Cert.CombineSIdeal.Gen.run_main m g
  · run_from Cert.CombineSRefIdeal.Value.run m' g'
    exact (final m c).symm

end Cert.CombineSProof

end
-- ==== Proof.Experts.Weights.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (UR sig nD τ) ℕ

/-- The columns of parity `p` of an expert's first weights, turned: row `r` of the result is column `2 r + p` of the block. -/
def turned (p : Fin 2) (x : Vec F S1x1024x2048 .f32) : FVec F S1024x1024 .bf16 :=
  truncf .bf16 (fun y : S1024x1024.Idx => x (ix3 0 (y 1) ⟨2 * (y 0).val + p.val, by
    have h : (y 0).val < 1024 := (y 0).isLt
    omega⟩)) bitsLt_bf16_f32

/-- One step of the reload: a plane of the turning buffer is filled with a turned piece of the weight block, and every second of its rows is read back. -/
theorem step_eq (v : View sig .tc .vmem S8x256x128 .f32) (arg4 : Memref sig .tc .vmem S1x1024x2048 .f32) (h4 : arg4.IsWhole)
    (x1 : Vec F S1x1024x2048 .f32) (L : List (View.Piece (Elt F) S8x256x128 .f32)) (p : Fin 2) (j o1 o2 : ℕ)
    (hp : ∀ a, (![j, 0, 0] : Fin 3 → ℕ) a + S1x256x128.size a ≤ S8x256x128.size a)
    (hl : ∀ a, (![0, o1, o2] : Fin 3 → ℕ) a + S1x128x256.size a ≤ S1x1024x2048.size a)
    (hs) (a b : ℕ) (hw : ∀ d, (![a, b] : Fin 2 → ℕ) d + S128x128.size d ≤ S1024x1024.size d)
    (ha : 2 * a = o2) (hb : b = o1) (x : S128x128.Idx) :
    k0_pay5 (v.readCov ((⟨Rect.unit ![j, 0, 0] S1x256x128.size hp,
        k0_pay4 (View.readAt (Elt F) arg4.view (Rect.unit (s := S1x1024x2048) ![0, o1, o2] S1x128x256.size hl).toLoadRect (h4.unread x1))⟩ : View.Piece (Elt F) S8x256x128 .f32) :: L)
        (⟨![j, p.val, 0], S1x128x128.size, ![1, 2, 1], hs⟩ : LoadRect S8x256x128)) x
      = turned p x1 ((Rect.unit (s := S1024x1024) ![a, b] S128x128.size hw).emb x) := by
  rw [View.readCov_eq_canon', View.readAt_eq_ld, h4.read_unread]
  have e : ∀ z : S1x128x128.Idx, (⟨![j, p.val, 0], S1x128x128.size, ![1, 2, 1], hs⟩ : LoadRect S8x256x128).idx z
      = (Rect.unit (s := S8x256x128) ![j, 0, 0] S1x256x128.size hp).emb (ix3 0 ⟨2 * (z 1).val + p.val, by
          have h : (z 1).val < 128 := (z 1).isLt
          omega⟩ (z 2)) := by
    intro z
    funext d; apply Fin.ext
    fin_cases d
    · show j + 1 * (z 0).val = j + 1 * 0
      have h : (z 0).val < 1 := (z 0).isLt
      omega
    · show p.val + 2 * (z 1).val = 0 + 1 * (2 * (z 1).val + p.val); omega
    · rfl
  simp only [e, View.canon_cons_emb]
  pointwise [k0_pay5, k0_pay4, turned]
  subst ha hb
  refine congrArg _ (congrArg x1 ?_)
  funext d; apply Fin.ext
  fin_cases d
  · rfl
  · show b + (x 1).val = b + 1 * (x 1).val; omega
  · show 2 * a + (2 * (x 0).val + p.val) = 2 * (a + 1 * (x 0).val) + p.val; omega

/-- The same step, for whatever spelling of the stored piece is at hand. -/
theorem step_fun (v : View sig .tc .vmem S8x256x128 .f32) (arg4 : Memref sig .tc .vmem S1x1024x2048 .f32) (h4 : arg4.IsWhole)
    (x1 : Vec F S1x1024x2048 .f32) (L : List (View.Piece (Elt F) S8x256x128 .f32)) (p : Fin 2) (j o1 o2 : ℕ)
    (hp : ∀ a, (![j, 0, 0] : Fin 3 → ℕ) a + S1x256x128.size a ≤ S8x256x128.size a)
    (hl : ∀ a, (![0, o1, o2] : Fin 3 → ℕ) a + S1x128x256.size a ≤ S1x1024x2048.size a)
    (hs) (a b : ℕ) (hw : ∀ d, (![a, b] : Fin 2 → ℕ) d + S128x128.size d ≤ S1024x1024.size d)
    (ha : 2 * a = o2) (hb : b = o1) (P : FVec F S128x128 .bf16)
    (hP : P = k0_pay5 (v.readCov ((⟨Rect.unit ![j, 0, 0] S1x256x128.size hp,
        k0_pay4 (View.readAt (Elt F) arg4.view (Rect.unit (s := S1x1024x2048) ![0, o1, o2] S1x128x256.size hl).toLoadRect (h4.unread x1))⟩ : View.Piece (Elt F) S8x256x128 .f32) :: L)
        (⟨![j, p.val, 0], S1x128x128.size, ![1, 2, 1], hs⟩ : LoadRect S8x256x128))) (x : S128x128.Idx) :
    P x = turned p x1 ((Rect.unit (s := S1024x1024) ![a, b] S128x128.size hw).emb x) := by
  rw [hP]; exact step_eq v arg4 h4 x1 L p j o1 o2 hp hl hs a b hw ha hb x

end Cert.ExpertsIdeal.Run

end
-- ==== Proof.Experts.Body.lean ====
module

public import proofs.«01_k».proof.Proof.Experts.Weights
public import Idealize.ShloMosaic.Lib.VecWindow
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (UR sig nD τ) ℕ

/-- The two prefetched tables: the expert of each tile, and the number of tiles in use. -/
abbrev tb1 : Memref sig .tc .smem S288 .i32 := Memref.whole main_arg1
abbrev tb2 : Memref sig .tc .smem S1 .i32 := Memref.whole main_arg2
abbrev htb1 : tb1.IsWhole := Memref.isWhole_whole _
abbrev htb2 : tb2.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the expert table at a grid point, the word before it, and the number of tiles in use, as the body loads them. -/
abbrev wordHere (c : Dev nD) (i : grid0.Coords) (f : TbBuf (F := F) c tb1) : Elt F .i32 :=
  View.readAt (Elt F) tb1.view (Rect.unit (s := S288) (k0_off1 i) S1.size (k0_off1_inb i)).toLoadRect f (Shape.Idx.first (numel1_S1.symm ▸ Nat.one_pos))
abbrev wordBefore (c : Dev nD) (i : grid0.Coords) (f : TbBuf (F := F) c tb1) : Elt F .i32 :=
  View.readAt (Elt F) tb1.view (Rect.unit (s := S288) (k0_off2 i) S1.size (k0_off2_inb i)).toLoadRect f (Shape.Idx.first (numel1_S1.symm ▸ Nat.one_pos))
abbrev wordUsed (c : Dev nD) (f : TbBuf (F := F) c tb2) : Elt F .i32 :=
  View.readAt (Elt F) tb2.view (Rect.unit (s := S1) ![0] S1.size inb_S1_S1_0).toLoadRect f (Shape.Idx.first (numel1_S1.symm ▸ Nat.one_pos))

/-- The condition under which the body fetches the weights anew: the first tile, or a tile of another expert than the tile before it. -/
abbrev reloads (c : Dev nD) (i : grid0.Coords) (f : TbBuf (F := F) c tb1) : BitVec 1 :=
  Scalar.cmpi .ne (Scalar.extui (Scalar.ori (Scalar.cmpi .eq (BitVec.ofNat 32 (i 0).val) 0#32) (Scalar.cmpi .ne (wordHere c i f) (wordBefore c i f)))) 0#32

/-- What a tile's output block holds: the expert's two products where the tile is in use, zeros elsewhere. -/
def tileOut (i : grid0.Coords) (w : BitVec 32) (x0 : Vec F S512x1024 .bf16) (wg : Vec F S1024x1024 .bf16) (bg : Vec F S1x1x1024 .f32)
    (wl : Vec F S1024x1024 .bf16) (bl : Vec F S1x1x1024 .f32) (wd : Vec F S1024x1024 .bf16) (bd : Vec F S1x1x1024 .f32) : Vec F S512x1024 .bf16 :=
  if k0_cond2 i w = 1#1 then k0_pay217 x0 wg bg wl bl wd bd else k0_pay3

theorem pay_congr {a a' : Vec F S512x1024 .bf16} {b b' : Vec F S1024x1024 .bf16} {d d' : Vec F S1x1x1024 .f32} {e e' : Vec F S1024x1024 .bf16}
    {f f' : Vec F S1x1x1024 .f32} {g g' : Vec F S1024x1024 .bf16} {h h' : Vec F S1x1x1024 .f32}
    (ha : a = a') (hb : b = b') (hd : d = d') (he : e = e') (hf : f = f') (hg : g = g') (hh : h = h') :
    k0_pay217 a b d e f g h = k0_pay217 a' b' d' e' f' g' h' := by
  subst ha hb hd he hf hg hh; rfl

/-- A load of a whole buffer after stores that were listed reads what they left. -/
theorem readCov_whole {S : Shape} {e : EltTy} (v : View sig .tc .vmem S e) (L : List (View.Piece (Elt F) S e)) {off : Fin S.rank → ℕ}
    (inb : ∀ a, off a + S.size a ≤ S.size a) : v.readCov L (Rect.unit off S.size inb).toLoadRect = View.canon L := by
  rw [View.readCov_eq_canon']
  funext y
  refine congrArg (View.canon L) (funext fun a => Fin.ext ?_)
  have h := inb a
  show off a + 1 * (y a).val = (y a).val
  omega

/-- A tile is either in use or not. -/
theorem cond3_of (i : grid0.Coords) (w : BitVec 32) : (k0_cond3 i w = 1#1) ↔ ¬ (k0_cond2 i w = 1#1) := by
  unfold k0_cond2 k0_cond3
  simp only [Scalar.cmpi, Scalar.extui, WordCmp.cmpi_ne_eq, WordCmp.cmpi_slt_eq, WordCmp.cmpi_sge_eq]
  by_cases h : (BitVec.ofNat 32 (i 0).val).toInt < w.toInt
  · have h' : ¬ w.toInt ≤ (BitVec.ofNat 32 (i 0).val).toInt := not_le.mpr h
    simp [h, h']
  · have h' : w.toInt ≤ (BitVec.ofNat 32 (i 0).val).toInt := not_lt.mp h
    simp [h, h']

/-- The output block after the two guarded stores: the tile's product where the tile is in use, else zeros. -/
theorem out_read (v : View sig .tc .vmem S512x1024 .bf16) (f : v.ty.Contents (Elt F)) (i : grid0.Coords) (w : BitVec 32)
    (h1 h2 h3) (P Z : S512x1024.Idx → Elt F .bf16) :
    v.read (Elt F) (if _ : k0_cond3 i w = 1#1 then
        v.writes (Elt F) (if _ : k0_cond2 i w = 1#1 then
          v.writes (Elt F) f [(⟨Rect.unit (s := S512x1024) ![0, 0] S512x1024.size h1, P⟩ : View.Piece (Elt F) S512x1024 .bf16)] else f)
          [(⟨Rect.unit (s := S512x1024) ![0, 0] S512x1024.size h2, Z⟩ : View.Piece (Elt F) S512x1024 .bf16)]
      else if _ : k0_cond2 i w = 1#1 then
        v.writes (Elt F) f [(⟨Rect.unit (s := S512x1024) ![0, 0] S512x1024.size h3, P⟩ : View.Piece (Elt F) S512x1024 .bf16)] else f)
      = if k0_cond2 i w = 1#1 then P else Z := by
  by_cases h : k0_cond2 i w = 1#1
  · have h' : ¬ k0_cond3 i w = 1#1 := fun h3 => (cond3_of i w).mp h3 h
    rw [dif_neg h', dif_pos h, if_pos h, View.read_writes_full]
  · rw [dif_pos ((cond3_of i w).mpr h), if_neg h, View.read_writes_full]

set_option maxHeartbeats 4000000 in
/-- A tile of the same expert as the one before: the weights stay where they are. -/
theorem body_keep (c : Dev nD) (i : grid0.Coords)
    (arg3 : Memref sig .tc .vmem S512x1024 .bf16) (harg3 : arg3.IsWhole)
    (arg4 : Memref sig .tc .vmem S1x1024x2048 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1024x1024 .f32) (harg7 : arg7.IsWhole)
    (arg8 : Memref sig .tc .vmem S1x1x1024 .f32) (harg8 : arg8.IsWhole)
    (arg9 : Memref sig .tc .vmem S512x1024 .bf16) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S8x256x128 .f32) (harg13 : arg13.IsWhole)
    (xt1 : TbBuf (F := F) c tb1) (xt2 : TbBuf (F := F) c tb2) (x0 : Vec F S512x1024 .bf16) (x1 : Vec F S1x1024x2048 .f32) (x2 : Vec F S1x1x1024 .f32) (x3 : Vec F S1x1x1024 .f32) (x4 : Vec F S1x1024x1024 .f32) (x5 : Vec F S1x1x1024 .f32)
    (g0 g1 g2 : Vec F S1024x1024 .bf16) (hr : ¬ (reloads c i xt1 = 1#1)) (E : Set ℕ) (K : PUnit → sProp 𝕄) :
    iprop(tbPt c tb1 xt1 ∗ tbPt c tb2 xt2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare g0 ∗ owns (c : Thread nD τ) arg11 fullShare g1 ∗ owns (c : Thread nD τ) arg12 fullShare g2 ∗ (∃ d, owns (c : Thread nD τ) arg13 fullShare d)
        ∗ (iprop(tbPt c tb1 xt1 ∗ tbPt c tb2 xt2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (tileOut i (wordUsed c xt2) x0 g0 x2 g1 x3 g2 x5) ∗ owns (c : Thread nD τ) arg10 fullShare g0 ∗ owns (c : Thread nD τ) arg11 fullShare g1 ∗ owns (c : Thread nD τ) arg12 fullShare g2 ∗ (∃ d, owns (c : Thread nD τ) arg13 fullShare d)) -∗ K ⟨⟩))
      ⊢ wp frame (wpE (defs₀ (F := F)) Variants.none c none) E (cc0_experts i tb1 htb1 tb2 htb2 arg3 harg3 arg4 harg4 arg5 harg5 arg6 harg6 arg7 harg7 arg8 harg8 arg9 harg9 arg10 harg10 arg11 harg11 arg12 harg12 arg13 harg13) K := by
  simp only [cc0_experts_eq_skeleton]; unfold cc0_experts_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨HT1, HT2, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%f9, %hf9, H9⟩, ⟨%d10, %f10, %hf10, H10⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec
  sl_step
  iapply Hk
  isplitl [HT1]; · iexact HT1
  isplitl [HT2]; · iexact HT2
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [H6]
  · iexists _; isplitr
    swap
    · iexact H6
    ipureintro
    refine (out_read _ _ _ _ _ _ _ _ _).trans ?_
    exact congrArg (fun z => if k0_cond2 i (wordUsed c xt2) = 1#1 then z else k0_pay3)
      (pay_congr ((View.readAt_full _ _ _).trans (harg3.read_unread _)) ((View.readAt_full _ _ _).trans (harg10.read_unread _))
        ((View.readAt_full _ _ _).trans (harg5.read_unread _)) ((View.readAt_full _ _ _).trans (harg11.read_unread _))
        ((View.readAt_full _ _ _).trans (harg6.read_unread _)) ((View.readAt_full _ _ _).trans (harg12.read_unread _))
        ((View.readAt_full _ _ _).trans (harg8.read_unread _)))
  isplitl [H7]
  · iexists _; isplitr
    swap
    · iexact H7
    ipureintro
    exact harg10.read_unread _
  isplitl [H8]
  · iexists _; isplitr
    swap
    · iexact H8
    ipureintro
    exact harg11.read_unread _
  isplitl [H9]
  · iexists _; isplitr
    swap
    · iexact H9
    ipureintro
    exact harg12.read_unread _
  iexists _, _; isplitr
  swap
  · iexact H10
  ipureintro; rfl

set_option maxHeartbeats 4000000 in
/-- A first tile of an expert: its weights are turned and rounded anew. -/
theorem body_reload (c : Dev nD) (i : grid0.Coords)
    (arg3 : Memref sig .tc .vmem S512x1024 .bf16) (harg3 : arg3.IsWhole)
    (arg4 : Memref sig .tc .vmem S1x1024x2048 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1024x1024 .f32) (harg7 : arg7.IsWhole)
    (arg8 : Memref sig .tc .vmem S1x1x1024 .f32) (harg8 : arg8.IsWhole)
    (arg9 : Memref sig .tc .vmem S512x1024 .bf16) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S8x256x128 .f32) (harg13 : arg13.IsWhole)
    (xt1 : TbBuf (F := F) c tb1) (xt2 : TbBuf (F := F) c tb2) (x0 : Vec F S512x1024 .bf16) (x1 : Vec F S1x1024x2048 .f32) (x2 : Vec F S1x1x1024 .f32) (x3 : Vec F S1x1x1024 .f32) (x4 : Vec F S1x1024x1024 .f32) (x5 : Vec F S1x1x1024 .f32)
    (g0 g1 g2 : Vec F S1024x1024 .bf16) (hr : reloads c i xt1 = 1#1) (E : Set ℕ) (K : PUnit → sProp 𝕄) :
    iprop(tbPt c tb1 xt1 ∗ tbPt c tb2 xt2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare g0 ∗ owns (c : Thread nD τ) arg11 fullShare g1 ∗ owns (c : Thread nD τ) arg12 fullShare g2 ∗ (∃ d, owns (c : Thread nD τ) arg13 fullShare d)
        ∗ (iprop(tbPt c tb1 xt1 ∗ tbPt c tb2 xt2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (tileOut i (wordUsed c xt2) x0 (turned 0 x1) x2 (turned 1 x1) x3 (k0_pay2 x4) x5) ∗ owns (c : Thread nD τ) arg10 fullShare (turned 0 x1) ∗ owns (c : Thread nD τ) arg11 fullShare (turned 1 x1) ∗ owns (c : Thread nD τ) arg12 fullShare (k0_pay2 x4) ∗ (∃ d, owns (c : Thread nD τ) arg13 fullShare d)) -∗ K ⟨⟩))
      ⊢ wp frame (wpE (defs₀ (F := F)) Variants.none c none) E (cc0_experts i tb1 htb1 tb2 htb2 arg3 harg3 arg4 harg4 arg5 harg5 arg6 harg6 arg7 harg7 arg8 harg8 arg9 harg9 arg10 harg10 arg11 harg11 arg12 harg12 arg13 harg13) K := by
  simp only [cc0_experts_eq_skeleton]; unfold cc0_experts_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨HT1, HT2, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%f9, %hf9, H9⟩, ⟨%d10, %f10, %hf10, H10⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec
  have q7 : ∀ p ∈ body_reload.sl.H7_64 c arg4 harg4 arg13 x1, ∀ x : p.1.shape.Idx, p.2 x = turned 0 x1 (p.1.emb x) := by
    refine List.forall_mem_cons.2 ⟨step_fun arg13.view arg4 harg4 x1 (body_reload.sl.H10_63 c arg4 harg4 x1) 0 7 896 1792 (by decide) (by decide) (by decide) 896 896 (by decide) rfl rfl _ rfl, ?_⟩
    refine List.forall_mem_cons.2 ⟨step_fun arg13.view arg4 harg4 x1 (body_reload.sl.H10_62 c arg4 harg4 x1) 0 6 768 1792 (by decide) (by decide) (by decide) 896 768 (by decide) rfl rfl _ rfl, ?_⟩
    refine List.forall_mem_cons.2 ⟨step_fun arg13.view arg4 harg4 x1 (body_reload.sl.H10_61 c arg4 harg4 x1) 0 5 640 1792 (by decide) (by decide) (by decide) 896 640 (by decide) rfl rfl _ rfl, ?_⟩
    refine List.forall_mem_cons.2 ⟨step_fun arg13.view arg4 harg4 x1 (body_reload.sl.H10_60 c arg4 harg4 x1) 0 4 512 1792 (by decide) (by decide) (by decide) 896 512 (by decide) rfl rfl _ rfl, ?_⟩
    refine List.forall_mem_cons.2 ⟨step_fun arg13.view arg4 harg4 x1 (body_reload.sl.H10_59 c arg4 harg4 x1) 0 3 384 1792 (by decide) (by decide) (by decide) 896 384 (by decide) rfl rfl _ rfl, ?_⟩
    refine List.forall_mem_cons.2 ⟨step_fun arg13.view arg4 harg4 x1 (body_reload.sl.H10_58 c arg4 harg4 x1) 0 2 256 1792 (by decide) (by decide) (by decide) 896 256 (by decide) rfl rfl _ rfl, ?_⟩
    refine List.forall_mem_cons.2 ⟨step_fun arg13.view arg4 harg4 x1 (body_reload.sl.H10_57 c arg4 harg4 x1) 0 1 128 1792 (by decide) (by decide) (by decide) 896 128 (by decide) rfl rfl _ rfl, ?_⟩
    refine List.forall_mem_cons.2 ⟨step_fun arg13.view arg4 harg4 x1 (body_reload.sl.H10_56 c arg4 harg4 x1) 0 0 0 1792 (by decide) (by decide) (by decide) 896 0 (by decide) rfl rfl _ rfl, ?_⟩
    refine List.forall_mem_cons.2 ⟨step_fun arg13.view arg4 harg4 x1 (body_reload.sl.H10_55 c arg4 harg4 x1) 0 7 896 1536 (by decide) (by decide) (by decide) 768 896 (by decide) rfl rfl _ rfl, ?_⟩
    refine List.forall_mem_cons.2 ⟨step_fun arg13.view arg4 harg4 x1 (body_reload.sl.H10_54 c arg4 harg4 x1) 0 6 768 1536 (by decide) (by decide) (by decide) 768 768 (by decide) rfl rfl _ rfl, ?_⟩
    refine List.forall_mem_cons.2 ⟨step_fun arg13.view arg4 harg4 x1 (body_reload.sl.H10_53 c arg4 harg4 x1) 0 5 640 1536 (by decide) (by decide) (by decide) 768 640 (by decide) rfl rfl _ rfl, ?_⟩
    refine List.forall_mem_cons.2 ⟨step_fun arg13.view arg4 harg4 x1 (body_reload.sl.H10_52 c arg4 harg4 x1) 0 4 512 1536 (by decide) (by decide) (by decide) 768 512 (by decide) rfl rfl _ rfl, ?_⟩
    refine List.forall_mem_cons.2 ⟨step_fun arg13.view arg4 harg4 x1 (body_reload.sl.H10_51 c arg4 harg4 x1) 0 3 384 1536 (by decide) (by decide) (by decide) 768 384 (by decide) rfl rfl _ rfl, ?_⟩
    refine List.forall_mem_cons.2 ⟨step_fun arg13.view arg4 harg4 x1 (body_reload.sl.H10_50 c arg4 harg4 x1) 0 2 256 1536 (by decide) (by decide) (by decide) 768 256 (by decide) rfl rfl _ rfl, ?_⟩
    refine List.forall_mem_cons.2 ⟨step_fun arg13.view arg4 harg4 x1 (body_reload.sl.H10_49 c arg4 harg4 x1) 0 1 128 1536 (by decide) (by decide) (by decide) 768 128 (by decide) rfl rfl _ rfl, ?_⟩
    refine List.forall_mem_cons.2 ⟨step_fun arg13.view arg4 harg4 x1 (body_reload.sl.H10_48 c arg4 harg4 x1) 0 0 0 1536 (by decide) (by decide) (by decide) 768 0 (by decide) rfl rfl _ rfl, ?_⟩
    refine List.forall_mem_cons.2 ⟨step_fun arg13.view arg4 harg4 x1 (body_reload.sl.H10_47 c arg4 harg4 x1) 0 7 896 1280 (by decide) (by decide) (by decide) 640 896 (by decide) rfl rfl _ rfl, ?_⟩
    refine List.forall_mem_cons.2 ⟨step_fun arg13.view arg4 harg4 x1 (body_reload.sl.H10_46 c arg4 harg4 x1) 0 6 768 1280 (by decide) (by decide) (by decide) 640 768 (by decide) rfl rfl _ rfl, ?_⟩
    refine List.forall_mem_cons.2 ⟨step_fun arg13.view arg4 harg4 x1 (body_reload.sl.H10_45 c arg4 harg4 x1) 0 5 640 1280 (by decide) (by decide) (by decide) 640 640 (by decide) rfl rfl _ rfl, ?_⟩
    refine List.forall_mem_cons.2 ⟨step_fun arg13.view arg4 harg4 x1 (body_reload.sl.H10_44 c arg4 harg4 x1) 0 4 512 1280 (by decide) (by decide) (by decide) 640 512 (by decide) rfl rfl _ rfl, ?_⟩
    refine List.forall_mem_cons.2 ⟨step_fun arg13.view arg4 harg4 x1 (body_reload.sl.H10_43 c arg4 harg4 x1) 0 3 384 1280 (by decide) (by decide) (by decide) 640 384 (by decide) rfl rfl _ rfl, ?_⟩
    refine List.forall_mem_cons.2 ⟨step_fun arg13.view arg4 harg4 x1 (body_reload.sl.H10_42 c arg4 harg4 x1) 0 2 256 1280 (by decide) (by decide) (by decide) 640 256 (by decide) rfl rfl _ rfl, ?_⟩
    refine List.forall_mem_cons.2 ⟨step_fun arg13.view arg4 harg4 x1 (body_reload.sl.H10_41 c arg4 harg4 x1) 0 1 128 1280 (by decide) (by decide) (by decide) 640 128 (by decide) rfl rfl _ rfl, ?_⟩
    refine List.forall_mem_cons.2 ⟨step_fun arg13.view arg4 harg4 x1 (body_reload.sl.H10_40 c arg4 harg4 x1) 0 0 0 1280 (by decide) (by decide) (by decide) 640 0 (by decide) rfl rfl _ rfl, ?_⟩
    refine List.forall_mem_cons.2 ⟨step_fun arg13.view arg4 harg4 x1 (body_reload.sl.H10_39 c arg4 harg4 x1) 0 7 896 1024 (by decide) (by decide) (by decide) 512 896 (by decide) rfl rfl _ rfl, ?_⟩
    refine List.forall_mem_cons.2 ⟨step_fun arg13.view arg4 harg4 x1 (body_reload.sl.H10_38 c arg4 harg4 x1) 0 6 768 1024 (by decide) (by decide) (by decide) 512 768 (by decide) rfl rfl _ rfl, ?_⟩
    refine List.forall_mem_cons.2 ⟨step_fun arg13.view arg4 harg4 x1 (body_reload.sl.H10_37 c arg4 harg4 x1) 0 5 640 1024 (by decide) (by decide) (by decide) 512 640 (by decide) rfl rfl _ rfl, ?_⟩
    refine List.forall_mem_cons.2 ⟨step_fun arg13.view arg4 harg4 x1 (body_reload.sl.H10_36 c arg4 harg4 x1) 0 4 512 1024 (by decide) (by decide) (by decide) 512 512 (by decide) rfl rfl _ rfl, ?_⟩
    refine List.forall_mem_cons.2 ⟨step_fun arg13.view arg4 harg4 x1 (body_reload.sl.H10_35 c arg4 harg4 x1) 0 3 384 1024 (by decide) (by decide) (by decide) 512 384 (by decide) rfl rfl _ rfl, ?_⟩
    refine List.forall_mem_cons.2 ⟨step_fun arg13.view arg4 harg4 x1 (body_reload.sl.H10_34 c arg4 harg4 x1) 0 2 256 1024 (by decide) (by decide) (by decide) 512 256 (by decide) rfl rfl _ rfl, ?_⟩
    refine List.forall_mem_cons.2 ⟨step_fun arg13.view arg4 harg4 x1 (body_reload.sl.H10_33 c arg4 harg4 x1) 0 1 128 1024 (by decide) (by decide) (by decide) 512 128 (by decide) rfl rfl _ rfl, ?_⟩
    refine List.forall_mem_cons.2 ⟨step_fun arg13.view arg4 harg4 x1 (body_reload.sl.H10_32 c arg4 harg4 x1) 0 0 0 1024 (by decide) (by decide) (by decide) 512 0 (by decide) rfl rfl _ rfl, ?_⟩
    refine List.forall_mem_cons.2 ⟨step_fun arg13.view arg4 harg4 x1 (body_reload.sl.H10_31 c arg4 harg4 x1) 0 7 896 768 (by decide) (by decide) (by decide) 384 896 (by decide) rfl rfl _ rfl, ?_⟩
    refine List.forall_mem_cons.2 ⟨step_fun arg13.view arg4 harg4 x1 (body_reload.sl.H10_30 c arg4 harg4 x1) 0 6 768 768 (by decide) (by decide) (by decide) 384 768 (by decide) rfl rfl _ rfl, ?_⟩
    refine List.forall_mem_cons.2 ⟨step_fun arg13.view arg4 harg4 x1 (body_reload.sl.H10_29 c arg4 harg4 x1) 0 5 640 768 (by decide) (by decide) (by decide) 384 640 (by decide) rfl rfl _ rfl, ?_⟩
    refine List.forall_mem_cons.2 ⟨step_fun arg13.view arg4 harg4 x1 (body_reload.sl.H10_28 c arg4 harg4 x1) 0 4 512 768 (by decide) (by decide) (by decide) 384 512 (by decide) rfl rfl _ rfl, ?_⟩
    refine List.forall_mem_cons.2 ⟨step_fun arg13.view arg4 harg4 x1 (body_reload.sl.H10_27 c arg4 harg4 x1) 0 3 384 768 (by decide) (by decide) (by decide) 384 384 (by decide) rfl rfl _ rfl, ?_⟩
    refine List.forall_mem_cons.2 ⟨step_fun arg13.view arg4 harg4 x1 (body_reload.sl.H10_26 c arg4 harg4 x1) 0 2 256 768 (by decide) (by decide) (by decide) 384 256 (by decide) rfl rfl _ rfl, ?_⟩
    refine List.forall_mem_cons.2 ⟨step_fun arg13.view arg4 harg4 x1 (body_reload.sl.H10_25 c arg4 harg4 x1) 0 1 128 768 (by decide) (by decide) (by decide) 384 128 (by decide) rfl rfl _ rfl, ?_⟩
    refine List.forall_mem_cons.2 ⟨step_fun arg13.view arg4 harg4 x1 (body_reload.sl.H10_24 c arg4 harg4 x1) 0 0 0 768 (by decide) (by decide) (by decide) 384 0 (by decide) rfl rfl _ rfl, ?_⟩
    refine List.forall_mem_cons.2 ⟨step_fun arg13.view arg4 harg4 x1 (body_reload.sl.H10_23 c arg4 harg4 x1) 0 7 896 512 (by decide) (by decide) (by decide) 256 896 (by decide) rfl rfl _ rfl, ?_⟩
    refine List.forall_mem_cons.2 ⟨step_fun arg13.view arg4 harg4 x1 (body_reload.sl.H10_22 c arg4 harg4 x1) 0 6 768 512 (by decide) (by decide) (by decide) 256 768 (by decide) rfl rfl _ rfl, ?_⟩
    refine List.forall_mem_cons.2 ⟨step_fun arg13.view arg4 harg4 x1 (body_reload.sl.H10_21 c arg4 harg4 x1) 0 5 640 512 (by decide) (by decide) (by decide) 256 640 (by decide) rfl rfl _ rfl, ?_⟩
    refine List.forall_mem_cons.2 ⟨step_fun arg13.view arg4 harg4 x1 (body_reload.sl.H10_20 c arg4 harg4 x1) 0 4 512 512 (by decide) (by decide) (by decide) 256 512 (by decide) rfl rfl _ rfl, ?_⟩
    refine List.forall_mem_cons.2 ⟨step_fun arg13.view arg4 harg4 x1 (body_reload.sl.H10_19 c arg4 harg4 x1) 0 3 384 512 (by decide) (by decide) (by decide) 256 384 (by decide) rfl rfl _ rfl, ?_⟩
    refine List.forall_mem_cons.2 ⟨step_fun arg13.view arg4 harg4 x1 (body_reload.sl.H10_18 c arg4 harg4 x1) 0 2 256 512 (by decide) (by decide) (by decide) 256 256 (by decide) rfl rfl _ rfl, ?_⟩
    refine List.forall_mem_cons.2 ⟨step_fun arg13.view arg4 harg4 x1 (body_reload.sl.H10_17 c arg4 harg4 x1) 0 1 128 512 (by decide) (by decide) (by decide) 256 128 (by decide) rfl rfl _ rfl, ?_⟩
    refine List.forall_mem_cons.2 ⟨step_fun arg13.view arg4 harg4 x1 (body_reload.sl.H10_16 c arg4 harg4 x1) 0 0 0 512 (by decide) (by decide) (by decide) 256 0 (by decide) rfl rfl _ rfl, ?_⟩
    refine List.forall_mem_cons.2 ⟨step_fun arg13.view arg4 harg4 x1 (body_reload.sl.H10_15 c arg4 harg4 x1) 0 7 896 256 (by decide) (by decide) (by decide) 128 896 (by decide) rfl rfl _ rfl, ?_⟩
    refine List.forall_mem_cons.2 ⟨step_fun arg13.view arg4 harg4 x1 (body_reload.sl.H10_14 c arg4 harg4 x1) 0 6 768 256 (by decide) (by decide) (by decide) 128 768 (by decide) rfl rfl _ rfl, ?_⟩
    refine List.forall_mem_cons.2 ⟨step_fun arg13.view arg4 harg4 x1 (body_reload.sl.H10_13 c arg4 harg4 x1) 0 5 640 256 (by decide) (by decide) (by decide) 128 640 (by decide) rfl rfl _ rfl, ?_⟩
    refine List.forall_mem_cons.2 ⟨step_fun arg13.view arg4 harg4 x1 (body_reload.sl.H10_12 c arg4 harg4 x1) 0 4 512 256 (by decide) (by decide) (by decide) 128 512 (by decide) rfl rfl _ rfl, ?_⟩
    refine List.forall_mem_cons.2 ⟨step_fun arg13.view arg4 harg4 x1 (body_reload.sl.H10_11 c arg4 harg4 x1) 0 3 384 256 (by decide) (by decide) (by decide) 128 384 (by decide) rfl rfl _ rfl, ?_⟩
    refine List.forall_mem_cons.2 ⟨step_fun arg13.view arg4 harg4 x1 (body_reload.sl.H10_10 c arg4 harg4 x1) 0 2 256 256 (by decide) (by decide) (by decide) 128 256 (by decide) rfl rfl _ rfl, ?_⟩
    refine List.forall_mem_cons.2 ⟨step_fun arg13.view arg4 harg4 x1 (body_reload.sl.H10_9 c arg4 harg4 x1) 0 1 128 256 (by decide) (by decide) (by decide) 128 128 (by decide) rfl rfl _ rfl, ?_⟩
    refine List.forall_mem_cons.2 ⟨step_fun arg13.view arg4 harg4 x1 (body_reload.sl.H10_8 c arg4 harg4 x1) 0 0 0 256 (by decide) (by decide) (by decide) 128 0 (by decide) rfl rfl _ rfl, ?_⟩
    refine List.forall_mem_cons.2 ⟨step_fun arg13.view arg4 harg4 x1 (body_reload.sl.H10_7 c arg4 harg4 x1) 0 7 896 0 (by decide) (by decide) (by decide) 0 896 (by decide) rfl rfl _ rfl, ?_⟩
    refine List.forall_mem_cons.2 ⟨step_fun arg13.view arg4 harg4 x1 (body_reload.sl.H10_6 c arg4 harg4 x1) 0 6 768 0 (by decide) (by decide) (by decide) 0 768 (by decide) rfl rfl _ rfl, ?_⟩
    refine List.forall_mem_cons.2 ⟨step_fun arg13.view arg4 harg4 x1 (body_reload.sl.H10_5 c arg4 harg4 x1) 0 5 640 0 (by decide) (by decide) (by decide) 0 640 (by decide) rfl rfl _ rfl, ?_⟩
    refine List.forall_mem_cons.2 ⟨step_fun arg13.view arg4 harg4 x1 (body_reload.sl.H10_4 c arg4 harg4 x1) 0 4 512 0 (by decide) (by decide) (by decide) 0 512 (by decide) rfl rfl _ rfl, ?_⟩
    refine List.forall_mem_cons.2 ⟨step_fun arg13.view arg4 harg4 x1 (body_reload.sl.H10_3 c arg4 harg4 x1) 0 3 384 0 (by decide) (by decide) (by decide) 0 384 (by decide) rfl rfl _ rfl, ?_⟩
    refine List.forall_mem_cons.2 ⟨step_fun arg13.view arg4 harg4 x1 (body_reload.sl.H10_2 c arg4 harg4 x1) 0 2 256 0 (by decide) (by decide) (by decide) 0 256 (by decide) rfl rfl _ rfl, ?_⟩
    refine List.forall_mem_cons.2 ⟨step_fun arg13.view arg4 harg4 x1 (body_reload.sl.H10_1 c arg4 harg4 x1) 0 1 128 0 (by decide) (by decide) (by decide) 0 128 (by decide) rfl rfl _ rfl, ?_⟩
    refine List.forall_mem_cons.2 ⟨step_fun arg13.view arg4 harg4 x1 [] 0 0 0 0 (by decide) (by decide) (by decide) 0 0 (by decide) rfl rfl _ rfl, ?_⟩
    exact fun _ h => absurd h List.not_mem_nil
  have u7 : ∀ y, ∃ p ∈ body_reload.sl.H7_64 c arg4 harg4 arg13 x1, y ∈ p.1.set := View.cover_of_tiledL _ S128x128.size (by sl_kernel_rfl)
  have e7 : View.read (Elt F) arg10.view (arg10.view.writes (Elt F) (harg10.unread g0) (body_reload.sl.H7_64 c arg4 harg4 arg13 x1)) = turned 0 x1 :=
    funext fun y => View.read_writes_apply_of_pieces _ _ _ _ q7 y (u7 y)
  have l7 : View.canon (body_reload.sl.H7_64 c arg4 harg4 arg13 x1) = turned 0 x1 := funext fun y => View.canon_apply_of_pieces _ _ q7 y (u7 y)
  have q8 : ∀ p ∈ body_reload.sl.H8_64 c arg4 harg4 arg13 x1, ∀ x : p.1.shape.Idx, p.2 x = turned 1 x1 (p.1.emb x) := by
    refine List.forall_mem_cons.2 ⟨step_fun arg13.view arg4 harg4 x1 (body_reload.sl.H10_63 c arg4 harg4 x1) 1 7 896 1792 (by decide) (by decide) (by decide) 896 896 (by decide) rfl rfl _ rfl, ?_⟩
    refine List.forall_mem_cons.2 ⟨step_fun arg13.view arg4 harg4 x1 (body_reload.sl.H10_62 c arg4 harg4 x1) 1 6 768 1792 (by decide) (by decide) (by decide) 896 768 (by decide) rfl rfl _ rfl, ?_⟩
    refine List.forall_mem_cons.2 ⟨step_fun arg13.view arg4 harg4 x1 (body_reload.sl.H10_61 c arg4 harg4 x1) 1 5 640 1792 (by decide) (by decide) (by decide) 896 640 (by decide) rfl rfl _ rfl, ?_⟩
    refine List.forall_mem_cons.2 ⟨step_fun arg13.view arg4 harg4 x1 (body_reload.sl.H10_60 c arg4 harg4 x1) 1 4 512 1792 (by decide) (by decide) (by decide) 896 512 (by decide) rfl rfl _ rfl, ?_⟩
    refine List.forall_mem_cons.2 ⟨step_fun arg13.view arg4 harg4 x1 (body_reload.sl.H10_59 c arg4 harg4 x1) 1 3 384 1792 (by decide) (by decide) (by decide) 896 384 (by decide) rfl rfl _ rfl, ?_⟩
    refine List.forall_mem_cons.2 ⟨step_fun arg13.view arg4 harg4 x1 (body_reload.sl.H10_58 c arg4 harg4 x1) 1 2 256 1792 (by decide) (by decide) (by decide) 896 256 (by decide) rfl rfl _ rfl, ?_⟩
    refine List.forall_mem_cons.2 ⟨step_fun arg13.view arg4 harg4 x1 (body_reload.sl.H10_57 c arg4 harg4 x1) 1 1 128 1792 (by decide) (by decide) (by decide) 896 128 (by decide) rfl rfl _ rfl, ?_⟩
    refine List.forall_mem_cons.2 ⟨step_fun arg13.view arg4 harg4 x1 (body_reload.sl.H10_56 c arg4 harg4 x1) 1 0 0 1792 (by decide) (by decide) (by decide) 896 0 (by decide) rfl rfl _ rfl, ?_⟩
    refine List.forall_mem_cons.2 ⟨step_fun arg13.view arg4 harg4 x1 (body_reload.sl.H10_55 c arg4 harg4 x1) 1 7 896 1536 (by decide) (by decide) (by decide) 768 896 (by decide) rfl rfl _ rfl, ?_⟩
    refine List.forall_mem_cons.2 ⟨step_fun arg13.view arg4 harg4 x1 (body_reload.sl.H10_54 c arg4 harg4 x1) 1 6 768 1536 (by decide) (by decide) (by decide) 768 768 (by decide) rfl rfl _ rfl, ?_⟩
    refine List.forall_mem_cons.2 ⟨step_fun arg13.view arg4 harg4 x1 (body_reload.sl.H10_53 c arg4 harg4 x1) 1 5 640 1536 (by decide) (by decide) (by decide) 768 640 (by decide) rfl rfl _ rfl, ?_⟩
    refine List.forall_mem_cons.2 ⟨step_fun arg13.view arg4 harg4 x1 (body_reload.sl.H10_52 c arg4 harg4 x1) 1 4 512 1536 (by decide) (by decide) (by decide) 768 512 (by decide) rfl rfl _ rfl, ?_⟩
    refine List.forall_mem_cons.2 ⟨step_fun arg13.view arg4 harg4 x1 (body_reload.sl.H10_51 c arg4 harg4 x1) 1 3 384 1536 (by decide) (by decide) (by decide) 768 384 (by decide) rfl rfl _ rfl, ?_⟩
    refine List.forall_mem_cons.2 ⟨step_fun arg13.view arg4 harg4 x1 (body_reload.sl.H10_50 c arg4 harg4 x1) 1 2 256 1536 (by decide) (by decide) (by decide) 768 256 (by decide) rfl rfl _ rfl, ?_⟩
    refine List.forall_mem_cons.2 ⟨step_fun arg13.view arg4 harg4 x1 (body_reload.sl.H10_49 c arg4 harg4 x1) 1 1 128 1536 (by decide) (by decide) (by decide) 768 128 (by decide) rfl rfl _ rfl, ?_⟩
    refine List.forall_mem_cons.2 ⟨step_fun arg13.view arg4 harg4 x1 (body_reload.sl.H10_48 c arg4 harg4 x1) 1 0 0 1536 (by decide) (by decide) (by decide) 768 0 (by decide) rfl rfl _ rfl, ?_⟩
    refine List.forall_mem_cons.2 ⟨step_fun arg13.view arg4 harg4 x1 (body_reload.sl.H10_47 c arg4 harg4 x1) 1 7 896 1280 (by decide) (by decide) (by decide) 640 896 (by decide) rfl rfl _ rfl, ?_⟩
    refine List.forall_mem_cons.2 ⟨step_fun arg13.view arg4 harg4 x1 (body_reload.sl.H10_46 c arg4 harg4 x1) 1 6 768 1280 (by decide) (by decide) (by decide) 640 768 (by decide) rfl rfl _ rfl, ?_⟩
    refine List.forall_mem_cons.2 ⟨step_fun arg13.view arg4 harg4 x1 (body_reload.sl.H10_45 c arg4 harg4 x1) 1 5 640 1280 (by decide) (by decide) (by decide) 640 640 (by decide) rfl rfl _ rfl, ?_⟩
    refine List.forall_mem_cons.2 ⟨step_fun arg13.view arg4 harg4 x1 (body_reload.sl.H10_44 c arg4 harg4 x1) 1 4 512 1280 (by decide) (by decide) (by decide) 640 512 (by decide) rfl rfl _ rfl, ?_⟩
    refine List.forall_mem_cons.2 ⟨step_fun arg13.view arg4 harg4 x1 (body_reload.sl.H10_43 c arg4 harg4 x1) 1 3 384 1280 (by decide) (by decide) (by decide) 640 384 (by decide) rfl rfl _ rfl, ?_⟩
    refine List.forall_mem_cons.2 ⟨step_fun arg13.view arg4 harg4 x1 (body_reload.sl.H10_42 c arg4 harg4 x1) 1 2 256 1280 (by decide) (by decide) (by decide) 640 256 (by decide) rfl rfl _ rfl, ?_⟩
    refine List.forall_mem_cons.2 ⟨step_fun arg13.view arg4 harg4 x1 (body_reload.sl.H10_41 c arg4 harg4 x1) 1 1 128 1280 (by decide) (by decide) (by decide) 640 128 (by decide) rfl rfl _ rfl, ?_⟩
    refine List.forall_mem_cons.2 ⟨step_fun arg13.view arg4 harg4 x1 (body_reload.sl.H10_40 c arg4 harg4 x1) 1 0 0 1280 (by decide) (by decide) (by decide) 640 0 (by decide) rfl rfl _ rfl, ?_⟩
    refine List.forall_mem_cons.2 ⟨step_fun arg13.view arg4 harg4 x1 (body_reload.sl.H10_39 c arg4 harg4 x1) 1 7 896 1024 (by decide) (by decide) (by decide) 512 896 (by decide) rfl rfl _ rfl, ?_⟩
    refine List.forall_mem_cons.2 ⟨step_fun arg13.view arg4 harg4 x1 (body_reload.sl.H10_38 c arg4 harg4 x1) 1 6 768 1024 (by decide) (by decide) (by decide) 512 768 (by decide) rfl rfl _ rfl, ?_⟩
    refine List.forall_mem_cons.2 ⟨step_fun arg13.view arg4 harg4 x1 (body_reload.sl.H10_37 c arg4 harg4 x1) 1 5 640 1024 (by decide) (by decide) (by decide) 512 640 (by decide) rfl rfl _ rfl, ?_⟩
    refine List.forall_mem_cons.2 ⟨step_fun arg13.view arg4 harg4 x1 (body_reload.sl.H10_36 c arg4 harg4 x1) 1 4 512 1024 (by decide) (by decide) (by decide) 512 512 (by decide) rfl rfl _ rfl, ?_⟩
    refine List.forall_mem_cons.2 ⟨step_fun arg13.view arg4 harg4 x1 (body_reload.sl.H10_35 c arg4 harg4 x1) 1 3 384 1024 (by decide) (by decide) (by decide) 512 384 (by decide) rfl rfl _ rfl, ?_⟩
    refine List.forall_mem_cons.2 ⟨step_fun arg13.view arg4 harg4 x1 (body_reload.sl.H10_34 c arg4 harg4 x1) 1 2 256 1024 (by decide) (by decide) (by decide) 512 256 (by decide) rfl rfl _ rfl, ?_⟩
    refine List.forall_mem_cons.2 ⟨step_fun arg13.view arg4 harg4 x1 (body_reload.sl.H10_33 c arg4 harg4 x1) 1 1 128 1024 (by decide) (by decide) (by decide) 512 128 (by decide) rfl rfl _ rfl, ?_⟩
    refine List.forall_mem_cons.2 ⟨step_fun arg13.view arg4 harg4 x1 (body_reload.sl.H10_32 c arg4 harg4 x1) 1 0 0 1024 (by decide) (by decide) (by decide) 512 0 (by decide) rfl rfl _ rfl, ?_⟩
    refine List.forall_mem_cons.2 ⟨step_fun arg13.view arg4 harg4 x1 (body_reload.sl.H10_31 c arg4 harg4 x1) 1 7 896 768 (by decide) (by decide) (by decide) 384 896 (by decide) rfl rfl _ rfl, ?_⟩
    refine List.forall_mem_cons.2 ⟨step_fun arg13.view arg4 harg4 x1 (body_reload.sl.H10_30 c arg4 harg4 x1) 1 6 768 768 (by decide) (by decide) (by decide) 384 768 (by decide) rfl rfl _ rfl, ?_⟩
    refine List.forall_mem_cons.2 ⟨step_fun arg13.view arg4 harg4 x1 (body_reload.sl.H10_29 c arg4 harg4 x1) 1 5 640 768 (by decide) (by decide) (by decide) 384 640 (by decide) rfl rfl _ rfl, ?_⟩
    refine List.forall_mem_cons.2 ⟨step_fun arg13.view arg4 harg4 x1 (body_reload.sl.H10_28 c arg4 harg4 x1) 1 4 512 768 (by decide) (by decide) (by decide) 384 512 (by decide) rfl rfl _ rfl, ?_⟩
    refine List.forall_mem_cons.2 ⟨step_fun arg13.view arg4 harg4 x1 (body_reload.sl.H10_27 c arg4 harg4 x1) 1 3 384 768 (by decide) (by decide) (by decide) 384 384 (by decide) rfl rfl _ rfl, ?_⟩
    refine List.forall_mem_cons.2 ⟨step_fun arg13.view arg4 harg4 x1 (body_reload.sl.H10_26 c arg4 harg4 x1) 1 2 256 768 (by decide) (by decide) (by decide) 384 256 (by decide) rfl rfl _ rfl, ?_⟩
    refine List.forall_mem_cons.2 ⟨step_fun arg13.view arg4 harg4 x1 (body_reload.sl.H10_25 c arg4 harg4 x1) 1 1 128 768 (by decide) (by decide) (by decide) 384 128 (by decide) rfl rfl _ rfl, ?_⟩
    refine List.forall_mem_cons.2 ⟨step_fun arg13.view arg4 harg4 x1 (body_reload.sl.H10_24 c arg4 harg4 x1) 1 0 0 768 (by decide) (by decide) (by decide) 384 0 (by decide) rfl rfl _ rfl, ?_⟩
    refine List.forall_mem_cons.2 ⟨step_fun arg13.view arg4 harg4 x1 (body_reload.sl.H10_23 c arg4 harg4 x1) 1 7 896 512 (by decide) (by decide) (by decide) 256 896 (by decide) rfl rfl _ rfl, ?_⟩
    refine List.forall_mem_cons.2 ⟨step_fun arg13.view arg4 harg4 x1 (body_reload.sl.H10_22 c arg4 harg4 x1) 1 6 768 512 (by decide) (by decide) (by decide) 256 768 (by decide) rfl rfl _ rfl, ?_⟩
    refine List.forall_mem_cons.2 ⟨step_fun arg13.view arg4 harg4 x1 (body_reload.sl.H10_21 c arg4 harg4 x1) 1 5 640 512 (by decide) (by decide) (by decide) 256 640 (by decide) rfl rfl _ rfl, ?_⟩
    refine List.forall_mem_cons.2 ⟨step_fun arg13.view arg4 harg4 x1 (body_reload.sl.H10_20 c arg4 harg4 x1) 1 4 512 512 (by decide) (by decide) (by decide) 256 512 (by decide) rfl rfl _ rfl, ?_⟩
    refine List.forall_mem_cons.2 ⟨step_fun arg13.view arg4 harg4 x1 (body_reload.sl.H10_19 c arg4 harg4 x1) 1 3 384 512 (by decide) (by decide) (by decide) 256 384 (by decide) rfl rfl _ rfl, ?_⟩
    refine List.forall_mem_cons.2 ⟨step_fun arg13.view arg4 harg4 x1 (body_reload.sl.H10_18 c arg4 harg4 x1) 1 2 256 512 (by decide) (by decide) (by decide) 256 256 (by decide) rfl rfl _ rfl, ?_⟩
    refine List.forall_mem_cons.2 ⟨step_fun arg13.view arg4 harg4 x1 (body_reload.sl.H10_17 c arg4 harg4 x1) 1 1 128 512 (by decide) (by decide) (by decide) 256 128 (by decide) rfl rfl _ rfl, ?_⟩
    refine List.forall_mem_cons.2 ⟨step_fun arg13.view arg4 harg4 x1 (body_reload.sl.H10_16 c arg4 harg4 x1) 1 0 0 512 (by decide) (by decide) (by decide) 256 0 (by decide) rfl rfl _ rfl, ?_⟩
    refine List.forall_mem_cons.2 ⟨step_fun arg13.view arg4 harg4 x1 (body_reload.sl.H10_15 c arg4 harg4 x1) 1 7 896 256 (by decide) (by decide) (by decide) 128 896 (by decide) rfl rfl _ rfl, ?_⟩
    refine List.forall_mem_cons.2 ⟨step_fun arg13.view arg4 harg4 x1 (body_reload.sl.H10_14 c arg4 harg4 x1) 1 6 768 256 (by decide) (by decide) (by decide) 128 768 (by decide) rfl rfl _ rfl, ?_⟩
    refine List.forall_mem_cons.2 ⟨step_fun arg13.view arg4 harg4 x1 (body_reload.sl.H10_13 c arg4 harg4 x1) 1 5 640 256 (by decide) (by decide) (by decide) 128 640 (by decide) rfl rfl _ rfl, ?_⟩
    refine List.forall_mem_cons.2 ⟨step_fun arg13.view arg4 harg4 x1 (body_reload.sl.H10_12 c arg4 harg4 x1) 1 4 512 256 (by decide) (by decide) (by decide) 128 512 (by decide) rfl rfl _ rfl, ?_⟩
    refine List.forall_mem_cons.2 ⟨step_fun arg13.view arg4 harg4 x1 (body_reload.sl.H10_11 c arg4 harg4 x1) 1 3 384 256 (by decide) (by decide) (by decide) 128 384 (by decide) rfl rfl _ rfl, ?_⟩
    refine List.forall_mem_cons.2 ⟨step_fun arg13.view arg4 harg4 x1 (body_reload.sl.H10_10 c arg4 harg4 x1) 1 2 256 256 (by decide) (by decide) (by decide) 128 256 (by decide) rfl rfl _ rfl, ?_⟩
    refine List.forall_mem_cons.2 ⟨step_fun arg13.view arg4 harg4 x1 (body_reload.sl.H10_9 c arg4 harg4 x1) 1 1 128 256 (by decide) (by decide) (by decide) 128 128 (by decide) rfl rfl _ rfl, ?_⟩
    refine List.forall_mem_cons.2 ⟨step_fun arg13.view arg4 harg4 x1 (body_reload.sl.H10_8 c arg4 harg4 x1) 1 0 0 256 (by decide) (by decide) (by decide) 128 0 (by decide) rfl rfl _ rfl, ?_⟩
    refine List.forall_mem_cons.2 ⟨step_fun arg13.view arg4 harg4 x1 (body_reload.sl.H10_7 c arg4 harg4 x1) 1 7 896 0 (by decide) (by decide) (by decide) 0 896 (by decide) rfl rfl _ rfl, ?_⟩
    refine List.forall_mem_cons.2 ⟨step_fun arg13.view arg4 harg4 x1 (body_reload.sl.H10_6 c arg4 harg4 x1) 1 6 768 0 (by decide) (by decide) (by decide) 0 768 (by decide) rfl rfl _ rfl, ?_⟩
    refine List.forall_mem_cons.2 ⟨step_fun arg13.view arg4 harg4 x1 (body_reload.sl.H10_5 c arg4 harg4 x1) 1 5 640 0 (by decide) (by decide) (by decide) 0 640 (by decide) rfl rfl _ rfl, ?_⟩
    refine List.forall_mem_cons.2 ⟨step_fun arg13.view arg4 harg4 x1 (body_reload.sl.H10_4 c arg4 harg4 x1) 1 4 512 0 (by decide) (by decide) (by decide) 0 512 (by decide) rfl rfl _ rfl, ?_⟩
    refine List.forall_mem_cons.2 ⟨step_fun arg13.view arg4 harg4 x1 (body_reload.sl.H10_3 c arg4 harg4 x1) 1 3 384 0 (by decide) (by decide) (by decide) 0 384 (by decide) rfl rfl _ rfl, ?_⟩
    refine List.forall_mem_cons.2 ⟨step_fun arg13.view arg4 harg4 x1 (body_reload.sl.H10_2 c arg4 harg4 x1) 1 2 256 0 (by decide) (by decide) (by decide) 0 256 (by decide) rfl rfl _ rfl, ?_⟩
    refine List.forall_mem_cons.2 ⟨step_fun arg13.view arg4 harg4 x1 (body_reload.sl.H10_1 c arg4 harg4 x1) 1 1 128 0 (by decide) (by decide) (by decide) 0 128 (by decide) rfl rfl _ rfl, ?_⟩
    refine List.forall_mem_cons.2 ⟨step_fun arg13.view arg4 harg4 x1 [] 1 0 0 0 (by decide) (by decide) (by decide) 0 0 (by decide) rfl rfl _ rfl, ?_⟩
    exact fun _ h => absurd h List.not_mem_nil
  have u8 : ∀ y, ∃ p ∈ body_reload.sl.H8_64 c arg4 harg4 arg13 x1, y ∈ p.1.set := View.cover_of_tiledL _ S128x128.size (by sl_kernel_rfl)
  have e8 : View.read (Elt F) arg11.view (arg11.view.writes (Elt F) (harg11.unread g1) (body_reload.sl.H8_64 c arg4 harg4 arg13 x1)) = turned 1 x1 :=
    funext fun y => View.read_writes_apply_of_pieces _ _ _ _ q8 y (u8 y)
  have l8 : View.canon (body_reload.sl.H8_64 c arg4 harg4 arg13 x1) = turned 1 x1 := funext fun y => View.canon_apply_of_pieces _ _ q8 y (u8 y)
  have e9 : View.read (Elt F) arg12.view (arg12.view.writes (Elt F) (harg12.unread g2) (body_reload.sl.H9_1 c arg7 harg7 x4)) = k0_pay2 x4 := by
    unfold body_reload.sl.H9_1
    rw [View.read_writes_full, View.readAt_full, harg7.read_unread]
  sl_step
  iapply Hk
  isplitl [HT1]; · iexact HT1
  isplitl [HT2]; · iexact HT2
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [H6]
  · iexists _; isplitr
    swap
    · iexact H6
    ipureintro
    refine (out_read _ _ _ _ _ _ _ _ _).trans ?_
    exact congrArg (fun z => if k0_cond2 i (wordUsed c xt2) = 1#1 then z else k0_pay3)
      (pay_congr ((View.readAt_full _ _ _).trans (harg3.read_unread _)) ((readCov_whole _ _ _).trans l7)
        ((View.readAt_full _ _ _).trans (harg5.read_unread _)) ((readCov_whole _ _ _).trans l8)
        ((View.readAt_full _ _ _).trans (harg6.read_unread _)) ((View.readCov_full _ _ _ _ _).trans
          (congrArg k0_pay2 ((View.readAt_full _ _ _).trans (harg7.read_unread _))))
        ((View.readAt_full _ _ _).trans (harg8.read_unread _)))
  isplitl [H7]
  · iexists _; isplitr
    swap
    · iexact H7
    ipureintro
    exact e7
  isplitl [H8]
  · iexists _; isplitr
    swap
    · iexact H8
    ipureintro
    exact e8
  isplitl [H9]
  · iexists _; isplitr
    swap
    · iexact H9
    ipureintro
    exact e9
  iexists _, _; isplitr
  swap
  · iexact H10
  ipureintro; rfl

end Cert.ExpertsIdeal.Run

end
-- ==== Proof.Experts.Setup.lean ====
module

public import proofs.«01_k».proof.Proof.Experts.Body
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the kernel starts: after the host's reshapes and slices of the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is found as it was launched. -/
theorem V_of_not_written (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_of_not_written m c main_arg0 (by
    simp only [hostOps0, List.Forall, StableHlo.unary_writes, StableHlo.reshape_writes, Finset.mem_singleton]
    repeat' apply And.intro
    all_goals exact StableHlo.devRef_ne_of_ne (by decide))

theorem V_main_arg1 (c : Dev nD) : V m c main_arg1 = m ((c : Thread nD τ).loc main_arg1) :=
  V_of_not_written m c main_arg1 (by
    simp only [hostOps0, List.Forall, StableHlo.unary_writes, StableHlo.reshape_writes, Finset.mem_singleton]
    repeat' apply And.intro
    all_goals exact StableHlo.devRef_ne_of_ne (by decide))

theorem V_main_arg2 (c : Dev nD) : V m c main_arg2 = m ((c : Thread nD τ).loc main_arg2) :=
  V_of_not_written m c main_arg2 (by
    simp only [hostOps0, List.Forall, StableHlo.unary_writes, StableHlo.reshape_writes, Finset.mem_singleton]
    repeat' apply And.intro
    all_goals exact StableHlo.devRef_ne_of_ne (by decide))

theorem V_main_arg3 (c : Dev nD) : V m c main_arg3 = m ((c : Thread nD τ).loc main_arg3) :=
  V_of_not_written m c main_arg3 (by
    simp only [hostOps0, List.Forall, StableHlo.unary_writes, StableHlo.reshape_writes, Finset.mem_singleton]
    repeat' apply And.intro
    all_goals exact StableHlo.devRef_ne_of_ne (by decide))

theorem V_main_arg4 (c : Dev nD) : V m c main_arg4 = m ((c : Thread nD τ).loc main_arg4) :=
  V_of_not_written m c main_arg4 (by
    simp only [hostOps0, List.Forall, StableHlo.unary_writes, StableHlo.reshape_writes, Finset.mem_singleton]
    repeat' apply And.intro
    all_goals exact StableHlo.devRef_ne_of_ne (by decide))

theorem V_main_arg5 (c : Dev nD) : V m c main_arg5 = m ((c : Thread nD τ).loc main_arg5) :=
  V_of_not_written m c main_arg5 (by
    simp only [hostOps0, List.Forall, StableHlo.unary_writes, StableHlo.reshape_writes, Finset.mem_singleton]
    repeat' apply And.intro
    all_goals exact StableHlo.devRef_ne_of_ne (by decide))

theorem V_main_arg6 (c : Dev nD) : V m c main_arg6 = m ((c : Thread nD τ).loc main_arg6) :=
  V_of_not_written m c main_arg6 (by
    simp only [hostOps0, List.Forall, StableHlo.unary_writes, StableHlo.reshape_writes, Finset.mem_singleton]
    repeat' apply And.intro
    all_goals exact StableHlo.devRef_ne_of_ne (by decide))

/-- The two tables' contents when the kernel starts. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies in its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tbPt c tb1 (tbl m 0) ∗ tbPt c tb2 (tbl m 1)) := by
  unfold Pipeline.ΦT Pipeline.prefHeld
  rw [show (Finset.univ : Finset (Fin 2)) = {(0 : Fin 2), 1} from by decide, bigSep_insert (by decide), bigSep_singleton]
  rfl

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The word of the expert table at a point. -/
def word (n : ℕ) (h : n < 288) : BitVec 32 := (tbl m 0 : S288.Idx → BitVec 32) (ix1 ⟨n, h⟩)

theorem coords_val : ∀ t : Fin grid0.N, (grid0.coords t 0).val = t.val := by decide +kernel

theorem off1_val : ∀ i : Fin 288, (Scalar.indexCast (BitVec.ofNat 32 i.val) : Index).toNat = i.val := by decide +kernel
theorem off2_val : ∀ i : Fin 288, (Scalar.indexCast (Scalar.maxsi (Scalar.subi (BitVec.ofNat 32 i.val) 1#32) 0#32) : Index).toNat = i.val - 1 := by decide +kernel

theorem wordHere_eq (c : Dev nD) (i : grid0.Coords) : wordHere c i (tbl m 0) = word m (i 0).val (i 0).isLt := by
  show (tbl m 0 : S288.Idx → BitVec 32) _ = (tbl m 0 : S288.Idx → BitVec 32) _
  refine congrArg (tbl m 0 : S288.Idx → BitVec 32) (funext fun d => Fin.ext ?_)
  obtain rfl : d = (0 : Fin 1) := Subsingleton.elim (α := Fin 1) _ _
  have := off1_val (i 0)
  show k0_off1 i 0 + 1 * 0 = (i 0).val
  rw [show k0_off1 i 0 = (i 0).val from this]; rfl

theorem wordBefore_eq (c : Dev nD) (i : grid0.Coords) : wordBefore c i (tbl m 0) = word m ((i 0).val - 1) (lt_of_le_of_lt (Nat.sub_le _ _) (i 0).isLt) := by
  show (tbl m 0 : S288.Idx → BitVec 32) _ = (tbl m 0 : S288.Idx → BitVec 32) _
  refine congrArg (tbl m 0 : S288.Idx → BitVec 32) (funext fun d => Fin.ext ?_)
  obtain rfl : d = (0 : Fin 1) := Subsingleton.elim (α := Fin 1) _ _
  have := off2_val (i 0)
  show k0_off2 i 0 + 1 * 0 = (i 0).val - 1
  rw [show k0_off2 i 0 = (i 0).val - 1 from this]; rfl

theorem at_eq (i : grid0.Coords) (h) : (tbl m).at 0 (Rect.unit (s := S288) (k0_off1 i) S1.size h) numel1_S1 = word m (i 0).val (i 0).isLt := wordHere_eq m 0 i

/-- The expert of a point is one of the 32. -/
theorem word_lt (hO : Ok m) (i : grid0.Coords) : (word m (i 0).val (i 0).isLt).toNat < 32 := by
  have h0 := hinb0 (tbl m) hO 1 i 0
  change (cc0_transform_1 k0_off1_inb numel1_S1 (tbl m) i 0 + 1) * 1 ≤ 32 at h0
  have e : cc0_transform_1 k0_off1_inb numel1_S1 (tbl m) i 0 = (word m (i 0).val (i 0).isLt).toNat :=
    congrArg BitVec.toNat (at_eq m i _)
  rw [e] at h0
  omega

/-- The expert of a point. -/
def expert (hO : Ok m) (i : grid0.Coords) : Fin 32 := ⟨(word m (i 0).val (i 0).isLt).toNat, word_lt m hO i⟩

/-- The block of the first weights at a point is the expert's matrix. -/
theorem iblk_up (hO : Ok m) (c : Dev nD) (t : Fin grid0.N) :
    iblk m hO c 1 t = fun y : S1x1024x2048.Idx => (V m c main_v0 : S32x1024x2048.Idx → Elt F .f32) (ix3 (expert m hO (grid0.coords t)) (y 1) (y 2)) := by
  refine funext fun (y : S1x1024x2048.Idx) => ?_
  refine congrArg (V m c main_v0 : S32x1024x2048.Idx → Elt F .f32) (funext fun d => Fin.ext ?_)
  have e : cc0_transform_1 k0_off1_inb numel1_S1 (tbl m) (grid0.coords t) 0 = (word m (grid0.coords t 0).val (grid0.coords t 0).isLt).toNat :=
    congrArg BitVec.toNat (at_eq m (grid0.coords t) _)
  have y0 : (y 0).val = 0 := by have := (y 0).isLt; change (y 0).val < 1 at this; omega
  match d with
  | ⟨0, _⟩ =>
    show cc0_transform_1 k0_off1_inb numel1_S1 (tbl m) (grid0.coords t) 0 * 1 + 1 * (y 0).val = _
    rw [e, y0]; exact (Nat.add_zero _).trans (Nat.mul_one _)
  | ⟨1, _⟩ => show 0 * 1024 + 1 * (y 1).val = (y 1).val; omega
  | ⟨2, _⟩ => show 0 * 2048 + 1 * (y 2).val = (y 2).val; omega

/-- The block of the gate's bias at a point is the expert's row. -/
theorem iblk_bglu (hO : Ok m) (c : Dev nD) (t : Fin grid0.N) :
    iblk m hO c 2 t = fun y : S1x1x1024.Idx => (V m c main_v3 : S32x1x1024.Idx → Elt F .f32) (ix3 (expert m hO (grid0.coords t)) (y 1) (y 2)) := by
  refine funext fun (y : S1x1x1024.Idx) => ?_
  refine congrArg (V m c main_v3 : S32x1x1024.Idx → Elt F .f32) (funext fun d => Fin.ext ?_)
  have e : cc0_transform_2 k0_off1_inb numel1_S1 (tbl m) (grid0.coords t) 0 = (word m (grid0.coords t 0).val (grid0.coords t 0).isLt).toNat :=
    congrArg BitVec.toNat (at_eq m (grid0.coords t) _)
  have y0 : (y 0).val = 0 := by have := (y 0).isLt; change (y 0).val < 1 at this; omega
  match d with
  | ⟨0, _⟩ =>
    show cc0_transform_2 k0_off1_inb numel1_S1 (tbl m) (grid0.coords t) 0 * 1 + 1 * (y 0).val = _
    rw [e, y0]; exact (Nat.add_zero _).trans (Nat.mul_one _)
  | ⟨1, _⟩ => show 0 * 1 + 1 * (y 1).val = (y 1).val; omega
  | ⟨2, _⟩ => show 0 * 1024 + 1 * (y 2).val = (y 2).val; omega

/-- The block of the other half's bias at a point is the expert's row. -/
theorem iblk_blin (hO : Ok m) (c : Dev nD) (t : Fin grid0.N) :
    iblk m hO c 3 t = fun y : S1x1x1024.Idx => (V m c main_v6 : S32x1x1024.Idx → Elt F .f32) (ix3 (expert m hO (grid0.coords t)) (y 1) (y 2)) := by
  refine funext fun (y : S1x1x1024.Idx) => ?_
  refine congrArg (V m c main_v6 : S32x1x1024.Idx → Elt F .f32) (funext fun d => Fin.ext ?_)
  have e : cc0_transform_3 k0_off1_inb numel1_S1 (tbl m) (grid0.coords t) 0 = (word m (grid0.coords t 0).val (grid0.coords t 0).isLt).toNat :=
    congrArg BitVec.toNat (at_eq m (grid0.coords t) _)
  have y0 : (y 0).val = 0 := by have := (y 0).isLt; change (y 0).val < 1 at this; omega
  match d with
  | ⟨0, _⟩ =>
    show cc0_transform_3 k0_off1_inb numel1_S1 (tbl m) (grid0.coords t) 0 * 1 + 1 * (y 0).val = _
    rw [e, y0]; exact (Nat.add_zero _).trans (Nat.mul_one _)
  | ⟨1, _⟩ => show 0 * 1 + 1 * (y 1).val = (y 1).val; omega
  | ⟨2, _⟩ => show 0 * 1024 + 1 * (y 2).val = (y 2).val; omega

/-- The block of the second weights at a point is the expert's matrix. -/
theorem iblk_down (hO : Ok m) (c : Dev nD) (t : Fin grid0.N) :
    iblk m hO c 4 t = fun y : S1x1024x1024.Idx => (V m c main_v7 : S32x1024x1024.Idx → Elt F .f32) (ix3 (expert m hO (grid0.coords t)) (y 1) (y 2)) := by
  refine funext fun (y : S1x1024x1024.Idx) => ?_
  refine congrArg (V m c main_v7 : S32x1024x1024.Idx → Elt F .f32) (funext fun d => Fin.ext ?_)
  have e : cc0_transform_4 k0_off1_inb numel1_S1 (tbl m) (grid0.coords t) 0 = (word m (grid0.coords t 0).val (grid0.coords t 0).isLt).toNat :=
    congrArg BitVec.toNat (at_eq m (grid0.coords t) _)
  have y0 : (y 0).val = 0 := by have := (y 0).isLt; change (y 0).val < 1 at this; omega
  match d with
  | ⟨0, _⟩ =>
    show cc0_transform_4 k0_off1_inb numel1_S1 (tbl m) (grid0.coords t) 0 * 1 + 1 * (y 0).val = _
    rw [e, y0]; exact (Nat.add_zero _).trans (Nat.mul_one _)
  | ⟨1, _⟩ => show 0 * 1024 + 1 * (y 1).val = (y 1).val; omega
  | ⟨2, _⟩ => show 0 * 1024 + 1 * (y 2).val = (y 2).val; omega

/-- The block of the second bias at a point is the expert's row. -/
theorem iblk_bdown (hO : Ok m) (c : Dev nD) (t : Fin grid0.N) :
    iblk m hO c 5 t = fun y : S1x1x1024.Idx => (V m c main_v9 : S32x1x1024.Idx → Elt F .f32) (ix3 (expert m hO (grid0.coords t)) (y 1) (y 2)) := by
  refine funext fun (y : S1x1x1024.Idx) => ?_
  refine congrArg (V m c main_v9 : S32x1x1024.Idx → Elt F .f32) (funext fun d => Fin.ext ?_)
  have e : cc0_transform_5 k0_off1_inb numel1_S1 (tbl m) (grid0.coords t) 0 = (word m (grid0.coords t 0).val (grid0.coords t 0).isLt).toNat :=
    congrArg BitVec.toNat (at_eq m (grid0.coords t) _)
  have y0 : (y 0).val = 0 := by have := (y 0).isLt; change (y 0).val < 1 at this; omega
  match d with
  | ⟨0, _⟩ =>
    show cc0_transform_5 k0_off1_inb numel1_S1 (tbl m) (grid0.coords t) 0 * 1 + 1 * (y 0).val = _
    rw [e, y0]; exact (Nat.add_zero _).trans (Nat.mul_one _)
  | ⟨1, _⟩ => show 0 * 1 + 1 * (y 1).val = (y 1).val; omega
  | ⟨2, _⟩ => show 0 * 1024 + 1 * (y 2).val = (y 2).val; omega

/-- The block of rows at a point. -/
theorem iblk_rows (hO : Ok m) (c : Dev nD) (t : Fin grid0.N) :
    iblk m hO c 0 t = fun y : S512x1024.Idx => (V m c main_arg0 : S147456x1024.Idx → Elt F .bf16)
      (ix2 ⟨t.val * 512 + (y 0).val, by have := (y 0).isLt; change (y 0).val < 512 at this; have h1 : t.val < 288 := lt_of_lt_of_eq t.isLt N_0; omega⟩ (y 1)) := by
  refine funext fun (y : S512x1024.Idx) => ?_
  refine congrArg (V m c main_arg0 : S147456x1024.Idx → Elt F .bf16) (funext fun d => Fin.ext ?_)
  have e : (BitVec.ofNat 32 (grid0.coords t 0).val).toNat = t.val := by
    rw [coords_val]; exact Nat.mod_eq_of_lt (by have h1 : t.val < 288 := lt_of_lt_of_eq t.isLt N_0; omega)
  match d with
  | ⟨0, _⟩ =>
    show (BitVec.ofNat 32 (grid0.coords t 0).val).toNat * 512 + 1 * (y 0).val = t.val * 512 + (y 0).val
    rw [e]; omega
  | ⟨1, _⟩ => show 0 * 1024 + 1 * (y 1).val = (y 1).val; omega

end Cert.ExpertsIdeal.Run

end
-- ==== Proof.Experts.Points.lean ====
module

public import proofs.«01_k».proof.Proof.Experts.Setup
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The gate's columns of the first weights a point multiplies by. -/
def heldGlu (hO : Ok m) (c : Dev nD) (t : Fin grid0.N) : Vec F S1024x1024 .bf16 := turned 0 (iblk m hO c 1 t)
/-- The other columns of the first weights a point multiplies by. -/
def heldLin (hO : Ok m) (c : Dev nD) (t : Fin grid0.N) : Vec F S1024x1024 .bf16 := turned 1 (iblk m hO c 1 t)
/-- The second weights a point multiplies by. -/
def heldDown (hO : Ok m) (c : Dev nD) (t : Fin grid0.N) : Vec F S1024x1024 .bf16 := k0_pay2 (iblk m hO c 4 t)

/-- The block a point leaves. -/
def leaves (hO : Ok m) (c : Dev nD) (t : Fin grid0.N) : Vec F S512x1024 .bf16 :=
  tileOut (grid0.coords t) (wordUsed c (tbl m 1)) (iblk m hO c 0 t) (heldGlu m hO c t) (iblk m hO c 2 t) (heldLin m hO c t) (iblk m hO c 3 t) (heldDown m hO c t) (iblk m hO c 5 t)

/-- The test for a change of expert, from its two parts. -/
theorem either_bit : ∀ a b : BitVec 1, Scalar.cmpi .ne (Scalar.extui (Scalar.ori a b) : BitVec 32) 0#32 = 1#1 ↔ a = 1#1 ∨ b = 1#1 := by decide +kernel

theorem reloads_first (c : Dev nD) (i : grid0.Coords) (f : TbBuf (F := F) c tb1) (h : (i 0).val = 0) : reloads c i f = 1#1 := by
  refine (either_bit _ _).mpr (Or.inl ?_)
  rw [h]; decide

/-- Where the expert does not change the word before is the word here. -/
theorem word_eq_of_keep (c : Dev nD) (i : grid0.Coords) (hr : ¬ (reloads c i (tbl m 0) = 1#1)) :
    word m (i 0).val (i 0).isLt = word m ((i 0).val - 1) (lt_of_le_of_lt (Nat.sub_le _ _) (i 0).isLt) := by
  by_contra hne
  refine hr ((either_bit _ _).mpr (Or.inr ?_))
  rw [wordHere_eq, wordBefore_eq]
  exact (WordCmp.cmpi_ne_eq _ _).trans (by simp [hne])

theorem expert_keep (hO : Ok m) (c : Dev nD) (t : Fin grid0.N) (h : t.val - 1 < grid0.N) (hr : ¬ (reloads c (grid0.coords t) (tbl m 0) = 1#1)) :
    expert m hO (grid0.coords t) = expert m hO (grid0.coords ⟨t.val - 1, h⟩) := by
  have e := word_eq_of_keep m c (grid0.coords t) hr
  refine Fin.ext ((congrArg BitVec.toNat e).trans ?_)
  show (word m _ _).toNat = (word m _ _).toNat
  congr 2
  rw [coords_val, coords_val]

/-- Where the expert does not change the scratch buffers hold what the point before put there. -/
theorem held_keep (hO : Ok m) (c : Dev nD) (t : Fin grid0.N) (h : t.val - 1 < grid0.N) (hr : ¬ (reloads c (grid0.coords t) (tbl m 0) = 1#1)) :
    heldGlu m hO c ⟨t.val - 1, h⟩ = heldGlu m hO c t ∧ heldLin m hO c ⟨t.val - 1, h⟩ = heldLin m hO c t ∧ heldDown m hO c ⟨t.val - 1, h⟩ = heldDown m hO c t := by
  have e := expert_keep m hO c t h hr
  unfold heldGlu heldLin heldDown
  rw [iblk_up m hO c t, iblk_up m hO c ⟨t.val - 1, h⟩, iblk_down m hO c t, iblk_down m hO c ⟨t.val - 1, h⟩, e]
  exact ⟨rfl, rfl, rfl⟩

/-! ## What holds between two points -/

theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]
  simp only [owns_whole]; try rfl

/-- The scratch buffers after the point `n`. -/
def holds (hO : Ok m) (c : Dev nD) (t : Fin grid0.N) : sProp 𝕄 :=
  iprop(owns (c : Thread nD τ) (Memref.whole cc0_scratch0) fullShare (heldGlu m hO c t) ∗ owns (c : Thread nD τ) (Memref.whole cc0_scratch1) fullShare (heldLin m hO c t) ∗ owns (c : Thread nD τ) (Memref.whole cc0_scratch2) fullShare (heldDown m hO c t) ∗ (∃ d, owns (c : Thread nD τ) (Memref.whole cc0_scratch3) fullShare d))

/-- Before the first point the scratch buffers hold anything; after a point, its expert's weights. The tables are held throughout. -/
def PhiS (hO : Ok m) (c : Dev nD) : (n : ℕ) → n ≤ grid0.N → sProp 𝕄
  | 0, _ => iprop(Pipeline.ΦA spec0 c ∗ Pipeline.ΦT pre0 (tbl m) c)
  | n + 1, h => iprop((holds m hO c ⟨n, h⟩ ∗ (∃ r, prngReg c r)) ∗ Pipeline.ΦT pre0 (tbl m) c)

theorem PhiS_zero (hO : Ok m) (c : Dev nD) (n : ℕ) (h) (hz : n = 0) : PhiS m hO c n h = iprop(Pipeline.ΦA spec0 c ∗ Pipeline.ΦT pre0 (tbl m) c) := by
  subst hz; rfl

theorem PhiS_pos (hO : Ok m) (c : Dev nD) (n : ℕ) (h : n ≤ grid0.N) (hz : n ≠ 0) :
    PhiS m hO c n h = iprop((holds m hO c ⟨n - 1, by omega⟩ ∗ (∃ r, prngReg c r)) ∗ Pipeline.ΦT pre0 (tbl m) c) := by
  obtain ⟨k, rfl⟩ := Nat.exists_eq_succ_of_ne_zero hz; rfl

/-- The launch's proof data: the arrays as the host leaves them, the output's blocks, and what holds between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => leaves m hO c t
  Φ t := PhiS m hO c t.val (Nat.le_of_lt_succ t.isLt)
  q _ := fullShare
  owed _ := 0

theorem A_eq (hO : Ok m) (c : Dev nD) (w : Fin 7) : (dats m hO 0 c).A w = V m c (Pipeline.arrRef spec0 w) := by
  dsimp only [dats]; try rfl

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = leaves m hO c t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d

/-- The body at a point, on the buffers its windows are staged in. -/
def bodyAt (hO : Ok m) (t : Fin (cfgM m hO).N) :=
  cc0_experts (F := F) (grid0.coords t) tb1 htb1 tb2 htb2 (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- What a point is handed -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d)))

/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t))

set_option maxHeartbeats 3200000 in
/-- The body at any point: it turns the expert's weights where the expert changes and finds them turned where it does not. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).owesAt () t.succ = (dats m hO 0 c).owesAt () t.castSucc from rfl,
    after_0, after_1, after_2, after_3, after_4, after_5, after_6,
    show (dats m hO 0 c).Φ t.succ = iprop((holds m hO c t ∗ (∃ r, prngReg c r)) ∗ Pipeline.ΦT pre0 (tbl m) c) from rfl,
    show (dats m hO 0 c).Φ t.castSucc = PhiS m hO c t.val (le_of_lt t.isLt) from rfl, PhiT_eq]
  unfold leaves
  by_cases hr : reloads c (grid0.coords t) (tbl m 0) = 1#1
  · have hsome : PhiS m hO c t.val (le_of_lt t.isLt) ⊢ iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r) ∗ tbPt c tb1 (tbl m 0) ∗ tbPt c tb2 (tbl m 1)) := by
      by_cases hz : t.val = 0
      · rw [PhiS_zero m hO c _ _ hz, PhiA_eq, PhiT_eq]
        iintro ⟨⟨H, Hg⟩, HT⟩
        isplitl [H]; · iexact H
        isplitl [Hg]; · iexact Hg
        iexact HT
      · rw [PhiS_pos m hO c _ _ hz, PhiT_eq]
        unfold holds
        iintro ⟨⟨⟨H0, H1, H2, H3⟩, Hg⟩, HT⟩
        isplitl [H0 H1 H2 H3]
        · isplitl [H0]; · iexists _; iexact H0
          isplitl [H1]; · iexists _; iexact H1
          isplitl [H2]; · iexists _; iexact H2
          iexact H3
        isplitl [Hg]; · iexact Hg
        iexact HT
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := hsome $$ HΦ
    icases HΦ with ⟨⟨⟨%g0, HS0⟩, ⟨%g1, HS1⟩, ⟨%g2, HS2⟩, HS3⟩, Hg, HT1, HT2⟩
    iapply (body_reload c (grid0.coords t) _ _ _ _ _ _ _ _ _ _ _ _ _ _ _ _ _ _ _ _ _ _ (tbl m 0) (tbl m 1) (iblk m hO c 0 t) (iblk m hO c 1 t) (iblk m hO c 2 t) (iblk m hO c 3 t) (iblk m hO c 4 t) (iblk m hO c 5 t) g0 g1 g2 hr Set.univ _)
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    unfold holds heldGlu heldLin heldDown
    iintro ⟨HT1, HT2, H0, H1, H2, H3, H4, H5, H6, HS0, HS1, HS2, HS3⟩
    isplitl [HT1 HT2 HS0 HS1 HS2 HS3 Hg]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => hr (reloads_first c _ _ (by rw [coords_val]; exact hz))
    have hl : t.val - 1 < grid0.N := lt_of_le_of_lt (Nat.sub_le _ _) t.isLt
    obtain ⟨e0, e1, e2⟩ := held_keep m hO c t hl hr
    rw [PhiS_pos m hO c _ _ hz, PhiT_eq]
    unfold holds
    rw [e0, e1, e2]
    iintro ⟨⟨⟨⟨HS0, HS1, HS2, HS3⟩, Hg⟩, HT1, HT2⟩, Ho, ⟨%d0, H0⟩, ⟨%d1, H1⟩, ⟨%d2, H2⟩, ⟨%d3, H3⟩, ⟨%d4, H4⟩, ⟨%d5, H5⟩, ⟨%d6, H6⟩⟩
    iapply (body_keep c (grid0.coords t) _ _ _ _ _ _ _ _ _ _ _ _ _ _ _ _ _ _ _ _ _ _ (tbl m 0) (tbl m 1) (iblk m hO c 0 t) (iblk m hO c 1 t) (iblk m hO c 2 t) (iblk m hO c 3 t) (iblk m hO c 4 t) (iblk m hO c 5 t) _ _ _ hr Set.univ _)
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨HT1, HT2, H0, H1, H2, H3, H4, H5, H6, HS0, HS1, HS2, HS3⟩
    isplitl [HT1 HT2 HS0 HS1 HS2 HS3 Hg]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; rfl

/-- The output is written at every point: by the products where the tile is in use, by the zeros where it is not. -/
theorem written (i : grid0.Coords) (w : BitVec 32) : (!(k0_cond2 i w == 1#1) && !(k0_cond3 i w == 1#1)) = false := by
  have h := cond3_of i w
  generalize k0_cond2 i w = a at h ⊢
  generalize k0_cond3 i w = b at h ⊢
  revert a b; decide

theorem idle_of (pf : pre0.Contents (Elt F)) (h : ok0 pf) (i : grid0.Coords) : ∀ w : Fin 7, (cfg0 (F := F) ⟨pf, h⟩).idle w i = false
  | ⟨0, _⟩ => rfl
  | ⟨1, _⟩ => rfl
  | ⟨2, _⟩ => rfl
  | ⟨3, _⟩ => rfl
  | ⟨4, _⟩ => rfl
  | ⟨5, _⟩ => rfl
  | ⟨6, _⟩ => written i (pf.atD 1 ![0])

theorem idle_at (hO : Ok m) (t : Fin (cfgM m hO).N) (w : Fin 7) : (cfgM m hO).idle w ((cfgM m hO).grid.coords t) = false :=
  idle_of (tbl m) hO _ w

end Cert.ExpertsIdeal.Run

end
-- ==== Proof.Experts.Frame.lean ====
module

public import proofs.«01_k».proof.Proof.Experts.Points
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000 in
/-- What a point leaves is what the launch asks of it. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl ?_ ?_
  · exact Idealize.SL.BI.Entails.refl _
  · intro u
    have h6 : ∀ i, idle0 (tbl m) 6 i = false := fun i => written i _
    simp only [idle_at m hO t, h6]
    exact Idealize.SL.BI.Entails.refl _

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

theorem hout (hO : Ok m) (c : Dev nD) : (dats m hO 0 c).Φ (Fin.last (cfgM m hO).N) ⊢ Pipeline.ΦA spec0 c := by
  rw [show (dats m hO 0 c).Φ (Fin.last (cfgM m hO).N) = PhiS m hO c grid0.N le_rfl from rfl,
    PhiS_pos m hO c _ _ (by rw [N_0]; decide), PhiA_eq, PhiT_eq]
  unfold holds
  iintro ⟨⟨⟨H0, H1, H2, H3⟩, Hg⟩, HT⟩
  isplitl [H0 H1 H2 H3]
  · isplitl [H0]; · iexists _; iexact H0
    isplitl [H1]; · iexists _; iexact H1
    isplitl [H2]; · iexists _; iexact H2
    iexact H3
  iexact Hg

set_option backward.isDefEq.respectTransparency.types false in
/-- The launch: every execution ends, the arrays hold what the blocks leave, and no counter is left up. -/
theorem run_main (hO : Ok m) : θ_run defs (onTc (τ := τ) (main (F := F))) ⟨m, fun _ => 0, ρ⟩
    (fun r => Pipeline.FramePost (Pipeline.pin pcfgs fun _ => adm m hO) (dats m hO) (0 : Fin 1) (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- What every execution leaves: the output array, the arguments as they were, and no counter up. -/
theorem ends (hO : Ok m) : θ_run defs (onTc (τ := τ) (main (F := F))) ⟨m, fun _ => 0, ρ⟩ (fun r =>
    (∀ c : Dev nD, r.2.mem ((c.tc : Thread nD τ).loc main_v10) = (dats m hO 0 c).arrAt 6 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h.1 c).1 6,
    ((h.1 c).1 0).trans (((dats m hO 0 c).arrAt_in 0 rfl _).trans ((A_eq m hO c 0).trans (V_main_arg0 m c))),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c),
    ((h.1 c).2 main_arg5 (by decide : main_arg5 ∈ Pipeline.restRefs sig spec0)).trans (V_main_arg5 m c),
    ((h.1 c).2 main_arg6 (by decide : main_arg6 ∈ Pipeline.restRefs sig spec0)).trans (V_main_arg6 m c)⟩, h.2⟩) (run_main m ρ hO)

end Cert.ExpertsIdeal.Run

end
-- ==== Proof.Experts.Tables.lean ====
/- What the two tables hold when the kernel starts, and what the precondition says of them. -/
module

public import proofs.«01_k».proof.Proof.Experts.Setup
public import proofs.«01_k».proof.Proof.Finite
public import proofs.«01_k».proof.Proof.Gen.Pre_expert_tables
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen
open Cert.Pre_expert_tables.Gen (facts)

variable {F : FTy → Type} [FloatOps F]

local notation "𝕄" => MT nD τ sig Unit (Elt F) ℕ (UR sig nD τ) ℕ

variable (m : (ℓ : Loc nD τ sig) → Buf (Elt F) ℓ)

theorem word_eq (c : Dev nD) (n : ℕ) (h : n < 288) : word m n h = (m ((c : Thread nD τ).loc main_arg1) : S288.Idx → BitVec 32) (ix1 ⟨n, h⟩) := by
  obtain rfl : c = 0 := Subsingleton.elim _ _
  exact congrFun (V_main_arg1 m 0) (ix1 ⟨n, h⟩)

theorem used_eq (c : Dev nD) : wordUsed c (tbl m 1) = (m ((c : Thread nD τ).loc main_arg2) : S1.Idx → BitVec 32) (ix1 0) := by
  obtain rfl : c = 0 := Subsingleton.elim _ _
  refine Eq.trans ?_ (congrFun (V_main_arg2 m 0) (ix1 0))
  show (tbl m 1 : S1.Idx → BitVec 32) _ = (tbl m 1 : S1.Idx → BitVec 32) _
  refine congrArg (tbl m 1 : S1.Idx → BitVec 32) (funext fun d => Fin.ext ?_)
  obtain rfl : d = (0 : Fin 1) := Subsingleton.elim (α := Fin 1) _ _
  rfl

/-- Where every word of the expert table names one of the 32 experts, every block lies in its array. -/
theorem ok_of_lt (hl : ∀ (n : ℕ) (h : n < 288), (word m n h).toNat < 32) : Ok m := by
  have w (i : grid0.Coords) : (word m (i 0).val (i 0).isLt).toNat < 32 := hl _ _
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · have e : cc0_transform_1 k0_off1_inb numel1_S1 (tbl m) i 0 = (word m (i 0).val (i 0).isLt).toNat := congrArg BitVec.toNat (at_eq m i _)
    match a with
    | ⟨0, _⟩ => show (cc0_transform_1 k0_off1_inb numel1_S1 (tbl m) i 0 + 1) * 1 ≤ 32; rw [e]; have := w i; omega
    | ⟨1, _⟩ => show (0 + 1) * 1024 ≤ 1024; omega
    | ⟨2, _⟩ => show (0 + 1) * 2048 ≤ 2048; omega
  · have e : cc0_transform_2 k0_off1_inb numel1_S1 (tbl m) i 0 = (word m (i 0).val (i 0).isLt).toNat := congrArg BitVec.toNat (at_eq m i _)
    match a with
    | ⟨0, _⟩ => show (cc0_transform_2 k0_off1_inb numel1_S1 (tbl m) i 0 + 1) * 1 ≤ 32; rw [e]; have := w i; omega
    | ⟨1, _⟩ => show (0 + 1) * 1 ≤ 1; omega
    | ⟨2, _⟩ => show (0 + 1) * 1024 ≤ 1024; omega
  · have e : cc0_transform_3 k0_off1_inb numel1_S1 (tbl m) i 0 = (word m (i 0).val (i 0).isLt).toNat := congrArg BitVec.toNat (at_eq m i _)
    match a with
    | ⟨0, _⟩ => show (cc0_transform_3 k0_off1_inb numel1_S1 (tbl m) i 0 + 1) * 1 ≤ 32; rw [e]; have := w i; omega
    | ⟨1, _⟩ => show (0 + 1) * 1 ≤ 1; omega
    | ⟨2, _⟩ => show (0 + 1) * 1024 ≤ 1024; omega
  · have e : cc0_transform_4 k0_off1_inb numel1_S1 (tbl m) i 0 = (word m (i 0).val (i 0).isLt).toNat := congrArg BitVec.toNat (at_eq m i _)
    match a with
    | ⟨0, _⟩ => show (cc0_transform_4 k0_off1_inb numel1_S1 (tbl m) i 0 + 1) * 1 ≤ 32; rw [e]; have := w i; omega
    | ⟨1, _⟩ => show (0 + 1) * 1024 ≤ 1024; omega
    | ⟨2, _⟩ => show (0 + 1) * 1024 ≤ 1024; omega
  · have e : cc0_transform_5 k0_off1_inb numel1_S1 (tbl m) i 0 = (word m (i 0).val (i 0).isLt).toNat := congrArg BitVec.toNat (at_eq m i _)
    match a with
    | ⟨0, _⟩ => show (cc0_transform_5 k0_off1_inb numel1_S1 (tbl m) i 0 + 1) * 1 ≤ 32; rw [e]; have := w i; omega
    | ⟨1, _⟩ => show (0 + 1) * 1 ≤ 1; omega
    | ⟨2, _⟩ => show (0 + 1) * 1024 ≤ 1024; omega

/-- A word that is at least zero and below 32, both read signed, is below 32. -/
theorem word_range (w : BitVec 32) (h : IntOp.andi (IntOp.cmpi .sge w 0#32) (IntOp.cmpi .slt w 32#32) = 1#1) : w.toNat < 32 := by
  obtain ⟨h1, h2⟩ := Cert.Finite.and_one _ _ h
  rw [WordCmp.cmpi_sge_zero] at h1
  have hw : w.toNat < 2 ^ 31 := by
    by_contra hc
    rw [decide_eq_false hc] at h1
    exact absurd h1 (by decide)
  rw [WordCmp.cmpi_slt_of_lt hw (by decide)] at h2
  by_contra hc
  rw [decide_eq_false (show ¬ w.toNat < (32#32).toNat from hc)] at h2
  exact absurd h2 (by decide)

theorem pre_lt (x0 : FVec F S147456x1024 .bf16) (x1 : IVec S288 32) (x2 : IVec S1 32) (x3 : FVec F S1x32x1024x2048 .f32)
    (x4 : FVec F S1x32x2048 .f32) (x5 : FVec F S1x32x1024x1024 .f32) (x6 : FVec F S1x32x1024 .f32)
    (h : Cert.Pre_expert_tables.fn (F := F) x0 x1 x2 x3 x4 x5 x6 = fun _ => 1#1) (i : S288.Idx) : (x1 i).toNat < 32 :=
  word_range _ (Cert.Finite.all_of_reduce _ _ _ _ (congrFun h Idealize.ShloMosaic.ix0) i)

/-- The precondition, of the arguments in memory, gives what the launch asks of the tables. -/
theorem ok_of_pre (h : ∀ (c : Dev nD) (i : S288.Idx), ((m ((c : Thread nD τ).loc main_arg1) : S288.Idx → BitVec 32) i).toNat < 32) : Ok m :=
  ok_of_lt m fun n hn => by rw [word_eq m 0]; exact h 0 _

end Cert.ExpertsIdeal.Run

end
-- ==== Proof.Experts.Forms.lean ====
/- The row an expert computes, as a function of a row and the expert's weights. -/
module

public import Idealize.ShloMosaic.PureOps.Ideal

@[expose] public section

noncomputable section

open Idealize.ShloMosaic
open scoped BigOperators

namespace Cert.ExpertForms

/-- The column of the first weights that holds entry `j` of the gate (`p = 0`) or of the other half (`p = 1`). -/
def lane (p : Fin 2) (j : Fin 1024) : Fin 2048 := ⟨2 * j.val + p.val, by have := p.isLt; omega⟩

/-- An entry of a row after the first product. -/
def up (x : Fin 1024 → EReal) (w : Fin 1024 → Fin 2048 → EReal) (b : Fin 2048 → EReal) (p : Fin 2) (j : Fin 1024) : EReal :=
  (∑ k : Fin 1024, x k * w k (lane p j)) + b (lane p j)

/-- The gate cut off at seven, times its own logistic function, times the other half cut off at both sides and shifted by one. -/
def gated (u v : EReal) : EReal :=
  min u (Ideal.ofBits .f32 0x40E00000#32) * Ideal.logistic (Ideal.ofBits .f32 0x3FD9DB23#32 * min u (Ideal.ofBits .f32 0x40E00000#32))
    * (min (Ideal.ofBits .f32 0x40E00000#32) (max (Ideal.ofBits .f32 0xC0E00000#32) v) + 1)

/-- An entry of a row after the second product. -/
def row (x : Fin 1024 → EReal) (w : Fin 1024 → Fin 2048 → EReal) (b : Fin 2048 → EReal) (wd : Fin 1024 → Fin 1024 → EReal) (bd : Fin 1024 → EReal)
    (o : Fin 1024) : EReal :=
  (∑ j : Fin 1024, gated (up x w b 0 j) (up x w b 1 j) * wd j o) + bd o

theorem logistic_eq (u : EReal) : Ideal.div 1 (1 + Ideal.exp (-u)) = Ideal.logistic u := rfl

end Cert.ExpertForms

end
-- ==== Proof.Experts.Host.lean ====
/- The arrays the experts' kernel is launched on, entry by entry, from its arguments. -/
module

public import proofs.«01_k».proof.Proof.Experts.Tables
public import proofs.«01_k».proof.Proof.Experts.Forms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ExpertsProof

open Cert.ExpertsIdeal Cert.ExpertsIdeal.Gen Cert.ExpertsIdeal.Run Cert.ExpertForms

variable (m : (ℓ : Loc nD τ sig) → Buf (Elt Ideal) ℓ) (c : Dev nD)

theorem V_v0 : V m c main_v0 = shapeCast S32x1024x2048 (m ((c : Thread nD τ).loc main_arg3) : FVec Ideal S1x32x1024x2048 .f32) shapeCasts_S1x32x1024x2048_S32x1024x2048 := by
  show StableHlo.after hostOps0 (fun b => m (c, b)) (Proc.tc.devRef main_v0) = _
  after_results
  try rfl

theorem V_v3 : V m c main_v3 = broadcastInDim S32x1x1024 ![0, 2] bcast_S32x1024_S32x1x1024_0_2 (Host.slice S32x1024 ![0, 0] ![1, 2]
    (shapeCast S32x2048 (m ((c : Thread nD τ).loc main_arg4) : FVec Ideal S1x32x2048 .f32) shapeCasts_S1x32x2048_S32x2048) slicesBy_S32x2048_S32x1024_0s1_0s2) := by
  show StableHlo.after hostOps0 (fun b => m (c, b)) (Proc.tc.devRef main_v3) = _
  after_results
  try rfl

theorem V_v6 : V m c main_v6 = broadcastInDim S32x1x1024 ![0, 2] bcast_S32x1024_S32x1x1024_0_2 (Host.slice S32x1024 ![0, 1] ![1, 2]
    (shapeCast S32x2048 (m ((c : Thread nD τ).loc main_arg4) : FVec Ideal S1x32x2048 .f32) shapeCasts_S1x32x2048_S32x2048) slicesBy_S32x2048_S32x1024_0s1_1s2) := by
  show StableHlo.after hostOps0 (fun b => m (c, b)) (Proc.tc.devRef main_v6) = _
  after_results
  try rfl

theorem V_v7 : V m c main_v7 = shapeCast S32x1024x1024 (m ((c : Thread nD τ).loc main_arg5) : FVec Ideal S1x32x1024x1024 .f32) shapeCasts_S1x32x1024x1024_S32x1024x1024 := by
  show StableHlo.after hostOps0 (fun b => m (c, b)) (Proc.tc.devRef main_v7) = _
  after_results
  try rfl

theorem V_v9 : V m c main_v9 = broadcastInDim S32x1x1024 ![0, 2] bcast_S32x1024_S32x1x1024_0_2
    (shapeCast S32x1024 (m ((c : Thread nD τ).loc main_arg6) : FVec Ideal S1x32x1024 .f32) shapeCasts_S1x32x1024_S32x1024) := by
  show StableHlo.after hostOps0 (fun b => m (c, b)) (Proc.tc.devRef main_v9) = _
  after_results
  try rfl

variable (e : Fin 32)

theorem up_read (x : FVec Ideal S1x32x1024x2048 .f32) (k : Fin 1024) (j : Fin 2048) :
    shapeCast S32x1024x2048 x shapeCasts_S1x32x1024x2048_S32x1024x2048 (ix3 e k j) = x (ix4 0 e k j) := by
  pointwise

theorem up_weights (k : Fin 1024) (j : Fin 2048) : (V m c main_v0 : S32x1024x2048.Idx → EReal) (ix3 e k j)
    = (m ((c : Thread nD τ).loc main_arg3) : S1x32x1024x2048.Idx → EReal) (ix4 0 e k j) :=
  (congrFun (V_v0 m c) (ix3 e k j)).trans (up_read e _ k j)

theorem glu_read (x : FVec Ideal S1x32x2048 .f32) (j : Fin 1024) :
    broadcastInDim S32x1x1024 ![0, 2] bcast_S32x1024_S32x1x1024_0_2 (Host.slice S32x1024 ![0, 0] ![1, 2]
      (shapeCast S32x2048 x shapeCasts_S1x32x2048_S32x2048) slicesBy_S32x2048_S32x1024_0s1_0s2) (ix3 e 0 j) = x (ix3 0 e (lane 0 j)) := by
  pointwise [lane]

theorem glu_bias (j : Fin 1024) : (V m c main_v3 : S32x1x1024.Idx → EReal) (ix3 e 0 j)
    = (m ((c : Thread nD τ).loc main_arg4) : S1x32x2048.Idx → EReal) (ix3 0 e (lane 0 j)) :=
  (congrFun (V_v3 m c) (ix3 e 0 j)).trans (glu_read e _ j)

theorem lin_read (x : FVec Ideal S1x32x2048 .f32) (j : Fin 1024) :
    broadcastInDim S32x1x1024 ![0, 2] bcast_S32x1024_S32x1x1024_0_2 (Host.slice S32x1024 ![0, 1] ![1, 2]
      (shapeCast S32x2048 x shapeCasts_S1x32x2048_S32x2048) slicesBy_S32x2048_S32x1024_0s1_1s2) (ix3 e 0 j) = x (ix3 0 e (lane 1 j)) := by
  have h : lane 1 j = (⟨1 + 2 * j.val, by omega⟩ : Fin 2048) := Fin.ext (Nat.add_comm _ _)
  rw [h]
  pointwise

theorem lin_bias (j : Fin 1024) : (V m c main_v6 : S32x1x1024.Idx → EReal) (ix3 e 0 j)
    = (m ((c : Thread nD τ).loc main_arg4) : S1x32x2048.Idx → EReal) (ix3 0 e (lane 1 j)) :=
  (congrFun (V_v6 m c) (ix3 e 0 j)).trans (lin_read e _ j)

theorem down_read (x : FVec Ideal S1x32x1024x1024 .f32) (k o : Fin 1024) :
    shapeCast S32x1024x1024 x shapeCasts_S1x32x1024x1024_S32x1024x1024 (ix3 e k o) = x (ix4 0 e k o) := by
  pointwise

theorem down_weights (k o : Fin 1024) : (V m c main_v7 : S32x1024x1024.Idx → EReal) (ix3 e k o)
    = (m ((c : Thread nD τ).loc main_arg5) : S1x32x1024x1024.Idx → EReal) (ix4 0 e k o) :=
  (congrFun (V_v7 m c) (ix3 e k o)).trans (down_read e _ k o)

theorem bias_read (x : FVec Ideal S1x32x1024 .f32) (o : Fin 1024) :
    broadcastInDim S32x1x1024 ![0, 2] bcast_S32x1024_S32x1x1024_0_2 (shapeCast S32x1024 x shapeCasts_S1x32x1024_S32x1024) (ix3 e 0 o) = x (ix3 0 e o) := by
  pointwise

theorem down_bias (o : Fin 1024) : (V m c main_v9 : S32x1x1024.Idx → EReal) (ix3 e 0 o)
    = (m ((c : Thread nD τ).loc main_arg6) : S1x32x1024.Idx → EReal) (ix3 0 e o) :=
  (congrFun (V_v9 m c) (ix3 e 0 o)).trans (bias_read e _ o)

end Cert.ExpertsProof

end
-- ==== Proof.Experts.Block.lean ====
/- What a point of the experts' kernel leaves, entry by entry. -/
module

public import proofs.«01_k».proof.Proof.Experts.Body
public import proofs.«01_k».proof.Proof.Experts.Forms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ExpertsProof

open Cert.ExpertsIdeal Cert.ExpertsIdeal.Gen Cert.ExpertsIdeal.Run Cert.ExpertForms

variable (x0 : Vec Ideal S512x1024 .bf16) (x1 : Vec Ideal S1x1024x2048 .f32) (x2 x3 x5 : Vec Ideal S1x1x1024 .f32) (x4 : Vec Ideal S1x1024x1024 .f32)
  (r : Fin 512)

theorem turned_at (p : Fin 2) (j k : Fin 1024) : turned (F := Ideal) p x1 (ix2 j k) = x1 (ix3 0 k (lane p j)) := rfl

theorem second_at (j o : Fin 1024) : k0_pay2 (F := Ideal) x4 (ix2 j o) = x4 (ix3 0 j o) := by
  pointwise [k0_pay2]

theorem pay_at (wg wl wd : Vec Ideal S1024x1024 .bf16) (o : Fin 1024) : k0_pay217 (F := Ideal) x0 wg x2 wl x3 wd x5 (ix2 r o)
    = (∑ j : Fin 1024, gated ((∑ k : Fin 1024, x0 (ix2 r k) * wg (ix2 j k)) + x2 (ix3 0 0 j)) ((∑ k : Fin 1024, x0 (ix2 r k) * wl (ix2 j k)) + x3 (ix3 0 0 j)) * wd (ix2 j o))
      + x5 (ix3 0 0 o) := by
  unfold gated
  pointwise [k0_pay217]

theorem tile_at (b : Fin 2048 → EReal) (hb0 : ∀ j, x2 (ix3 0 0 j) = b (lane 0 j)) (hb1 : ∀ j, x3 (ix3 0 0 j) = b (lane 1 j)) (o : Fin 1024) :
    k0_pay217 (F := Ideal) x0 (turned 0 x1) x2 (turned 1 x1) x3 (k0_pay2 x4) x5 (ix2 r o)
      = row (fun k => x0 (ix2 r k)) (fun k j => x1 (ix3 0 k j)) b (fun j o => x4 (ix3 0 j o)) (fun o => x5 (ix3 0 0 o)) o := by
  rw [pay_at]
  simp only [turned_at, second_at, hb0, hb1]
  rfl

theorem zero_at (o : Fin 1024) : k0_pay3 (F := Ideal) (ix2 r o) = 0 := by
  pointwise [k0_pay3]

end Cert.ExpertsProof

end
-- ==== Proof.Experts.Ref.lean ====
/- What the experts' reference holds, entry by entry. -/
module

public import proofs.«01_k».proof.Proof.Gen.ExpertsRefIdeal.Read
public import proofs.«01_k».proof.Proof.Experts.Forms
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.ExpertsRefProof

open Cert.ExpertsRefIdeal Cert.ExpertsRefIdeal.Gen Cert.ExpertsRefIdeal.Read Cert.ExpertForms

/-- The expert a word of the table names, read signed and clamped into the range. -/
def named (w : BitVec 32) : Fin 32 := ⟨min w.toInt.toNat 31, by omega⟩

theorem named_eq (w : BitVec 32) (e : Fin 32) (h : w.toNat = e.val) : named w = e := by
  refine Fin.ext ?_
  have h1 : w.toInt = (w.toNat : ℤ) := BitVec.toInt_eq_toNat_of_lt (by have := e.isLt; omega)
  show min w.toInt.toNat 31 = e.val
  rw [h1]; have := e.isLt; omega

theorem take_up (x : S32x1024x2048.Idx → EReal) (i : IVec S288x1 32) (t : Fin 288) (k : Fin 1024) (j : Fin 2048) :
    Host.gather gather_S32x1024x2048_S288x1_S288x1024x2048_12_0_n_n_0_1_110242048 x i (ix3 t k j) = x (ix3 (named (i (ix2 t 0))) k j) := by
  unfold Host.gather
  refine congrArg x (funext fun a => Fin.ext ?_)
  show gather_S32x1024x2048_S288x1_S288x1024x2048_12_0_n_n_0_1_110242048.start (ix3 t k j) i a + gather_S32x1024x2048_S288x1_S288x1024x2048_12_0_n_n_0_1_110242048.batchCoord (ix3 t k j) a + gather_S32x1024x2048_S288x1_S288x1024x2048_12_0_n_n_0_1_110242048.offCoord (ix3 t k j) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x1024x2048_S288x1_S288x1024x2048_12_0_n_n_0_1_110242048.startIndexMap from List.mem_singleton.mpr rfl)]
    have hsi : gather_S32x1024x2048_S288x1_S288x1024x2048_12_0_n_n_0_1_110242048.siIdx (ix3 t k j) ⟨List.idxOf (0 : Fin 3) gather_S32x1024x2048_S288x1_S288x1024x2048_12_0_n_n_0_1_110242048.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · rw [show gather_S32x1024x2048_S288x1_S288x1024x2048_12_0_n_n_0_1_110242048.start (ix3 t k j) i 1 = 0 by
      unfold GatherDims.start; exact dif_neg (show ¬ ((1 : Fin 3) ∈ ([0] : List (Fin 3))) by decide), Nat.zero_add]
    unfold GatherDims.offCoord
    rw [dif_pos (show (1 : Fin 3) ∈ gather_S32x1024x2048_S288x1_S288x1024x2048_12_0_n_n_0_1_110242048.sKept by decide)]
    rfl
  · rw [show gather_S32x1024x2048_S288x1_S288x1024x2048_12_0_n_n_0_1_110242048.start (ix3 t k j) i 2 = 0 by
      unfold GatherDims.start; exact dif_neg (show ¬ ((2 : Fin 3) ∈ ([0] : List (Fin 3))) by decide), Nat.zero_add]
    unfold GatherDims.offCoord
    rw [dif_pos (show (2 : Fin 3) ∈ gather_S32x1024x2048_S288x1_S288x1024x2048_12_0_n_n_0_1_110242048.sKept by decide)]
    rfl

theorem take_bup (x : S32x2048.Idx → EReal) (i : IVec S288x1 32) (t : Fin 288) (j : Fin 2048) :
    Host.gather gather_S32x2048_S288x1_S288x2048_1_0_n_n_0_1_12048 x i (ix2 t j) = x (ix2 (named (i (ix2 t 0))) j) := by
  unfold Host.gather
  refine congrArg x (funext fun a => Fin.ext ?_)
  show gather_S32x2048_S288x1_S288x2048_1_0_n_n_0_1_12048.start (ix2 t j) i a + gather_S32x2048_S288x1_S288x2048_1_0_n_n_0_1_12048.batchCoord (ix2 t j) a + gather_S32x2048_S288x1_S288x2048_1_0_n_n_0_1_12048.offCoord (ix2 t j) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x2048_S288x1_S288x2048_1_0_n_n_0_1_12048.startIndexMap from List.mem_singleton.mpr rfl)]
    have hsi : gather_S32x2048_S288x1_S288x2048_1_0_n_n_0_1_12048.siIdx (ix2 t j) ⟨List.idxOf (0 : Fin 2) gather_S32x2048_S288x1_S288x2048_1_0_n_n_0_1_12048.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · rw [show gather_S32x2048_S288x1_S288x2048_1_0_n_n_0_1_12048.start (ix2 t j) i 1 = 0 by
      unfold GatherDims.start; exact dif_neg (show ¬ ((1 : Fin 2) ∈ ([0] : List (Fin 2))) by decide), Nat.zero_add]
    unfold GatherDims.offCoord
    rw [dif_pos (show (1 : Fin 2) ∈ gather_S32x2048_S288x1_S288x2048_1_0_n_n_0_1_12048.sKept by decide)]
    rfl

theorem take_down (x : S32x1024x1024.Idx → EReal) (i : IVec S288x1 32) (t : Fin 288) (k : Fin 1024) (j : Fin 1024) :
    Host.gather gather_S32x1024x1024_S288x1_S288x1024x1024_12_0_n_n_0_1_110241024 x i (ix3 t k j) = x (ix3 (named (i (ix2 t 0))) k j) := by
  unfold Host.gather
  refine congrArg x (funext fun a => Fin.ext ?_)
  show gather_S32x1024x1024_S288x1_S288x1024x1024_12_0_n_n_0_1_110241024.start (ix3 t k j) i a + gather_S32x1024x1024_S288x1_S288x1024x1024_12_0_n_n_0_1_110241024.batchCoord (ix3 t k j) a + gather_S32x1024x1024_S288x1_S288x1024x1024_12_0_n_n_0_1_110241024.offCoord (ix3 t k j) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x1024x1024_S288x1_S288x1024x1024_12_0_n_n_0_1_110241024.startIndexMap from List.mem_singleton.mpr rfl)]
    have hsi : gather_S32x1024x1024_S288x1_S288x1024x1024_12_0_n_n_0_1_110241024.siIdx (ix3 t k j) ⟨List.idxOf (0 : Fin 3) gather_S32x1024x1024_S288x1_S288x1024x1024_12_0_n_n_0_1_110241024.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · rw [show gather_S32x1024x1024_S288x1_S288x1024x1024_12_0_n_n_0_1_110241024.start (ix3 t k j) i 1 = 0 by
      unfold GatherDims.start; exact dif_neg (show ¬ ((1 : Fin 3) ∈ ([0] : List (Fin 3))) by decide), Nat.zero_add]
    unfold GatherDims.offCoord
    rw [dif_pos (show (1 : Fin 3) ∈ gather_S32x1024x1024_S288x1_S288x1024x1024_12_0_n_n_0_1_110241024.sKept by decide)]
    rfl
  · rw [show gather_S32x1024x1024_S288x1_S288x1024x1024_12_0_n_n_0_1_110241024.start (ix3 t k j) i 2 = 0 by
      unfold GatherDims.start; exact dif_neg (show ¬ ((2 : Fin 3) ∈ ([0] : List (Fin 3))) by decide), Nat.zero_add]
    unfold GatherDims.offCoord
    rw [dif_pos (show (2 : Fin 3) ∈ gather_S32x1024x1024_S288x1_S288x1024x1024_12_0_n_n_0_1_110241024.sKept by decide)]
    rfl

theorem take_bdown (x : S32x1024.Idx → EReal) (i : IVec S288x1 32) (t : Fin 288) (j : Fin 1024) :
    Host.gather gather_S32x1024_S288x1_S288x1024_1_0_n_n_0_1_11024 x i (ix2 t j) = x (ix2 (named (i (ix2 t 0))) j) := by
  unfold Host.gather
  refine congrArg x (funext fun a => Fin.ext ?_)
  show gather_S32x1024_S288x1_S288x1024_1_0_n_n_0_1_11024.start (ix2 t j) i a + gather_S32x1024_S288x1_S288x1024_1_0_n_n_0_1_11024.batchCoord (ix2 t j) a + gather_S32x1024_S288x1_S288x1024_1_0_n_n_0_1_11024.offCoord (ix2 t j) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x1024_S288x1_S288x1024_1_0_n_n_0_1_11024.startIndexMap from List.mem_singleton.mpr rfl)]
    have hsi : gather_S32x1024_S288x1_S288x1024_1_0_n_n_0_1_11024.siIdx (ix2 t j) ⟨List.idxOf (0 : Fin 2) gather_S32x1024_S288x1_S288x1024_1_0_n_n_0_1_11024.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · rw [show gather_S32x1024_S288x1_S288x1024_1_0_n_n_0_1_11024.start (ix2 t j) i 1 = 0 by
      unfold GatherDims.start; exact dif_neg (show ¬ ((1 : Fin 2) ∈ ([0] : List (Fin 2))) by decide), Nat.zero_add]
    unfold GatherDims.offCoord
    rw [dif_pos (show (1 : Fin 2) ∈ gather_S32x1024_S288x1_S288x1024_1_0_n_n_0_1_11024.sKept by decide)]
    rfl

/-- A word that is no negative number is left as it is. -/
theorem wrap (w : BitVec 32) (h : w.toNat < 32) : Scalar.select (IntOp.cmpi .slt w 0#32) (IntOp.addi w 32#32) w = w := by
  have h1 : IntOp.cmpi .slt w 0#32 = 0#1 := by
    rw [WordCmp.cmpi_slt_zero, decide_eq_false (by omega)]; rfl
  rw [h1]; rfl

section

variable (x0 : FVec Ideal S147456x1024 .bf16) (x1 : IVec S288 32) (x2 : IVec S1 32) (x3 : FVec Ideal S1x32x1024x2048 .f32)
  (x4 : FVec Ideal S1x32x2048 .f32) (x5 : FVec Ideal S1x32x1024x1024 .f32) (x6 : FVec Ideal S1x32x1024 .f32)
  (t : Fin 288) (e : Fin 32) (he : (x1 (ix1 t)).toNat = e.val)

include he

theorem i11_at : val_main_v11 (F := Ideal) x1 (ix2 t 0) = x1 (ix1 t) := by
  refine Eq.trans ?_ (wrap (x1 (ix1 t)) (by omega))
  pointwise [val_main_v11, val_main_v10, val_main_v9, val_main_v8, val_main_v7, val_main_v6, val_main_c, val_main_c_0]

theorem i18_at : val_main_v18 (F := Ideal) x1 (ix2 t 0) = x1 (ix1 t) := i11_at x1 t e he
theorem i25_at : val_main_v25 (F := Ideal) x1 (ix2 t 0) = x1 (ix1 t) := i11_at x1 t e he
theorem i32_at : val_main_v32 (F := Ideal) x1 (ix2 t 0) = x1 (ix1 t) := i11_at x1 t e he

theorem wup_at (k : Fin 1024) (j : Fin 2048) : val_main_v12 (F := Ideal) x1 x3 (ix3 t k j) = x3 (ix4 0 e k j) := by
  refine (take_up _ _ t k j).trans ?_
  rw [i11_at x1 t e he, named_eq _ e he]
  pointwise [val_main_v0]

theorem bup_at (j : Fin 2048) : val_main_v19 (F := Ideal) x1 x4 (ix2 t j) = x4 (ix3 0 e j) := by
  refine (take_bup _ _ t j).trans ?_
  rw [i18_at x1 t e he, named_eq _ e he]
  pointwise [val_main_v1]

theorem wdown_at (k : Fin 1024) (j : Fin 1024) : val_main_v26 (F := Ideal) x1 x5 (ix3 t k j) = x5 (ix4 0 e k j) := by
  refine (take_down _ _ t k j).trans ?_
  rw [i25_at x1 t e he, named_eq _ e he]
  pointwise [val_main_v2]

theorem bdown_at (j : Fin 1024) : val_main_v33 (F := Ideal) x1 x6 (ix2 t j) = x6 (ix3 0 e j) := by
  refine (take_bdown _ _ t j).trans ?_
  rw [i32_at x1 t e he, named_eq _ e he]
  pointwise [val_main_v3]

theorem up_at (r : Fin 512) (p : Fin 2) (j : Fin 1024) : val_main_v37 (F := Ideal) x0 x1 x3 x4 (ix3 t r (lane p j))
    = up (fun k => x0 (ix2 ⟨t.val * 512 + r.val, by omega⟩ k)) (fun k j => x3 (ix4 0 e k j)) (fun j => x4 (ix3 0 e j)) p j := by
  have h : val_main_v37 (F := Ideal) x0 x1 x3 x4 (ix3 t r (lane p j))
      = (∑ k : Fin 1024, x0 (ix2 ⟨t.val * 512 + r.val, by omega⟩ k) * val_main_v12 (F := Ideal) x1 x3 (ix3 t k (lane p j)))
        + val_main_v19 (F := Ideal) x1 x4 (ix2 t (lane p j)) := by
    generalize lane p j = l
    pointwise [val_main_v37, val_main_v36, val_main_v35, val_main_v34, val_main_v5, val_main_v4]
  rw [h, bup_at x1 x4 t e he]
  simp only [wup_at x1 x3 t e he]
  rfl

omit he in
theorem even_at (r : Fin 512) (j : Fin 1024) : val_main_v38 (F := Ideal) x0 x1 x3 x4 (ix3 t r j) = val_main_v37 (F := Ideal) x0 x1 x3 x4 (ix3 t r (lane 0 j)) := by
  unfold val_main_v38
  refine congrArg (val_main_v37 (F := Ideal) x0 x1 x3 x4) (funext fun a => Fin.ext ?_)
  match a with
  | ⟨0, _⟩ => show 0 + 1 * t.val = t.val; omega
  | ⟨1, _⟩ => show 0 + 1 * r.val = r.val; omega
  | ⟨2, _⟩ => show 0 + 2 * j.val = 2 * j.val + 0; omega

omit he in
theorem odd_at (r : Fin 512) (j : Fin 1024) : val_main_v41 (F := Ideal) x0 x1 x3 x4 (ix3 t r j) = val_main_v37 (F := Ideal) x0 x1 x3 x4 (ix3 t r (lane 1 j)) := by
  unfold val_main_v41
  refine congrArg (val_main_v37 (F := Ideal) x0 x1 x3 x4) (funext fun a => Fin.ext ?_)
  match a with
  | ⟨0, _⟩ => show 0 + 1 * t.val = t.val; omega
  | ⟨1, _⟩ => show 0 + 1 * r.val = r.val; omega
  | ⟨2, _⟩ => show 1 + 2 * j.val = 2 * j.val + 1; omega

omit he in
theorem clip_at (r : Fin 512) (j : Fin 1024) : val_main_v42 (F := Ideal) x0 x1 x3 x4 (ix3 t r j)
    = min (Ideal.ofBits .f32 0x40E00000#32) (max (Ideal.ofBits .f32 0xC0E00000#32) (val_main_v41 (F := Ideal) x0 x1 x3 x4 (ix3 t r j))) := by
  unfold val_main_v42 val_main_call0_v2
  rfl

omit he in
theorem gated_at (r : Fin 512) (j : Fin 1024) : val_main_v54 (F := Ideal) x0 x1 x3 x4 (ix3 t r j)
    = gated (val_main_v37 (F := Ideal) x0 x1 x3 x4 (ix3 t r (lane 0 j))) (val_main_v37 (F := Ideal) x0 x1 x3 x4 (ix3 t r (lane 1 j))) := by
  unfold gated
  rw [← logistic_eq, ← even_at x0 x1 x3 x4 t, ← odd_at x0 x1 x3 x4 t, ← clip_at x0 x1 x3 x4 t]
  pointwise [val_main_v54, val_main_v53, val_main_v52, val_main_v51, val_main_v50, val_main_v49, val_main_v48, val_main_v47, val_main_v46, val_main_v45,
    val_main_v44, val_main_v43, val_main_v40, val_main_v39, val_main_cst, val_main_cst_9, val_main_cst_10, val_main_cst_11, val_main_cst_12]

theorem row_at (r : Fin 512) (o : Fin 1024) : val_main_v58 (F := Ideal) x0 x1 x3 x4 x5 x6 (ix3 t r o)
    = row (fun k => x0 (ix2 ⟨t.val * 512 + r.val, by omega⟩ k)) (fun k j => x3 (ix4 0 e k j)) (fun j => x4 (ix3 0 e j)) (fun k j => x5 (ix4 0 e k j))
        (fun j => x6 (ix3 0 e j)) o := by
  have h : val_main_v58 (F := Ideal) x0 x1 x3 x4 x5 x6 (ix3 t r o)
      = (∑ k : Fin 1024, val_main_v54 (F := Ideal) x0 x1 x3 x4 (ix3 t r k) * val_main_v26 (F := Ideal) x1 x5 (ix3 t k o))
        + val_main_v33 (F := Ideal) x1 x6 (ix2 t o) := by
    pointwise [val_main_v58, val_main_v57, val_main_v56, val_main_v55]
  rw [h, bdown_at x1 x6 t e he]
  simp only [wdown_at x1 x5 t e he, gated_at x0 x1 x3 x4 t, up_at x0 x1 x3 x4 t e he]
  rfl

theorem result_at (r : Fin 512) (o : Fin 1024) : val_main_v65 (F := Ideal) x0 x1 x2 x3 x4 x5 x6 (ix2 ⟨t.val * 512 + r.val, by omega⟩ o)
    = if IntOp.cmpi .slt (BitVec.ofNat 32 t.val) (x2 (ix1 0)) = 1#1 then
        row (fun k => x0 (ix2 ⟨t.val * 512 + r.val, by omega⟩ k)) (fun k j => x3 (ix4 0 e k j)) (fun j => x4 (ix3 0 e j)) (fun k j => x5 (ix4 0 e k j))
          (fun j => x6 (ix3 0 e j)) o
      else 0 := by
  have h : val_main_v65 (F := Ideal) x0 x1 x2 x3 x4 x5 x6 (ix2 ⟨t.val * 512 + r.val, by omega⟩ o)
      = if IntOp.cmpi .slt (BitVec.ofNat 32 t.val) (x2 (ix1 0)) = 1#1 then val_main_v58 (F := Ideal) x0 x1 x3 x4 x5 x6 (ix3 t r o) else 0 := by
    have z : val_main_call1_v2 (F := Ideal) (ix3 t r o) = 0 := by
      unfold val_main_call1_v2
      exact Ideal.ofBits_zero_f32
    rw [← z]
    pointwise [val_main_v65, val_main_v64, val_main_v63, val_main_v62, val_main_v61, val_main_v60, val_main_v59, val_main_call1_v1, Scalar.select]
    rfl
  rw [h, row_at x0 x1 x3 x4 x5 x6 t e he]

end

end Cert.ExpertsRefProof

end
-- ==== Proof.Experts.Value.lean ====
/- The array the experts' kernel leaves is the reference's. -/
module

public import proofs.«01_k».proof.Proof.Experts.Frame
public import proofs.«01_k».proof.Proof.Experts.Host
public import proofs.«01_k».proof.Proof.Experts.Block
public import proofs.«01_k».proof.Proof.Experts.Ref
public import Idealize.ShloMosaic.Lib.Pipeline.Covers

@[expose] public section

set_option maxRecDepth 16384

noncomputable section

open Idealize.ShloMosaic Idealize.ShloMosaic.TcCoe Idealize.SL.Sem
open scoped BigOperators

namespace Cert.ExpertsProof

open Cert.ExpertsIdeal Cert.ExpertsIdeal.Gen Cert.ExpertsIdeal.Run Cert.ExpertForms Cert.ExpertsRefProof

variable (m : (ℓ : Loc nD τ sig) → Buf (Elt Ideal) ℓ) (hO : Ok m) (c : Dev nD)

theorem cond2_bit : ∀ b : BitVec 1, Scalar.cmpi .ne (Scalar.extui b : BitVec 32) 0#32 = b := by decide +kernel

/-- A tile is computed where its number is below the count of tiles in use. -/
theorem cond2_eq (t : Fin grid0.N) (w : BitVec 32) : k0_cond2 (grid0.coords t) w = IntOp.cmpi .slt (BitVec.ofNat 32 t.val) w := by
  refine (cond2_bit (Scalar.cmpi .slt (BitVec.ofNat 32 (grid0.coords t 0).val) w)).trans ?_
  rw [coords_val]; rfl

/-- The reference's array, of the arguments in memory. -/
abbrev out : FVec Ideal S147456x1024 .bf16 :=
  Cert.ExpertsRefIdeal.Read.val_main_v65 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem tile_lt (t : Fin grid0.N) : t.val < 288 := lt_of_lt_of_eq t.isLt N_0

theorem expert_val (t : Fin grid0.N) : ((m ((c : Thread nD τ).loc main_arg1) : S288.Idx → BitVec 32) (ix1 ⟨t.val, tile_lt t⟩)).toNat
    = (expert m hO (grid0.coords t)).val := by
  rw [← word_eq m c t.val (tile_lt t)]
  show _ = (word m (grid0.coords t 0).val _).toNat
  congr 2
  exact (coords_val t).symm

theorem leaves_at (t : Fin grid0.N) (r : Fin 512) (o : Fin 1024) : (leaves m hO c t : S512x1024.Idx → EReal) (ix2 r o)
    = out m c (ix2 ⟨t.val * 512 + r.val, by have := tile_lt t; omega⟩ o) := by
  refine Eq.trans ?_ (result_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    ⟨t.val, tile_lt t⟩ (expert m hO (grid0.coords t)) (expert_val m hO c t) r o).symm
  unfold leaves tileOut
  rw [cond2_eq, used_eq m c]
  by_cases h : IntOp.cmpi .slt (BitVec.ofNat 32 t.val) ((m ((c : Thread nD τ).loc main_arg2) : S1.Idx → BitVec 32) (ix1 0)) = 1#1
  · rw [if_pos h, if_pos h]
    unfold heldGlu heldLin heldDown
    rw [iblk_up, iblk_bglu, iblk_blin, iblk_down, iblk_bdown, iblk_rows]
    refine (tile_at _ _ _ _ _ _ r (fun j => (m ((c : Thread nD τ).loc main_arg4) : S1x32x2048.Idx → EReal) (ix3 0 (expert m hO (grid0.coords t)) j))
      (fun j => glu_bias m c _ j) (fun j => lin_bias m c _ j) o).trans ?_
    congr 1
    · exact funext fun k => funext fun j => up_weights m c _ k j
    · exact funext fun k => funext fun j => down_weights m c _ k j
    · exact funext fun k => down_bias m c _ k
  · rw [if_neg h, if_neg h]
    exact zero_at r o

/-- The block of the output at a point is the point's tile. -/
theorem index_6 (t : Fin (cfgM m hO).N) : ((cfgM m hO).win 6).index t = ![t.val, 0] := by
  have e : (BitVec.ofNat 32 (grid0.coords t 0).val).toNat = t.val := by
    rw [coords_val]; exact Nat.mod_eq_of_lt (by have := tile_lt t; omega)
  show cc0_transform_6 (grid0.coords t) = ![t.val, 0]
  funext a
  match a with
  | ⟨0, _⟩ => exact e
  | ⟨1, _⟩ => rfl

theorem covers : ((cfgM m hO).win 6).Covers := by
  refine ⟨fun a => ?_, fun β => ?_⟩
  · match a with
    | ⟨0, _⟩ => show 0 < 512; omega
    | ⟨1, _⟩ => show 0 < 1024; omega
  · have h0 : (β (0 : Fin 2)).val < (147456 + 512 - 1) / 512 := (β (0 : Fin 2)).isLt
    have h0' : (β (0 : Fin 2)).val < 288 := by omega
    have h1 : (β (1 : Fin 2)).val < (1024 + 1024 - 1) / 1024 := (β (1 : Fin 2)).isLt
    obtain ⟨t, _, hf, ht⟩ := Pipeline.Window.exists_flush_same_index ((cfgM m hO).win 6) rfl (⟨(β (0 : Fin 2)).val, lt_of_lt_of_eq h0' N_0.symm⟩ : Fin (cfgM m hO).N)
    refine ⟨t, hf, fun a => ⟨?_, Or.inl rfl⟩⟩
    rw [ht, index_6]
    match a with
    | ⟨0, _⟩ => rfl
    | ⟨1, _⟩ => show 0 = (β (1 : Fin 2)).val; omega

theorem emb_6 (t : Fin (cfgM m hO).N) (y : S512x1024.Idx) : ((((cfgM m hO).win 6).blk t).view.emb y : S147456x1024.Idx)
    = ix2 ⟨t.val * 512 + (y 0).val, by have := tile_lt t; have h : (y 0).val < 512 := (y 0).isLt; omega⟩ (y 1) := by
  have e : (BitVec.ofNat 32 (grid0.coords t 0).val).toNat = t.val := by
    rw [coords_val]; exact Nat.mod_eq_of_lt (by have := tile_lt t; omega)
  refine funext fun d => Fin.ext ?_
  match d with
  | ⟨0, _⟩ =>
    show (BitVec.ofNat 32 (grid0.coords t 0).val).toNat * 512 + 1 * (y 0).val = t.val * 512 + (y 0).val
    rw [e]; omega
  | ⟨1, _⟩ => show 0 * 1024 + 1 * (y 1).val = (y 1).val; omega

theorem eq_ix2 (y : S512x1024.Idx) : y = ix2 (y 0) (y 1) :=
  funext fun a => match a with | ⟨0, _⟩ => rfl | ⟨1, _⟩ => rfl

theorem point (t : Fin (cfgM m hO).N) (y : S512x1024.Idx) : (leaves m hO c t : S512x1024.Idx → EReal) y
    = out m c ((((cfgM m hO).win 6).blk t).view.emb y) :=
  ((congrArg (leaves m hO c t : S512x1024.Idx → EReal) (eq_ix2 y)).trans (leaves_at m hO c t (y 0) (y 1))).trans (congrArg (out m c) (emb_6 m hO t y)).symm

theorem final : (dats m hO 0 c).arrAt 6 (cfgM m hO).N = out m c :=
  (dats m hO 0 c).arrAt_eq_of_covers 6 _ (covers m hO) fun t _ y =>
    (congrFun (after_6 m hO c t) y).trans (point m hO c t y)

end Cert.ExpertsProof

end
-- ==== Proof.Experts.Claim.lean ====
/- The experts against their reference, as stated. -/
module

public import proofs.«01_k».proof.Defs
public import proofs.«01_k».proof.Proof.Experts.Value
public import proofs.«01_k».proof.Proof.Gen.ExpertsRefIdeal.Run
public import Idealize.ShloMosaic.Lib.Claim

@[expose] public section

set_option maxRecDepth 16384

noncomputable section

open Idealize.ShloMosaic Idealize.ShloMosaic.TcCoe Idealize.SL.Sem

namespace Cert.ExpertsProof

open Cert.ExpertsIdeal.Run

theorem ok (m : (ℓ : Loc ExpertsIdeal.nD ExpertsIdeal.τ ExpertsIdeal.sig) → Buf (Elt Ideal) ℓ)
    (h : Cert.Pre_ExpertsIdeal (hPre_expert_tables := Cert.Pre_expert_tables.Gen.facts) m) : Ok m :=
  ok_of_pre m fun c i => pre_lt _ _ _ _ _ _ _ (h c) i

theorem frame : Cert.quiescent_ExpertsIdeal (hExpertsIdeal := Cert.ExpertsIdeal.Gen.facts) (hPre_expert_tables := Cert.Pre_expert_tables.Gen.facts) :=
  fun m ρ h => (θ_run ExpertsIdeal.defs _ _).mono (fun _ h => ⟨fun c => (h.1 c).2, h.2⟩) (ends m ρ (ok m h))

set_option maxHeartbeats 3200000 in
theorem algebraic : Cert.algebraic_ExpertsIdeal_ExpertsRefIdeal (hExpertsIdeal := Cert.ExpertsIdeal.Gen.facts)
    (hExpertsRefIdeal := Cert.ExpertsRefIdeal.Gen.facts) (hPre_expert_tables := Cert.Pre_expert_tables.Gen.facts) := by
  intro m g m' g' hpre hagree
  refine ⟨fun c => (dats m (ok m hpre) 0 c).arrAt 6 (cfgM m (ok m hpre)).N, ?_, ?_⟩
  · exact Idealize.ShloMosaic.θ_run_mono (ends m g (ok m hpre)) fun r h c => h.1 c
  · refine Idealize.ShloMosaic.θ_run_mono (Cert.ExpertsRefIdeal.Value.run m' g') ?_
    intro r h c
    obtain ⟨a0, a1, a2, a3, a4, a5, a6⟩ := hagree c
    obtain ⟨r0, rest⟩ := h c
    refine ⟨r0.trans ?_, rest⟩
    rw [Cert.ExpertsRefIdeal.Read.val_main_v65_eq, a0, a1, a2, a3, a4, a5, a6]
    exact (final m (ok m hpre) c).symm

end Cert.ExpertsProof

end
-- ==== Proof.ExpertsBits.Claim.lean ====
/- The frame of the experts over machine words, as stated. -/
module

public import proofs.«01_k».proof.Defs
public import proofs.«01_k».proof.Proof.ExpertsBits.Frame
public import proofs.«01_k».proof.Proof.ExpertsBits.Tables
public import Idealize.ShloMosaic.Lib.Claim

@[expose] public section

set_option maxRecDepth 16384

noncomputable section

open Idealize.ShloMosaic Idealize.ShloMosaic.TcCoe Idealize.SL.Sem

namespace Cert.ExpertsBitsProof

open Cert.Experts.Run

theorem ok (m : (ℓ : Loc Experts.nD Experts.τ Experts.sig) → Buf (Elt Bits) ℓ)
    (h : Cert.Pre_Experts (hPre_expert_tables := Cert.Pre_expert_tables.Gen.facts) m) : Ok m :=
  ok_of_pre m fun c i => pre_lt _ _ _ _ _ _ _ (h c) i

theorem frame : Cert.quiescent_Experts (hExperts := Cert.Experts.Gen.facts) (hPre_expert_tables := Cert.Pre_expert_tables.Gen.facts) :=
  fun m ρ h => (θ_run Experts.defs _ _).mono (fun _ h => ⟨fun c => (h.1 c).2, h.2⟩) (ends m ρ (ok m h))

end Cert.ExpertsBitsProof

end
-- ==== Proof.lean ====
/- The claims, assembled. -/
module

public import proofs.«01_k».proof.Defs
public import proofs.«01_k».proof.Proof.Gen.GlaSample
public import proofs.«01_k».proof.Proof.Gen.GlaSample.Skeleton
public import proofs.«01_k».proof.Proof.Gen.GlaSample.Launch
public import proofs.«01_k».proof.Proof.Gen.GlaSample.Points
public import proofs.«01_k».proof.Proof.Gen.GlaSample.Frame
public import proofs.«01_k».proof.Proof.Gen.GlaSampleIdeal
public import proofs.«01_k».proof.Proof.Gen.GlaSampleIdeal.Skeleton
public import proofs.«01_k».proof.Proof.Gen.GlaSampleIdeal.Launch
public import proofs.«01_k».proof.Proof.Gen.GlaSampleIdeal.Points
public import proofs.«01_k».proof.Proof.Gen.GlaSampleIdeal.Frame
public import proofs.«01_k».proof.Proof.Gen.GlaSampleRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Pre_finite_inputs
public import proofs.«01_k».proof.Proof.Gen.GlaSampleIdeal.Value
public import proofs.«01_k».proof.Proof.Gen.GlaSampleRefIdeal.Run
public import proofs.«01_k».proof.Proof.Gen.GlaSampleRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.CombineIdeal.Value
public import proofs.«01_k».proof.Proof.Gen.CombineRefIdeal.Run
public import proofs.«01_k».proof.Proof.Gen.CombineRefIdeal.Read
public import proofs.«01_k».proof.Proof.Gen.CombineS
public import proofs.«01_k».proof.Proof.Gen.CombineS.Skeleton
public import proofs.«01_k».proof.Proof.Gen.CombineS.Launch
public import proofs.«01_k».proof.Proof.Gen.CombineS.Points
public import proofs.«01_k».proof.Proof.Gen.CombineS.Frame
public import proofs.«01_k».proof.Proof.Gen.CombineSIdeal
public import proofs.«01_k».proof.Proof.Gen.CombineSIdeal.Skeleton
public import proofs.«01_k».proof.Proof.Gen.CombineSIdeal.Launch
public import proofs.«01_k».proof.Proof.Gen.CombineSIdeal.Points
public import proofs.«01_k».proof.Proof.Gen.CombineSIdeal.Frame
public import proofs.«01_k».proof.Proof.Gen.CombineSRefIdeal
public import proofs.«01_k».proof.Proof.Gen.CombineSIdeal.Value
public import proofs.«01_k».proof.Proof.Gen.CombineSRefIdeal.Run
public import proofs.«01_k».proof.Proof.Gen.CombineSRefIdeal.Read
public import proofs.«01_k».proof.Proof.Gla.Claim
public import proofs.«01_k».proof.Proof.Proj.Claim
public import proofs.«01_k».proof.Proof.ProjS.Claim
public import proofs.«01_k».proof.Proof.Merge.Claim
public import proofs.«01_k».proof.Proof.CombineClaim
public import proofs.«01_k».proof.Proof.CombineSClaim
public import proofs.«01_k».proof.Proof.Experts.Claim
public import proofs.«01_k».proof.Proof.ExpertsBits.Claim
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_expert_tables
public import Idealize.ShloMosaic.Adequacy
public import Idealize.ShloMosaic.Init

@[expose] public section

noncomputable section

namespace Cert.Proof

open Idealize.ShloMosaic Idealize.SL.Sem

theorem ref_GlaSample : Cert.quiescent_GlaSampleRefIdeal (hGlaSampleRefIdeal := Cert.GlaSampleRefIdeal.Gen.facts) := fun m ρ _ =>
  (θ_run Cert.GlaSampleRefIdeal.defs _ _).mono (fun r h => ⟨fun c => (h c).2.2, sem_eq_zero_of_no_sems (by decide) r.2⟩)
    (Cert.GlaSampleRefIdeal.Value.run m ρ)

theorem ref_Proj : Cert.quiescent_ProjRefIdeal (hProjRefIdeal := Cert.ProjRefIdeal.Gen.facts) := fun m ρ _ =>
  (θ_run Cert.ProjRefIdeal.defs _ _).mono (fun r h => ⟨fun c => (h c).2.2.2.2.2.2.2.2, sem_eq_zero_of_no_sems (by decide) r.2⟩)
    (Cert.ProjRefIdeal.Value.run m ρ)

theorem ref_ProjS : Cert.quiescent_ProjSRefIdeal (hProjSRefIdeal := Cert.ProjSRefIdeal.Gen.facts) := fun m ρ _ =>
  (θ_run Cert.ProjSRefIdeal.defs _ _).mono (fun r h => ⟨fun c => (h c).2.2.2.2.2.2.2.2, sem_eq_zero_of_no_sems (by decide) r.2⟩)
    (Cert.ProjSRefIdeal.Value.run m ρ)

theorem ref_Merge : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩)
    (Cert.MergeRefIdeal.Value.run m ρ)

theorem ref_Combine : Cert.quiescent_CombineRefIdeal (hCombineRefIdeal := Cert.CombineRefIdeal.Gen.facts) := fun m ρ _ =>
  (θ_run Cert.CombineRefIdeal.defs _ _).mono (fun r h => ⟨fun c => (h c).2, sem_eq_zero_of_no_sems (by decide) r.2⟩)
    (Cert.CombineRefIdeal.Value.run m ρ)

theorem ref_CombineS : Cert.quiescent_CombineSRefIdeal (hCombineSRefIdeal := Cert.CombineSRefIdeal.Gen.facts) := fun m ρ _ =>
  (θ_run Cert.CombineSRefIdeal.defs _ _).mono (fun r h => ⟨fun c => (h c).2, sem_eq_zero_of_no_sems (by decide) r.2⟩)
    (Cert.CombineSRefIdeal.Value.run m ρ)

theorem ref_Experts : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩)
    (Cert.ExpertsRefIdeal.Value.run m ρ)

theorem claim : Cert.Claim := ⟨Cert.GlaSample.Gen.facts, Cert.GlaSampleIdeal.Gen.facts, Cert.GlaSampleRefIdeal.Gen.facts, Cert.Proj.Gen.facts, Cert.ProjIdeal.Gen.facts, Cert.ProjRefIdeal.Gen.facts, Cert.ProjS.Gen.facts, Cert.ProjSIdeal.Gen.facts, Cert.ProjSRefIdeal.Gen.facts, Cert.Merge.Gen.facts, Cert.MergeIdeal.Gen.facts, Cert.MergeRefIdeal.Gen.facts, Cert.Combine.Gen.facts, Cert.CombineIdeal.Gen.facts, Cert.CombineRefIdeal.Gen.facts, Cert.CombineS.Gen.facts, Cert.CombineSIdeal.Gen.facts, Cert.CombineSRefIdeal.Gen.facts, Cert.Experts.Gen.facts, Cert.ExpertsIdeal.Gen.facts, Cert.ExpertsRefIdeal.Gen.facts, Cert.Pre_finite_inputs.Gen.facts, Cert.Pre_expert_tables.Gen.facts,
  fun m ρ _ => Cert.GlaSample.Gen.frame m ρ,
  fun m ρ _ => Cert.GlaSampleIdeal.Gen.frame m ρ,
  fun m ρ _ => Cert.GlaSampleIdeal.Gen.frame m ρ,
  ref_GlaSample,
  fun m ρ _ => ref_GlaSample m ρ trivial,
  fun m ρ _ => Cert.Proj.Gen.frame m ρ,
  fun m ρ _ => Cert.ProjIdeal.Gen.frame m ρ,
  ref_Proj,
  fun m ρ _ => Cert.ProjS.Gen.frame m ρ,
  fun m ρ _ => Cert.ProjSIdeal.Gen.frame m ρ,
  ref_ProjS,
  fun m ρ _ => Cert.Merge.Gen.frame m ρ,
  fun m ρ _ => Cert.MergeIdeal.Gen.frame m ρ,
  ref_Merge,
  fun m ρ _ => Cert.Combine.Gen.frame m ρ,
  fun m ρ _ => Cert.CombineIdeal.Gen.frame m ρ,
  ref_Combine,
  fun m ρ _ => Cert.CombineS.Gen.frame m ρ,
  fun m ρ _ => Cert.CombineSIdeal.Gen.frame m ρ,
  ref_CombineS,
  Cert.ExpertsBitsProof.frame,
  Cert.ExpertsProof.frame,
  ref_Experts,
  fun m ρ _ => ref_Experts m ρ trivial,
  trivial, Cert.GlaProof.algebraic, trivial, Cert.ProjProof.algebraic, trivial, Cert.ProjSProof.algebraic, trivial, Cert.MergeProof.algebraic, trivial, Cert.CombineProof.algebraic, trivial, Cert.CombineSProof.algebraic, trivial, Cert.ExpertsProof.algebraic⟩

end Cert.Proof

end
